-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x4x131072x256 : Shape := ⟨4, ![2, 4, 131072, 256]⟩
abbrev S2x4 : Shape := ⟨2, ![2, 4]⟩
abbrev S2x1x131072x256 : Shape := ⟨4, ![2, 1, 131072, 256]⟩
abbrev S2x1 : Shape := ⟨2, ![2, 1]⟩
abbrev S_ : Shape := ⟨0, ![]⟩

class Facts : Prop where
  bcast_S_S2x4x131072x256 : S_.BroadcastsInDim S2x4x131072x256 (![] : Fin 0 → Fin S2x4x131072x256.rank)
  reducesTo_S2x4x131072x256_S_d0_1_2_3 : S2x4x131072x256.ReducesTo [0, 1, 2, 3] S_
  h_S_ : 0 < S_.numel
  bcast_S_S2x1x131072x256 : S_.BroadcastsInDim S2x1x131072x256 (![] : Fin 0 → Fin S2x1x131072x256.rank)
  reducesTo_S2x1x131072x256_S_d0_1_2_3 : S2x1x131072x256.ReducesTo [0, 1, 2, 3] S_
  bcast_S_S2x4 : S_.BroadcastsInDim S2x4 (![] : Fin 0 → Fin S2x4.rank)
  reducesTo_S2x4_S_d0_1 : S2x4.ReducesTo [0, 1] S_
  bcast_S_S2x1 : S_.BroadcastsInDim S2x1 (![] : Fin 0 → Fin S2x1.rank)
  reducesTo_S2x1_S_d0_1 : S2x1.ReducesTo [0, 1] S_

variable [Facts]

def fn_part1 {F : FTy → Type} [FloatOps F] (main_arg3 : FVec F S2x1 .f32) (main_v5 : IVec S_ 1) (main_v11 : IVec S_ 1) (main_v15 : IVec S_ 1) : IVec S_ 1 :=
  let main_v16 : FVec F S2x1 .f32 := Host.absf main_arg3
  let main_cst_6 : FVec F S_ .f32 := constant S_ .f32 0x7F800000#32
  let main_v17 : FVec F S2x1 .f32 := broadcastInDim S2x1 ![] bcast_S_S2x1 main_cst_6
  let main_v18 : IVec S2x1 1 := cmpf .olt main_v16 main_v17
  let main_c_7 : IVec S_ 1 := constantI S_ 1 1#1
  let main_v19 : IVec S_ 1 := (fun x v => Host.reduce IntOp.andi x v reducesTo_S2x1_S_d0_1 h_S_) main_v18 main_c_7
  let main_v20 : IVec S_ 1 := andi main_v5 main_v11
  let main_v21 : IVec S_ 1 := andi main_v20 main_v15
  let main_v22 : IVec S_ 1 := andi main_v21 main_v19
  main_v22

def fn {F : FTy → Type} [FloatOps F] (main_arg0 : IVec S2x4x131072x256 8) (main_arg1 : FVec F S2x4 .f32) (main_arg2 : IVec S2x1x131072x256 8) (main_arg3 : FVec F S2x1 .f32) : IVec S_ 1 :=
  let main_c : IVec S_ 8 := constantI S_ 8 127#8
  let main_v0 : IVec S2x4x131072x256 8 := broadcastInDim S2x4x131072x256 ![] bcast_S_S2x4x131072x256 main_c
  let main_v1 : IVec S2x4x131072x256 1 := cmpi .ne main_arg0 main_v0
  let main_c_0 : IVec S_ 8 := constantI S_ 8 255#8
  let main_v2 : IVec S2x4x131072x256 8 := broadcastInDim S2x4x131072x256 ![] bcast_S_S2x4x131072x256 main_c_0
  let main_v3 : IVec S2x4x131072x256 1 := cmpi .ne main_arg0 main_v2
  let main_v4 : IVec S2x4x131072x256 1 := andi main_v1 main_v3
  let main_c_1 : IVec S_ 1 := constantI S_ 1 1#1
  let main_v5 : IVec S_ 1 := (fun x v => Host.reduce IntOp.andi x v reducesTo_S2x4x131072x256_S_d0_1_2_3 h_S_) main_v4 main_c_1
  let main_c_2 : IVec S_ 8 := constantI S_ 8 127#8
  let main_v6 : IVec S2x1x131072x256 8 := broadcastInDim S2x1x131072x256 ![] bcast_S_S2x1x131072x256 main_c_2
  let main_v7 : IVec S2x1x131072x256 1 := cmpi .ne main_arg2 main_v6
  let main_c_3 : IVec S_ 8 := constantI S_ 8 255#8
  let main_v8 : IVec S2x1x131072x256 8 := broadcastInDim S2x1x131072x256 ![] bcast_S_S2x1x131072x256 main_c_3
  let main_v9 : IVec S2x1x131072x256 1 := cmpi .ne main_arg2 main_v8
  let main_v10 : IVec S2x1x131072x256 1 := andi main_v7 main_v9
  let main_c_4 : IVec S_ 1 := constantI S_ 1 1#1
  let main_v11 : IVec S_ 1 := (fun x v => Host.reduce IntOp.andi x v reducesTo_S2x1x131072x256_S_d0_1_2_3 h_S_) main_v10 main_c_4
  let main_v12 : FVec F S2x4 .f32 := Host.absf main_arg1
  let main_cst : FVec F S_ .f32 := constant S_ .f32 0x7F800000#32
  let main_v13 : FVec F S2x4 .f32 := broadcastInDim S2x4 ![] bcast_S_S2x4 main_cst
  let main_v14 : IVec S2x4 1 := cmpf .olt main_v12 main_v13
  let main_c_5 : IVec S_ 1 := constantI S_ 1 1#1
  let main_v15 : IVec S_ 1 := (fun x v => Host.reduce IntOp.andi x v reducesTo_S2x4_S_d0_1 h_S_) main_v14 main_c_5
  fn_part1 (F := F) main_arg3 main_v5 main_v11 main_v15
-- ==== Kernel.lean ====
abbrev S2x4x131072x256 : Shape := ⟨4, ![2, 4, 131072, 256]⟩
abbrev S2x4 : Shape := ⟨2, ![2, 4]⟩
abbrev S2x1x131072x256 : Shape := ⟨4, ![2, 1, 131072, 256]⟩
abbrev S2x1 : Shape := ⟨2, ![2, 1]⟩
abbrev S2x4x1024x1024 : Shape := ⟨4, ![2, 4, 1024, 1024]⟩
abbrev S2x4x16384 : Shape := ⟨3, ![2, 4, 16384]⟩
abbrev S1x4x1024x128 : Shape := ⟨4, ![1, 4, 1024, 128]⟩
abbrev S1x1x1024x128 : Shape := ⟨4, ![1, 1, 1024, 128]⟩
abbrev S1x4x8x1024 : Shape := ⟨4, ![1, 4, 8, 1024]⟩
abbrev S1x4x128 : Shape := ⟨3, ![1, 4, 128]⟩
abbrev S16x4096x128 : Shape := ⟨3, ![16, 4096, 128]⟩
abbrev S16x128x128 : Shape := ⟨3, ![16, 128, 128]⟩
abbrev S4x1024x128 : Shape := ⟨3, ![4, 1024, 128]⟩
abbrev S1024x128 : Shape := ⟨2, ![1024, 128]⟩
abbrev S256x128 : Shape := ⟨2, ![256, 128]⟩
abbrev S128x2x128 : Shape := ⟨3, ![128, 2, 128]⟩
abbrev S8x1x128 : Shape := ⟨3, ![8, 1, 128]⟩
abbrev S8x128 : Shape := ⟨2, ![8, 128]⟩
abbrev S1x8x128 : Shape := ⟨3, ![1, 8, 128]⟩
abbrev S1x1 : Shape := ⟨2, ![1, 1]⟩
abbrev S1x128x128 : Shape := ⟨3, ![1, 128, 128]⟩
abbrev S128x128 : Shape := ⟨2, ![128, 128]⟩
abbrev S512x128 : Shape := ⟨2, ![512, 128]⟩
abbrev S512x2048 : Shape := ⟨2, ![512, 2048]⟩
abbrev S512x512 : Shape := ⟨2, ![512, 512]⟩
abbrev S16x8x128 : Shape := ⟨3, ![16, 8, 128]⟩
abbrev S128 : Shape := ⟨1, ![128]⟩
abbrev S1x128 : Shape := ⟨2, ![1, 128]⟩
abbrev S8x128x1 : Shape := ⟨3, ![8, 128, 1]⟩
abbrev S1x1x128 : Shape := ⟨3, ![1, 1, 128]⟩
abbrev S1x1x8x128 : Shape := ⟨4, ![1, 1, 8, 128]⟩

abbrev nBuf : Space → Nat
  | .hbm => 6
  | .vmem => 16
  | .smem => 2
  | _ => 0

abbrev bufTy : (tb : Table) → Fin (tcTables nBuf tb) → BufTy
  | .hbm, ⟨0, _⟩ => ⟨S2x4x131072x256, .i8⟩
  | .hbm, ⟨1, _⟩ => ⟨S2x4, .f32⟩
  | .hbm, ⟨2, _⟩ => ⟨S2x1x131072x256, .i8⟩
  | .hbm, ⟨3, _⟩ => ⟨S2x1, .f32⟩
  | .hbm, ⟨4, _⟩ => ⟨S2x4x1024x1024, .f32⟩
  | .hbm, ⟨5, _⟩ => ⟨S2x4x16384, .f32⟩
  | .local _ .vmem, ⟨0, _⟩ => ⟨S1x4x1024x128, .i8⟩
  | .local _ .vmem, ⟨1, _⟩ => ⟨S1x4x1024x128, .i8⟩
  | .local _ .vmem, ⟨2, _⟩ => ⟨S1x4x1024x128, .i8⟩
  | .local _ .vmem, ⟨3, _⟩ => ⟨S1x4x1024x128, .i8⟩
  | .local _ .vmem, ⟨4, _⟩ => ⟨S1x1x1024x128, .i8⟩
  | .local _ .vmem, ⟨5, _⟩ => ⟨S1x1x1024x128, .i8⟩
  | .local _ .vmem, ⟨6, _⟩ => ⟨S1x1x1024x128, .i8⟩
  | .local _ .vmem, ⟨7, _⟩ => ⟨S1x1x1024x128, .i8⟩
  | .local _ .vmem, ⟨8, _⟩ => ⟨S1x4x8x1024, .f32⟩
  | .local _ .vmem, ⟨9, _⟩ => ⟨S1x4x8x1024, .f32⟩
  | .local _ .vmem, ⟨10, _⟩ => ⟨S1x4x128, .f32⟩
  | .local _ .vmem, ⟨11, _⟩ => ⟨S1x4x128, .f32⟩
  | .local _ .vmem, ⟨12, _⟩ => ⟨S16x4096x128, .i32⟩
  | .local _ .vmem, ⟨13, _⟩ => ⟨S16x128x128, .i32⟩
  | .local _ .vmem, ⟨14, _⟩ => ⟨S4x1024x128, .f32⟩
  | .local _ .vmem, ⟨15, _⟩ => ⟨S4x1024x128, .f32⟩
  | .local _ .smem, ⟨0, _⟩ => ⟨S2x4, .f32⟩
  | .local _ .smem, ⟨1, _⟩ => ⟨S2x1, .f32⟩
  | _, _ => ⟨S2x4x131072x256, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 128], ![false, false]⟩

def k0_off1 (i : grid0.Coords) (c0_i32 : BitVec 32) (c0_i32_21 : BitVec 32) : Fin 3 → Nat :=
  let c14 : Index := 14#32
  let arg1 : BitVec 32 := BitVec.ofNat 32 (i 1).val
  let c32_i32 : BitVec 32 := 32#32
  let v8 : BitVec 32 := Scalar.muli arg1 c32_i32
  let v65 : BitVec 32 := Scalar.addi v8 c0_i32
  let v66 : BitVec 32 := Scalar.addi v65 c0_i32_21
  let v67 : Index := Scalar.indexCast v66
  let c0_22 : Index := 0#32
  ![14, v67.toNat, 0]
def k0_off2 (i : grid0.Coords) (c0_i32_23 : BitVec 32) (c0_i32_24 : BitVec 32) : Fin 3 → Nat :=
  let c12 : Index := 12#32
  let arg1 : BitVec 32 := BitVec.ofNat 32 (i 1).val
  let c32_i32 : BitVec 32 := 32#32
  let v8 : BitVec 32 := Scalar.muli arg1 c32_i32
  let v71 : BitVec 32 := Scalar.addi v8 c0_i32_23
  let v72 : BitVec 32 := Scalar.addi v71 c0_i32_24
  let v73 : Index := Scalar.indexCast v72
  let c0_25 : Index := 0#32
  ![12, v73.toNat, 0]
def k0_off3 (i : grid0.Coords) (c0_i32_26 : BitVec 32) (c0_i32_27 : BitVec 32) : Fin 3 → Nat :=
  let c10 : Index := 10#32
  let arg1 : BitVec 32 := BitVec.ofNat 32 (i 1).val
  let c32_i32 : BitVec 32 := 32#32
  let v8 : BitVec 32 := Scalar.muli arg1 c32_i32
  let v77 : BitVec 32 := Scalar.addi v8 c0_i32_26
  let v78 : BitVec 32 := Scalar.addi v77 c0_i32_27
  let v79 : Index := Scalar.indexCast v78
  let c0_28 : Index := 0#32
  ![10, v79.toNat, 0]
def k0_off4 (i : grid0.Coords) (c0_i32_29 : BitVec 32) (c0_i32_30 : BitVec 32) : Fin 3 → Nat :=
  let c8 : Index := 8#32
  let arg1 : BitVec 32 := BitVec.ofNat 32 (i 1).val
  let c32_i32 : BitVec 32 := 32#32
  let v8 : BitVec 32 := Scalar.muli arg1 c32_i32
  let v83 : BitVec 32 := Scalar.addi v8 c0_i32_29
  let v84 : BitVec 32 := Scalar.addi v83 c0_i32_30
  let v85 : Index := Scalar.indexCast v84
  let c0_31 : Index := 0#32
  ![8, v85.toNat, 0]
def k0_off5 (i : grid0.Coords) (c0_i32_52 : BitVec 32) (c0_i32_53 : BitVec 32) : Fin 3 → Nat :=
  let c15 : Index := 15#32
  let arg1 : BitVec 32 := BitVec.ofNat 32 (i 1).val
  let c32_i32 : BitVec 32 := 32#32
  let v8 : BitVec 32 := Scalar.muli arg1 c32_i32
  let v145 : BitVec 32 := Scalar.addi v8 c0_i32_52
  let v146 : BitVec 32 := Scalar.addi v145 c0_i32_53
  let v147 : Index := Scalar.indexCast v146
  let c0_54 : Index := 0#32
  ![15, v147.toNat, 0]
def k0_off6 (i : grid0.Coords) (c0_i32_55 : BitVec 32) (c0_i32_56 : BitVec 32) : Fin 3 → Nat :=
  let c13 : Index := 13#32
  let arg1 : BitVec 32 := BitVec.ofNat 32 (i 1).val
  let c32_i32 : BitVec 32 := 32#32
  let v8 : BitVec 32 := Scalar.muli arg1 c32_i32
  let v151 : BitVec 32 := Scalar.addi v8 c0_i32_55
  let v152 : BitVec 32 := Scalar.addi v151 c0_i32_56
  let v153 : Index := Scalar.indexCast v152
  let c0_57 : Index := 0#32
  ![13, v153.toNat, 0]
def k0_off7 (i : grid0.Coords) (c0_i32_58 : BitVec 32) (c0_i32_59 : BitVec 32) : Fin 3 → Nat :=
  let c11 : Index := 11#32
  let arg1 : BitVec 32 := BitVec.ofNat 32 (i 1).val
  let c32_i32 : BitVec 32 := 32#32
  let v8 : BitVec 32 := Scalar.muli arg1 c32_i32
  let v157 : BitVec 32 := Scalar.addi v8 c0_i32_58
  let v158 : BitVec 32 := Scalar.addi v157 c0_i32_59
  let v159 : Index := Scalar.indexCast v158
  let c0_60 : Index := 0#32
  ![11, v159.toNat, 0]
def k0_off8 (i : grid0.Coords) (c0_i32_61 : BitVec 32) (c0_i32_62 : BitVec 32) : Fin 3 → Nat :=
  let c9 : Index := 9#32
  let arg1 : BitVec 32 := BitVec.ofNat 32 (i 1).val
  let c32_i32 : BitVec 32 := 32#32
  let v8 : BitVec 32 := Scalar.muli arg1 c32_i32
  let v163 : BitVec 32 := Scalar.addi v8 c0_i32_61
  let v164 : BitVec 32 := Scalar.addi v163 c0_i32_62
  let v165 : Index := Scalar.indexCast v164
  let c0_63 : Index := 0#32
  ![9, v165.toNat, 0]
def k0_off9 (i : grid0.Coords) (c0_i32_299 : BitVec 32) (c0_i32_300 : BitVec 32) : Fin 3 → Nat :=
  let c6 : Index := 6#32
  let arg1 : BitVec 32 := BitVec.ofNat 32 (i 1).val
  let c32_i32 : BitVec 32 := 32#32
  let v8 : BitVec 32 := Scalar.muli arg1 c32_i32
  let v705 : BitVec 32 := Scalar.addi v8 c0_i32_299
  let v706 : BitVec 32 := Scalar.addi v705 c0_i32_300
  let v707 : Index := Scalar.indexCast v706
  let c0_301 : Index := 0#32
  ![6, v707.toNat, 0]
def k0_off10 (i : grid0.Coords) (c0_i32_302 : BitVec 32) (c0_i32_303 : BitVec 32) : Fin 3 → Nat :=
  let c4 : Index := 4#32
  let arg1 : BitVec 32 := BitVec.ofNat 32 (i 1).val
  let c32_i32 : BitVec 32 := 32#32
  let v8 : BitVec 32 := Scalar.muli arg1 c32_i32
  let v711 : BitVec 32 := Scalar.addi v8 c0_i32_302
  let v712 : BitVec 32 := Scalar.addi v711 c0_i32_303
  let v713 : Index := Scalar.indexCast v712
  let c0_304 : Index := 0#32
  ![4, v713.toNat, 0]
def k0_off11 (i : grid0.Coords) (c0_i32_305 : BitVec 32) (c0_i32_306 : BitVec 32) : Fin 3 → Nat :=
  let c2 : Index := 2#32
  let arg1 : BitVec 32 := BitVec.ofNat 32 (i 1).val
  let c32_i32 : BitVec 32 := 32#32
  let v8 : BitVec 32 := Scalar.muli arg1 c32_i32
  let v717 : BitVec 32 := Scalar.addi v8 c0_i32_305
  let v718 : BitVec 32 := Scalar.addi v717 c0_i32_306
  let v719 : Index := Scalar.indexCast v718
  let c0_307 : Index := 0#32
  ![2, v719.toNat, 0]
def k0_off12 (i : grid0.Coords) (c0_i32_308 : BitVec 32) (c0_i32_309 : BitVec 32) : Fin 3 → Nat :=
  let c0_310 : Index := 0#32
  let arg1 : BitVec 32 := BitVec.ofNat 32 (i 1).val
  let c32_i32 : BitVec 32 := 32#32
  let v8 : BitVec 32 := Scalar.muli arg1 c32_i32
  let v723 : BitVec 32 := Scalar.addi v8 c0_i32_308
  let v724 : BitVec 32 := Scalar.addi v723 c0_i32_309
  let v725 : Index := Scalar.indexCast v724
  let c0_311 : Index := 0#32
  ![0, v725.toNat, 0]
def k0_off13 (i : grid0.Coords) (c0_i32_332 : BitVec 32) (c0_i32_333 : BitVec 32) : Fin 3 → Nat :=
  let c7 : Index := 7#32
  let arg1 : BitVec 32 := BitVec.ofNat 32 (i 1).val
  let c32_i32 : BitVec 32 := 32#32
  let v8 : BitVec 32 := Scalar.muli arg1 c32_i32
  let v785 : BitVec 32 := Scalar.addi v8 c0_i32_332
  let v786 : BitVec 32 := Scalar.addi v785 c0_i32_333
  let v787 : Index := Scalar.indexCast v786
  let c0_334 : Index := 0#32
  ![7, v787.toNat, 0]
def k0_off14 (i : grid0.Coords) (c0_i32_335 : BitVec 32) (c0_i32_336 : BitVec 32) : Fin 3 → Nat :=
  let c5 : Index := 5#32
  let arg1 : BitVec 32 := BitVec.ofNat 32 (i 1).val
  let c32_i32 : BitVec 32 := 32#32
  let v8 : BitVec 32 := Scalar.muli arg1 c32_i32
  let v791 : BitVec 32 := Scalar.addi v8 c0_i32_335
  let v792 : BitVec 32 := Scalar.addi v791 c0_i32_336
  let v793 : Index := Scalar.indexCast v792
  let c0_337 : Index := 0#32
  ![5, v793.toNat, 0]
def k0_off15 (i : grid0.Coords) (c0_i32_338 : BitVec 32) (c0_i32_339 : BitVec 32) : Fin 3 → Nat :=
  let c3 : Index := 3#32
  let arg1 : BitVec 32 := BitVec.ofNat 32 (i 1).val
  let c32_i32 : BitVec 32 := 32#32
  let v8 : BitVec 32 := Scalar.muli arg1 c32_i32
  let v797 : BitVec 32 := Scalar.addi v8 c0_i32_338
  let v798 : BitVec 32 := Scalar.addi v797 c0_i32_339
  let v799 : Index := Scalar.indexCast v798
  let c0_340 : Index := 0#32
  ![3, v799.toNat, 0]
def k0_off16 (i : grid0.Coords) (c0_i32_341 : BitVec 32) (c0_i32_342 : BitVec 32) : Fin 3 → Nat :=
  let c1 : Index := 1#32
  let arg1 : BitVec 32 := BitVec.ofNat 32 (i 1).val
  let c32_i32 : BitVec 32 := 32#32
  let v8 : BitVec 32 := Scalar.muli arg1 c32_i32
  let v803 : BitVec 32 := Scalar.addi v8 c0_i32_341
  let v804 : BitVec 32 := Scalar.addi v803 c0_i32_342
  let v805 : Index := Scalar.indexCast v804
  let c0_343 : Index := 0#32
  ![1, v805.toNat, 0]
def k0_off17 (i : grid0.Coords) : Fin 2 → Nat :=
  let arg0 : BitVec 32 := BitVec.ofNat 32 (i 0).val
  let v5673 : Index := Scalar.indexCast arg0
  let c0_2626 : Index := 0#32
  ![v5673.toNat, 0]
def k0_off18 (i : grid0.Coords) : Fin 2 → Nat :=
  let arg0 : BitVec 32 := BitVec.ofNat 32 (i 0).val
  let v5675 : Index := Scalar.indexCast arg0
  let c0_2627 : Index := 0#32
  ![v5675.toNat, 0]
def k0_off19 (i : grid0.Coords) : Fin 2 → Nat :=
  let arg0 : BitVec 32 := BitVec.ofNat 32 (i 0).val
  let v5680 : Index := Scalar.indexCast arg0
  let c1_2629 : Index := 1#32
  ![v5680.toNat, 1]
def k0_off20 (i : grid0.Coords) : Fin 2 → Nat :=
  let arg0 : BitVec 32 := BitVec.ofNat 32 (i 0).val
  let v5687 : Index := Scalar.indexCast arg0
  let c2_2633 : Index := 2#32
  ![v5687.toNat, 2]
def k0_off21 (i : grid0.Coords) : Fin 2 → Nat :=
  let arg0 : BitVec 32 := BitVec.ofNat 32 (i 0).val
  let v5694 : Index := Scalar.indexCast arg0
  let c3_2637 : Index := 3#32
  ![v5694.toNat, 3]
@[reducible] def k0_t1_loop (i : grid0.Coords) : Scf.Loop 32 :=
  let c0_i32_2670 : BitVec 32 := 0#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let v5774 : BitVec 32 := Scalar.subi v5773 c0_i32_2670
  let c1_i32_2671 : BitVec 32 := 1#32
  let v5776 : BitVec 32 := Scalar.divsi v5774 c1_i32_2671
  let v5777 : BitVec 32 := Scalar.muli v5776 c1_i32_2671
  let v5778 : BitVec 32 := Scalar.addi c0_i32_2670 v5777
  let c1_i32_2672 : BitVec 32 := 1#32
  ⟨c0_i32_2670, v5778, c1_i32_2672⟩
def k0_off22 (i : grid0.Coords) (k0_t1 : Fin (k0_t1_loop i).trips) : Fin 3 → Nat :=
  let c0_3719 : Index := 0#32
  let c0_i32_2670 : BitVec 32 := 0#32
  let c1_i32_2672 : BitVec 32 := 1#32
  let arg14 : BitVec 32 := Scf.iv c0_i32_2670 c1_i32_2672 k0_t1
  let c128_i32_3718 : BitVec 32 := 128#32
  let v10309 : BitVec 32 := Scalar.muli arg14 c128_i32_3718
  let v10310 : Index := Scalar.indexCast v10309
  let c0_3720 : Index := 0#32
  ![0, v10310.toNat, 0]
def k0_off23 (i : grid0.Coords) (k0_t1 : Fin (k0_t1_loop i).trips) : Fin 3 → Nat :=
  let c1_3721 : Index := 1#32
  let c0_i32_2670 : BitVec 32 := 0#32
  let c1_i32_2672 : BitVec 32 := 1#32
  let arg14 : BitVec 32 := Scf.iv c0_i32_2670 c1_i32_2672 k0_t1
  let c128_i32_3718 : BitVec 32 := 128#32
  let v10309 : BitVec 32 := Scalar.muli arg14 c128_i32_3718
  let v10314 : Index := Scalar.indexCast v10309
  let c0_3722 : Index := 0#32
  ![1, v10314.toNat, 0]
def k0_off24 (i : grid0.Coords) (k0_t1 : Fin (k0_t1_loop i).trips) : Fin 3 → Nat :=
  let c2_3723 : Index := 2#32
  let c0_i32_2670 : BitVec 32 := 0#32
  let c1_i32_2672 : BitVec 32 := 1#32
  let arg14 : BitVec 32 := Scf.iv c0_i32_2670 c1_i32_2672 k0_t1
  let c128_i32_3718 : BitVec 32 := 128#32
  let v10309 : BitVec 32 := Scalar.muli arg14 c128_i32_3718
  let v10318 : Index := Scalar.indexCast v10309
  let c0_3724 : Index := 0#32
  ![2, v10318.toNat, 0]
def k0_off25 (i : grid0.Coords) (k0_t1 : Fin (k0_t1_loop i).trips) : Fin 3 → Nat :=
  let c3_3725 : Index := 3#32
  let c0_i32_2670 : BitVec 32 := 0#32
  let c1_i32_2672 : BitVec 32 := 1#32
  let arg14 : BitVec 32 := Scf.iv c0_i32_2670 c1_i32_2672 k0_t1
  let c128_i32_3718 : BitVec 32 := 128#32
  let v10309 : BitVec 32 := Scalar.muli arg14 c128_i32_3718
  let v10322 : Index := Scalar.indexCast v10309
  let c0_3726 : Index := 0#32
  ![3, v10322.toNat, 0]
def k0_off26 (i : grid0.Coords) (k0_t1 : Fin (k0_t1_loop i).trips) : Fin 3 → Nat :=
  let c4_3727 : Index := 4#32
  let c0_i32_2670 : BitVec 32 := 0#32
  let c1_i32_2672 : BitVec 32 := 1#32
  let arg14 : BitVec 32 := Scf.iv c0_i32_2670 c1_i32_2672 k0_t1
  let c128_i32_3718 : BitVec 32 := 128#32
  let v10309 : BitVec 32 := Scalar.muli arg14 c128_i32_3718
  let v10326 : Index := Scalar.indexCast v10309
  let c0_3728 : Index := 0#32
  ![4, v10326.toNat, 0]
def k0_off27 (i : grid0.Coords) (k0_t1 : Fin (k0_t1_loop i).trips) : Fin 3 → Nat :=
  let c5_3729 : Index := 5#32
  let c0_i32_2670 : BitVec 32 := 0#32
  let c1_i32_2672 : BitVec 32 := 1#32
  let arg14 : BitVec 32 := Scf.iv c0_i32_2670 c1_i32_2672 k0_t1
  let c128_i32_3718 : BitVec 32 := 128#32
  let v10309 : BitVec 32 := Scalar.muli arg14 c128_i32_3718
  let v10330 : Index := Scalar.indexCast v10309
  let c0_3730 : Index := 0#32
  ![5, v10330.toNat, 0]
def k0_off28 (i : grid0.Coords) (k0_t1 : Fin (k0_t1_loop i).trips) : Fin 3 → Nat :=
  let c6_3731 : Index := 6#32
  let c0_i32_2670 : BitVec 32 := 0#32
  let c1_i32_2672 : BitVec 32 := 1#32
  let arg14 : BitVec 32 := Scf.iv c0_i32_2670 c1_i32_2672 k0_t1
  let c128_i32_3718 : BitVec 32 := 128#32
  let v10309 : BitVec 32 := Scalar.muli arg14 c128_i32_3718
  let v10334 : Index := Scalar.indexCast v10309
  let c0_3732 : Index := 0#32
  ![6, v10334.toNat, 0]
def k0_off29 (i : grid0.Coords) (k0_t1 : Fin (k0_t1_loop i).trips) : Fin 3 → Nat :=
  let c7_3733 : Index := 7#32
  let c0_i32_2670 : BitVec 32 := 0#32
  let c1_i32_2672 : BitVec 32 := 1#32
  let arg14 : BitVec 32 := Scf.iv c0_i32_2670 c1_i32_2672 k0_t1
  let c128_i32_3718 : BitVec 32 := 128#32
  let v10309 : BitVec 32 := Scalar.muli arg14 c128_i32_3718
  let v10338 : Index := Scalar.indexCast v10309
  let c0_3734 : Index := 0#32
  ![7, v10338.toNat, 0]
def k0_off30 (i : grid0.Coords) (k0_t1 : Fin (k0_t1_loop i).trips) : Fin 3 → Nat :=
  let c8_3735 : Index := 8#32
  let c0_i32_2670 : BitVec 32 := 0#32
  let c1_i32_2672 : BitVec 32 := 1#32
  let arg14 : BitVec 32 := Scf.iv c0_i32_2670 c1_i32_2672 k0_t1
  let c128_i32_3718 : BitVec 32 := 128#32
  let v10309 : BitVec 32 := Scalar.muli arg14 c128_i32_3718
  let v10342 : Index := Scalar.indexCast v10309
  let c0_3736 : Index := 0#32
  ![8, v10342.toNat, 0]
def k0_off31 (i : grid0.Coords) (k0_t1 : Fin (k0_t1_loop i).trips) : Fin 3 → Nat :=
  let c9_3737 : Index := 9#32
  let c0_i32_2670 : BitVec 32 := 0#32
  let c1_i32_2672 : BitVec 32 := 1#32
  let arg14 : BitVec 32 := Scf.iv c0_i32_2670 c1_i32_2672 k0_t1
  let c128_i32_3718 : BitVec 32 := 128#32
  let v10309 : BitVec 32 := Scalar.muli arg14 c128_i32_3718
  let v10346 : Index := Scalar.indexCast v10309
  let c0_3738 : Index := 0#32
  ![9, v10346.toNat, 0]
def k0_off32 (i : grid0.Coords) (k0_t1 : Fin (k0_t1_loop i).trips) : Fin 3 → Nat :=
  let c10_3739 : Index := 10#32
  let c0_i32_2670 : BitVec 32 := 0#32
  let c1_i32_2672 : BitVec 32 := 1#32
  let arg14 : BitVec 32 := Scf.iv c0_i32_2670 c1_i32_2672 k0_t1
  let c128_i32_3718 : BitVec 32 := 128#32
  let v10309 : BitVec 32 := Scalar.muli arg14 c128_i32_3718
  let v10350 : Index := Scalar.indexCast v10309
  let c0_3740 : Index := 0#32
  ![10, v10350.toNat, 0]
def k0_off33 (i : grid0.Coords) (k0_t1 : Fin (k0_t1_loop i).trips) : Fin 3 → Nat :=
  let c11_3741 : Index := 11#32
  let c0_i32_2670 : BitVec 32 := 0#32
  let c1_i32_2672 : BitVec 32 := 1#32
  let arg14 : BitVec 32 := Scf.iv c0_i32_2670 c1_i32_2672 k0_t1
  let c128_i32_3718 : BitVec 32 := 128#32
  let v10309 : BitVec 32 := Scalar.muli arg14 c128_i32_3718
  let v10354 : Index := Scalar.indexCast v10309
  let c0_3742 : Index := 0#32
  ![11, v10354.toNat, 0]
def k0_off34 (i : grid0.Coords) (k0_t1 : Fin (k0_t1_loop i).trips) : Fin 3 → Nat :=
  let c12_3743 : Index := 12#32
  let c0_i32_2670 : BitVec 32 := 0#32
  let c1_i32_2672 : BitVec 32 := 1#32
  let arg14 : BitVec 32 := Scf.iv c0_i32_2670 c1_i32_2672 k0_t1
  let c128_i32_3718 : BitVec 32 := 128#32
  let v10309 : BitVec 32 := Scalar.muli arg14 c128_i32_3718
  let v10358 : Index := Scalar.indexCast v10309
  let c0_3744 : Index := 0#32
  ![12, v10358.toNat, 0]
def k0_off35 (i : grid0.Coords) (k0_t1 : Fin (k0_t1_loop i).trips) : Fin 3 → Nat :=
  let c13_3745 : Index := 13#32
  let c0_i32_2670 : BitVec 32 := 0#32
  let c1_i32_2672 : BitVec 32 := 1#32
  let arg14 : BitVec 32 := Scf.iv c0_i32_2670 c1_i32_2672 k0_t1
  let c128_i32_3718 : BitVec 32 := 128#32
  let v10309 : BitVec 32 := Scalar.muli arg14 c128_i32_3718
  let v10362 : Index := Scalar.indexCast v10309
  let c0_3746 : Index := 0#32
  ![13, v10362.toNat, 0]
def k0_off36 (i : grid0.Coords) (k0_t1 : Fin (k0_t1_loop i).trips) : Fin 3 → Nat :=
  let c14_3747 : Index := 14#32
  let c0_i32_2670 : BitVec 32 := 0#32
  let c1_i32_2672 : BitVec 32 := 1#32
  let arg14 : BitVec 32 := Scf.iv c0_i32_2670 c1_i32_2672 k0_t1
  let c128_i32_3718 : BitVec 32 := 128#32
  let v10309 : BitVec 32 := Scalar.muli arg14 c128_i32_3718
  let v10366 : Index := Scalar.indexCast v10309
  let c0_3748 : Index := 0#32
  ![14, v10366.toNat, 0]
def k0_off37 (i : grid0.Coords) (k0_t1 : Fin (k0_t1_loop i).trips) : Fin 3 → Nat :=
  let c15_3749 : Index := 15#32
  let c0_i32_2670 : BitVec 32 := 0#32
  let c1_i32_2672 : BitVec 32 := 1#32
  let arg14 : BitVec 32 := Scf.iv c0_i32_2670 c1_i32_2672 k0_t1
  let c128_i32_3718 : BitVec 32 := 128#32
  let v10309 : BitVec 32 := Scalar.muli arg14 c128_i32_3718
  let v10370 : Index := Scalar.indexCast v10309
  let c0_3750 : Index := 0#32
  ![15, v10370.toNat, 0]
def k0_off38 (i : grid0.Coords) (k0_t1 : Fin (k0_t1_loop i).trips) (c0_i32_3801 : BitVec 32) : Fin 3 → Nat :=
  let c0_3804 : Index := 0#32
  let c0_i32_2670 : BitVec 32 := 0#32
  let c1_i32_2672 : BitVec 32 := 1#32
  let arg14 : BitVec 32 := Scf.iv c0_i32_2670 c1_i32_2672 k0_t1
  let c4_i32_3800 : BitVec 32 := 4#32
  let v10425 : BitVec 32 := Scalar.muli arg14 c4_i32_3800
  let v10426 : BitVec 32 := Scalar.addi v10425 c0_i32_3801
  let c8_i32_3803 : BitVec 32 := 8#32
  let v10557 : BitVec 32 := Scalar.muli v10426 c8_i32_3803
  let v10558 : Index := Scalar.indexCast v10557
  let c0_3805 : Index := 0#32
  ![0, v10558.toNat, 0]
def k0_off39 (i : grid0.Coords) (k0_t1 : Fin (k0_t1_loop i).trips) (c0_i32_3801 : BitVec 32) : Fin 3 → Nat :=
  let c1_3811 : Index := 1#32
  let c0_i32_2670 : BitVec 32 := 0#32
  let c1_i32_2672 : BitVec 32 := 1#32
  let arg14 : BitVec 32 := Scf.iv c0_i32_2670 c1_i32_2672 k0_t1
  let c4_i32_3800 : BitVec 32 := 4#32
  let v10425 : BitVec 32 := Scalar.muli arg14 c4_i32_3800
  let v10426 : BitVec 32 := Scalar.addi v10425 c0_i32_3801
  let c8_i32_3810 : BitVec 32 := 8#32
  let v10705 : BitVec 32 := Scalar.muli v10426 c8_i32_3810
  let v10706 : Index := Scalar.indexCast v10705
  let c0_3812 : Index := 0#32
  ![1, v10706.toNat, 0]
def k0_off40 (i : grid0.Coords) (k0_t1 : Fin (k0_t1_loop i).trips) (c0_i32_3801 : BitVec 32) : Fin 3 → Nat :=
  let c2_3818 : Index := 2#32
  let c0_i32_2670 : BitVec 32 := 0#32
  let c1_i32_2672 : BitVec 32 := 1#32
  let arg14 : BitVec 32 := Scf.iv c0_i32_2670 c1_i32_2672 k0_t1
  let c4_i32_3800 : BitVec 32 := 4#32
  let v10425 : BitVec 32 := Scalar.muli arg14 c4_i32_3800
  let v10426 : BitVec 32 := Scalar.addi v10425 c0_i32_3801
  let c8_i32_3817 : BitVec 32 := 8#32
  let v10853 : BitVec 32 := Scalar.muli v10426 c8_i32_3817
  let v10854 : Index := Scalar.indexCast v10853
  let c0_3819 : Index := 0#32
  ![2, v10854.toNat, 0]
def k0_off41 (i : grid0.Coords) (k0_t1 : Fin (k0_t1_loop i).trips) (c0_i32_3801 : BitVec 32) : Fin 3 → Nat :=
  let c3_3825 : Index := 3#32
  let c0_i32_2670 : BitVec 32 := 0#32
  let c1_i32_2672 : BitVec 32 := 1#32
  let arg14 : BitVec 32 := Scf.iv c0_i32_2670 c1_i32_2672 k0_t1
  let c4_i32_3800 : BitVec 32 := 4#32
  let v10425 : BitVec 32 := Scalar.muli arg14 c4_i32_3800
  let v10426 : BitVec 32 := Scalar.addi v10425 c0_i32_3801
  let c8_i32_3824 : BitVec 32 := 8#32
  let v11001 : BitVec 32 := Scalar.muli v10426 c8_i32_3824
  let v11002 : Index := Scalar.indexCast v11001
  let c0_3826 : Index := 0#32
  ![3, v11002.toNat, 0]
@[reducible] def k0_t2_loop (i : grid0.Coords) : Scf.Loop 32 :=
  let c0_i32_2670 : BitVec 32 := 0#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let v5774 : BitVec 32 := Scalar.subi v5773 c0_i32_2670
  let c1_i32_2671 : BitVec 32 := 1#32
  let v5776 : BitVec 32 := Scalar.divsi v5774 c1_i32_2671
  let v5777 : BitVec 32 := Scalar.muli v5776 c1_i32_2671
  let v5778 : BitVec 32 := Scalar.addi c0_i32_2670 v5777
  let v5775 : BitVec 32 := Scalar.addi c0_i32_2670 v5774
  let c1_i32_2673 : BitVec 32 := 1#32
  ⟨v5778, v5775, c1_i32_2673⟩
def k0_off42 (i : grid0.Coords) (k0_t2 : Fin (k0_t2_loop i).trips) : Fin 3 → Nat :=
  let c0_3719 : Index := 0#32
  let c0_i32_2670 : BitVec 32 := 0#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let v5774 : BitVec 32 := Scalar.subi v5773 c0_i32_2670
  let c1_i32_2671 : BitVec 32 := 1#32
  let v5776 : BitVec 32 := Scalar.divsi v5774 c1_i32_2671
  let v5777 : BitVec 32 := Scalar.muli v5776 c1_i32_2671
  let v5778 : BitVec 32 := Scalar.addi c0_i32_2670 v5777
  let c1_i32_2673 : BitVec 32 := 1#32
  let arg14 : BitVec 32 := Scf.iv v5778 c1_i32_2673 k0_t2
  let c128_i32_3718 : BitVec 32 := 128#32
  let v10309 : BitVec 32 := Scalar.muli arg14 c128_i32_3718
  let v10310 : Index := Scalar.indexCast v10309
  let c0_3720 : Index := 0#32
  ![0, v10310.toNat, 0]
def k0_off43 (i : grid0.Coords) (k0_t2 : Fin (k0_t2_loop i).trips) : Fin 3 → Nat :=
  let c1_3721 : Index := 1#32
  let c0_i32_2670 : BitVec 32 := 0#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let v5774 : BitVec 32 := Scalar.subi v5773 c0_i32_2670
  let c1_i32_2671 : BitVec 32 := 1#32
  let v5776 : BitVec 32 := Scalar.divsi v5774 c1_i32_2671
  let v5777 : BitVec 32 := Scalar.muli v5776 c1_i32_2671
  let v5778 : BitVec 32 := Scalar.addi c0_i32_2670 v5777
  let c1_i32_2673 : BitVec 32 := 1#32
  let arg14 : BitVec 32 := Scf.iv v5778 c1_i32_2673 k0_t2
  let c128_i32_3718 : BitVec 32 := 128#32
  let v10309 : BitVec 32 := Scalar.muli arg14 c128_i32_3718
  let v10314 : Index := Scalar.indexCast v10309
  let c0_3722 : Index := 0#32
  ![1, v10314.toNat, 0]
def k0_off44 (i : grid0.Coords) (k0_t2 : Fin (k0_t2_loop i).trips) : Fin 3 → Nat :=
  let c2_3723 : Index := 2#32
  let c0_i32_2670 : BitVec 32 := 0#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let v5774 : BitVec 32 := Scalar.subi v5773 c0_i32_2670
  let c1_i32_2671 : BitVec 32 := 1#32
  let v5776 : BitVec 32 := Scalar.divsi v5774 c1_i32_2671
  let v5777 : BitVec 32 := Scalar.muli v5776 c1_i32_2671
  let v5778 : BitVec 32 := Scalar.addi c0_i32_2670 v5777
  let c1_i32_2673 : BitVec 32 := 1#32
  let arg14 : BitVec 32 := Scf.iv v5778 c1_i32_2673 k0_t2
  let c128_i32_3718 : BitVec 32 := 128#32
  let v10309 : BitVec 32 := Scalar.muli arg14 c128_i32_3718
  let v10318 : Index := Scalar.indexCast v10309
  let c0_3724 : Index := 0#32
  ![2, v10318.toNat, 0]
def k0_off45 (i : grid0.Coords) (k0_t2 : Fin (k0_t2_loop i).trips) : Fin 3 → Nat :=
  let c3_3725 : Index := 3#32
  let c0_i32_2670 : BitVec 32 := 0#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let v5774 : BitVec 32 := Scalar.subi v5773 c0_i32_2670
  let c1_i32_2671 : BitVec 32 := 1#32
  let v5776 : BitVec 32 := Scalar.divsi v5774 c1_i32_2671
  let v5777 : BitVec 32 := Scalar.muli v5776 c1_i32_2671
  let v5778 : BitVec 32 := Scalar.addi c0_i32_2670 v5777
  let c1_i32_2673 : BitVec 32 := 1#32
  let arg14 : BitVec 32 := Scf.iv v5778 c1_i32_2673 k0_t2
  let c128_i32_3718 : BitVec 32 := 128#32
  let v10309 : BitVec 32 := Scalar.muli arg14 c128_i32_3718
  let v10322 : Index := Scalar.indexCast v10309
  let c0_3726 : Index := 0#32
  ![3, v10322.toNat, 0]
def k0_off46 (i : grid0.Coords) (k0_t2 : Fin (k0_t2_loop i).trips) : Fin 3 → Nat :=
  let c4_3727 : Index := 4#32
  let c0_i32_2670 : BitVec 32 := 0#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let v5774 : BitVec 32 := Scalar.subi v5773 c0_i32_2670
  let c1_i32_2671 : BitVec 32 := 1#32
  let v5776 : BitVec 32 := Scalar.divsi v5774 c1_i32_2671
  let v5777 : BitVec 32 := Scalar.muli v5776 c1_i32_2671
  let v5778 : BitVec 32 := Scalar.addi c0_i32_2670 v5777
  let c1_i32_2673 : BitVec 32 := 1#32
  let arg14 : BitVec 32 := Scf.iv v5778 c1_i32_2673 k0_t2
  let c128_i32_3718 : BitVec 32 := 128#32
  let v10309 : BitVec 32 := Scalar.muli arg14 c128_i32_3718
  let v10326 : Index := Scalar.indexCast v10309
  let c0_3728 : Index := 0#32
  ![4, v10326.toNat, 0]
def k0_off47 (i : grid0.Coords) (k0_t2 : Fin (k0_t2_loop i).trips) : Fin 3 → Nat :=
  let c5_3729 : Index := 5#32
  let c0_i32_2670 : BitVec 32 := 0#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let v5774 : BitVec 32 := Scalar.subi v5773 c0_i32_2670
  let c1_i32_2671 : BitVec 32 := 1#32
  let v5776 : BitVec 32 := Scalar.divsi v5774 c1_i32_2671
  let v5777 : BitVec 32 := Scalar.muli v5776 c1_i32_2671
  let v5778 : BitVec 32 := Scalar.addi c0_i32_2670 v5777
  let c1_i32_2673 : BitVec 32 := 1#32
  let arg14 : BitVec 32 := Scf.iv v5778 c1_i32_2673 k0_t2
  let c128_i32_3718 : BitVec 32 := 128#32
  let v10309 : BitVec 32 := Scalar.muli arg14 c128_i32_3718
  let v10330 : Index := Scalar.indexCast v10309
  let c0_3730 : Index := 0#32
  ![5, v10330.toNat, 0]
def k0_off48 (i : grid0.Coords) (k0_t2 : Fin (k0_t2_loop i).trips) : Fin 3 → Nat :=
  let c6_3731 : Index := 6#32
  let c0_i32_2670 : BitVec 32 := 0#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let v5774 : BitVec 32 := Scalar.subi v5773 c0_i32_2670
  let c1_i32_2671 : BitVec 32 := 1#32
  let v5776 : BitVec 32 := Scalar.divsi v5774 c1_i32_2671
  let v5777 : BitVec 32 := Scalar.muli v5776 c1_i32_2671
  let v5778 : BitVec 32 := Scalar.addi c0_i32_2670 v5777
  let c1_i32_2673 : BitVec 32 := 1#32
  let arg14 : BitVec 32 := Scf.iv v5778 c1_i32_2673 k0_t2
  let c128_i32_3718 : BitVec 32 := 128#32
  let v10309 : BitVec 32 := Scalar.muli arg14 c128_i32_3718
  let v10334 : Index := Scalar.indexCast v10309
  let c0_3732 : Index := 0#32
  ![6, v10334.toNat, 0]
def k0_off49 (i : grid0.Coords) (k0_t2 : Fin (k0_t2_loop i).trips) : Fin 3 → Nat :=
  let c7_3733 : Index := 7#32
  let c0_i32_2670 : BitVec 32 := 0#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let v5774 : BitVec 32 := Scalar.subi v5773 c0_i32_2670
  let c1_i32_2671 : BitVec 32 := 1#32
  let v5776 : BitVec 32 := Scalar.divsi v5774 c1_i32_2671
  let v5777 : BitVec 32 := Scalar.muli v5776 c1_i32_2671
  let v5778 : BitVec 32 := Scalar.addi c0_i32_2670 v5777
  let c1_i32_2673 : BitVec 32 := 1#32
  let arg14 : BitVec 32 := Scf.iv v5778 c1_i32_2673 k0_t2
  let c128_i32_3718 : BitVec 32 := 128#32
  let v10309 : BitVec 32 := Scalar.muli arg14 c128_i32_3718
  let v10338 : Index := Scalar.indexCast v10309
  let c0_3734 : Index := 0#32
  ![7, v10338.toNat, 0]
def k0_off50 (i : grid0.Coords) (k0_t2 : Fin (k0_t2_loop i).trips) : Fin 3 → Nat :=
  let c8_3735 : Index := 8#32
  let c0_i32_2670 : BitVec 32 := 0#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let v5774 : BitVec 32 := Scalar.subi v5773 c0_i32_2670
  let c1_i32_2671 : BitVec 32 := 1#32
  let v5776 : BitVec 32 := Scalar.divsi v5774 c1_i32_2671
  let v5777 : BitVec 32 := Scalar.muli v5776 c1_i32_2671
  let v5778 : BitVec 32 := Scalar.addi c0_i32_2670 v5777
  let c1_i32_2673 : BitVec 32 := 1#32
  let arg14 : BitVec 32 := Scf.iv v5778 c1_i32_2673 k0_t2
  let c128_i32_3718 : BitVec 32 := 128#32
  let v10309 : BitVec 32 := Scalar.muli arg14 c128_i32_3718
  let v10342 : Index := Scalar.indexCast v10309
  let c0_3736 : Index := 0#32
  ![8, v10342.toNat, 0]
def k0_off51 (i : grid0.Coords) (k0_t2 : Fin (k0_t2_loop i).trips) : Fin 3 → Nat :=
  let c9_3737 : Index := 9#32
  let c0_i32_2670 : BitVec 32 := 0#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let v5774 : BitVec 32 := Scalar.subi v5773 c0_i32_2670
  let c1_i32_2671 : BitVec 32 := 1#32
  let v5776 : BitVec 32 := Scalar.divsi v5774 c1_i32_2671
  let v5777 : BitVec 32 := Scalar.muli v5776 c1_i32_2671
  let v5778 : BitVec 32 := Scalar.addi c0_i32_2670 v5777
  let c1_i32_2673 : BitVec 32 := 1#32
  let arg14 : BitVec 32 := Scf.iv v5778 c1_i32_2673 k0_t2
  let c128_i32_3718 : BitVec 32 := 128#32
  let v10309 : BitVec 32 := Scalar.muli arg14 c128_i32_3718
  let v10346 : Index := Scalar.indexCast v10309
  let c0_3738 : Index := 0#32
  ![9, v10346.toNat, 0]
def k0_off52 (i : grid0.Coords) (k0_t2 : Fin (k0_t2_loop i).trips) : Fin 3 → Nat :=
  let c10_3739 : Index := 10#32
  let c0_i32_2670 : BitVec 32 := 0#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let v5774 : BitVec 32 := Scalar.subi v5773 c0_i32_2670
  let c1_i32_2671 : BitVec 32 := 1#32
  let v5776 : BitVec 32 := Scalar.divsi v5774 c1_i32_2671
  let v5777 : BitVec 32 := Scalar.muli v5776 c1_i32_2671
  let v5778 : BitVec 32 := Scalar.addi c0_i32_2670 v5777
  let c1_i32_2673 : BitVec 32 := 1#32
  let arg14 : BitVec 32 := Scf.iv v5778 c1_i32_2673 k0_t2
  let c128_i32_3718 : BitVec 32 := 128#32
  let v10309 : BitVec 32 := Scalar.muli arg14 c128_i32_3718
  let v10350 : Index := Scalar.indexCast v10309
  let c0_3740 : Index := 0#32
  ![10, v10350.toNat, 0]
def k0_off53 (i : grid0.Coords) (k0_t2 : Fin (k0_t2_loop i).trips) : Fin 3 → Nat :=
  let c11_3741 : Index := 11#32
  let c0_i32_2670 : BitVec 32 := 0#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let v5774 : BitVec 32 := Scalar.subi v5773 c0_i32_2670
  let c1_i32_2671 : BitVec 32 := 1#32
  let v5776 : BitVec 32 := Scalar.divsi v5774 c1_i32_2671
  let v5777 : BitVec 32 := Scalar.muli v5776 c1_i32_2671
  let v5778 : BitVec 32 := Scalar.addi c0_i32_2670 v5777
  let c1_i32_2673 : BitVec 32 := 1#32
  let arg14 : BitVec 32 := Scf.iv v5778 c1_i32_2673 k0_t2
  let c128_i32_3718 : BitVec 32 := 128#32
  let v10309 : BitVec 32 := Scalar.muli arg14 c128_i32_3718
  let v10354 : Index := Scalar.indexCast v10309
  let c0_3742 : Index := 0#32
  ![11, v10354.toNat, 0]
def k0_off54 (i : grid0.Coords) (k0_t2 : Fin (k0_t2_loop i).trips) : Fin 3 → Nat :=
  let c12_3743 : Index := 12#32
  let c0_i32_2670 : BitVec 32 := 0#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let v5774 : BitVec 32 := Scalar.subi v5773 c0_i32_2670
  let c1_i32_2671 : BitVec 32 := 1#32
  let v5776 : BitVec 32 := Scalar.divsi v5774 c1_i32_2671
  let v5777 : BitVec 32 := Scalar.muli v5776 c1_i32_2671
  let v5778 : BitVec 32 := Scalar.addi c0_i32_2670 v5777
  let c1_i32_2673 : BitVec 32 := 1#32
  let arg14 : BitVec 32 := Scf.iv v5778 c1_i32_2673 k0_t2
  let c128_i32_3718 : BitVec 32 := 128#32
  let v10309 : BitVec 32 := Scalar.muli arg14 c128_i32_3718
  let v10358 : Index := Scalar.indexCast v10309
  let c0_3744 : Index := 0#32
  ![12, v10358.toNat, 0]
def k0_off55 (i : grid0.Coords) (k0_t2 : Fin (k0_t2_loop i).trips) : Fin 3 → Nat :=
  let c13_3745 : Index := 13#32
  let c0_i32_2670 : BitVec 32 := 0#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let v5774 : BitVec 32 := Scalar.subi v5773 c0_i32_2670
  let c1_i32_2671 : BitVec 32 := 1#32
  let v5776 : BitVec 32 := Scalar.divsi v5774 c1_i32_2671
  let v5777 : BitVec 32 := Scalar.muli v5776 c1_i32_2671
  let v5778 : BitVec 32 := Scalar.addi c0_i32_2670 v5777
  let c1_i32_2673 : BitVec 32 := 1#32
  let arg14 : BitVec 32 := Scf.iv v5778 c1_i32_2673 k0_t2
  let c128_i32_3718 : BitVec 32 := 128#32
  let v10309 : BitVec 32 := Scalar.muli arg14 c128_i32_3718
  let v10362 : Index := Scalar.indexCast v10309
  let c0_3746 : Index := 0#32
  ![13, v10362.toNat, 0]
def k0_off56 (i : grid0.Coords) (k0_t2 : Fin (k0_t2_loop i).trips) : Fin 3 → Nat :=
  let c14_3747 : Index := 14#32
  let c0_i32_2670 : BitVec 32 := 0#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let v5774 : BitVec 32 := Scalar.subi v5773 c0_i32_2670
  let c1_i32_2671 : BitVec 32 := 1#32
  let v5776 : BitVec 32 := Scalar.divsi v5774 c1_i32_2671
  let v5777 : BitVec 32 := Scalar.muli v5776 c1_i32_2671
  let v5778 : BitVec 32 := Scalar.addi c0_i32_2670 v5777
  let c1_i32_2673 : BitVec 32 := 1#32
  let arg14 : BitVec 32 := Scf.iv v5778 c1_i32_2673 k0_t2
  let c128_i32_3718 : BitVec 32 := 128#32
  let v10309 : BitVec 32 := Scalar.muli arg14 c128_i32_3718
  let v10366 : Index := Scalar.indexCast v10309
  let c0_3748 : Index := 0#32
  ![14, v10366.toNat, 0]
def k0_off57 (i : grid0.Coords) (k0_t2 : Fin (k0_t2_loop i).trips) : Fin 3 → Nat :=
  let c15_3749 : Index := 15#32
  let c0_i32_2670 : BitVec 32 := 0#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let v5774 : BitVec 32 := Scalar.subi v5773 c0_i32_2670
  let c1_i32_2671 : BitVec 32 := 1#32
  let v5776 : BitVec 32 := Scalar.divsi v5774 c1_i32_2671
  let v5777 : BitVec 32 := Scalar.muli v5776 c1_i32_2671
  let v5778 : BitVec 32 := Scalar.addi c0_i32_2670 v5777
  let c1_i32_2673 : BitVec 32 := 1#32
  let arg14 : BitVec 32 := Scf.iv v5778 c1_i32_2673 k0_t2
  let c128_i32_3718 : BitVec 32 := 128#32
  let v10309 : BitVec 32 := Scalar.muli arg14 c128_i32_3718
  let v10370 : Index := Scalar.indexCast v10309
  let c0_3750 : Index := 0#32
  ![15, v10370.toNat, 0]
def k0_off58 (i : grid0.Coords) (k0_t2 : Fin (k0_t2_loop i).trips) (c0_i32_3801 : BitVec 32) : Fin 3 → Nat :=
  let c0_3804 : Index := 0#32
  let c0_i32_2670 : BitVec 32 := 0#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let v5774 : BitVec 32 := Scalar.subi v5773 c0_i32_2670
  let c1_i32_2671 : BitVec 32 := 1#32
  let v5776 : BitVec 32 := Scalar.divsi v5774 c1_i32_2671
  let v5777 : BitVec 32 := Scalar.muli v5776 c1_i32_2671
  let v5778 : BitVec 32 := Scalar.addi c0_i32_2670 v5777
  let c1_i32_2673 : BitVec 32 := 1#32
  let arg14 : BitVec 32 := Scf.iv v5778 c1_i32_2673 k0_t2
  let c4_i32_3800 : BitVec 32 := 4#32
  let v10425 : BitVec 32 := Scalar.muli arg14 c4_i32_3800
  let v10426 : BitVec 32 := Scalar.addi v10425 c0_i32_3801
  let c8_i32_3803 : BitVec 32 := 8#32
  let v10557 : BitVec 32 := Scalar.muli v10426 c8_i32_3803
  let v10558 : Index := Scalar.indexCast v10557
  let c0_3805 : Index := 0#32
  ![0, v10558.toNat, 0]
def k0_off59 (i : grid0.Coords) (k0_t2 : Fin (k0_t2_loop i).trips) (c0_i32_3801 : BitVec 32) : Fin 3 → Nat :=
  let c1_3811 : Index := 1#32
  let c0_i32_2670 : BitVec 32 := 0#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let v5774 : BitVec 32 := Scalar.subi v5773 c0_i32_2670
  let c1_i32_2671 : BitVec 32 := 1#32
  let v5776 : BitVec 32 := Scalar.divsi v5774 c1_i32_2671
  let v5777 : BitVec 32 := Scalar.muli v5776 c1_i32_2671
  let v5778 : BitVec 32 := Scalar.addi c0_i32_2670 v5777
  let c1_i32_2673 : BitVec 32 := 1#32
  let arg14 : BitVec 32 := Scf.iv v5778 c1_i32_2673 k0_t2
  let c4_i32_3800 : BitVec 32 := 4#32
  let v10425 : BitVec 32 := Scalar.muli arg14 c4_i32_3800
  let v10426 : BitVec 32 := Scalar.addi v10425 c0_i32_3801
  let c8_i32_3810 : BitVec 32 := 8#32
  let v10705 : BitVec 32 := Scalar.muli v10426 c8_i32_3810
  let v10706 : Index := Scalar.indexCast v10705
  let c0_3812 : Index := 0#32
  ![1, v10706.toNat, 0]
def k0_off60 (i : grid0.Coords) (k0_t2 : Fin (k0_t2_loop i).trips) (c0_i32_3801 : BitVec 32) : Fin 3 → Nat :=
  let c2_3818 : Index := 2#32
  let c0_i32_2670 : BitVec 32 := 0#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let v5774 : BitVec 32 := Scalar.subi v5773 c0_i32_2670
  let c1_i32_2671 : BitVec 32 := 1#32
  let v5776 : BitVec 32 := Scalar.divsi v5774 c1_i32_2671
  let v5777 : BitVec 32 := Scalar.muli v5776 c1_i32_2671
  let v5778 : BitVec 32 := Scalar.addi c0_i32_2670 v5777
  let c1_i32_2673 : BitVec 32 := 1#32
  let arg14 : BitVec 32 := Scf.iv v5778 c1_i32_2673 k0_t2
  let c4_i32_3800 : BitVec 32 := 4#32
  let v10425 : BitVec 32 := Scalar.muli arg14 c4_i32_3800
  let v10426 : BitVec 32 := Scalar.addi v10425 c0_i32_3801
  let c8_i32_3817 : BitVec 32 := 8#32
  let v10853 : BitVec 32 := Scalar.muli v10426 c8_i32_3817
  let v10854 : Index := Scalar.indexCast v10853
  let c0_3819 : Index := 0#32
  ![2, v10854.toNat, 0]
def k0_off61 (i : grid0.Coords) (k0_t2 : Fin (k0_t2_loop i).trips) (c0_i32_3801 : BitVec 32) : Fin 3 → Nat :=
  let c3_3825 : Index := 3#32
  let c0_i32_2670 : BitVec 32 := 0#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let v5774 : BitVec 32 := Scalar.subi v5773 c0_i32_2670
  let c1_i32_2671 : BitVec 32 := 1#32
  let v5776 : BitVec 32 := Scalar.divsi v5774 c1_i32_2671
  let v5777 : BitVec 32 := Scalar.muli v5776 c1_i32_2671
  let v5778 : BitVec 32 := Scalar.addi c0_i32_2670 v5777
  let c1_i32_2673 : BitVec 32 := 1#32
  let arg14 : BitVec 32 := Scf.iv v5778 c1_i32_2673 k0_t2
  let c4_i32_3800 : BitVec 32 := 4#32
  let v10425 : BitVec 32 := Scalar.muli arg14 c4_i32_3800
  let v10426 : BitVec 32 := Scalar.addi v10425 c0_i32_3801
  let c8_i32_3824 : BitVec 32 := 8#32
  let v11001 : BitVec 32 := Scalar.muli v10426 c8_i32_3824
  let v11002 : Index := Scalar.indexCast v11001
  let c0_3826 : Index := 0#32
  ![3, v11002.toNat, 0]
def k0_off62 (i : grid0.Coords) : Fin 3 → Nat :=
  let c0_2674 : Index := 0#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let c128_i32 : BitVec 32 := 128#32
  let v5781 : BitVec 32 := Scalar.muli v5773 c128_i32
  let v5782 : Index := Scalar.indexCast v5781
  let c0_2675 : Index := 0#32
  ![0, v5782.toNat, 0]
def k0_off63 (i : grid0.Coords) : Fin 3 → Nat :=
  let c1_2676 : Index := 1#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let c128_i32 : BitVec 32 := 128#32
  let v5781 : BitVec 32 := Scalar.muli v5773 c128_i32
  let v5786 : Index := Scalar.indexCast v5781
  let c0_2677 : Index := 0#32
  ![1, v5786.toNat, 0]
def k0_off64 (i : grid0.Coords) : Fin 3 → Nat :=
  let c2_2678 : Index := 2#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let c128_i32 : BitVec 32 := 128#32
  let v5781 : BitVec 32 := Scalar.muli v5773 c128_i32
  let v5790 : Index := Scalar.indexCast v5781
  let c0_2679 : Index := 0#32
  ![2, v5790.toNat, 0]
def k0_off65 (i : grid0.Coords) : Fin 3 → Nat :=
  let c3_2680 : Index := 3#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let c128_i32 : BitVec 32 := 128#32
  let v5781 : BitVec 32 := Scalar.muli v5773 c128_i32
  let v5794 : Index := Scalar.indexCast v5781
  let c0_2681 : Index := 0#32
  ![3, v5794.toNat, 0]
def k0_off66 (i : grid0.Coords) : Fin 3 → Nat :=
  let c4_2682 : Index := 4#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let c128_i32 : BitVec 32 := 128#32
  let v5781 : BitVec 32 := Scalar.muli v5773 c128_i32
  let v5798 : Index := Scalar.indexCast v5781
  let c0_2683 : Index := 0#32
  ![4, v5798.toNat, 0]
def k0_off67 (i : grid0.Coords) : Fin 3 → Nat :=
  let c5_2684 : Index := 5#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let c128_i32 : BitVec 32 := 128#32
  let v5781 : BitVec 32 := Scalar.muli v5773 c128_i32
  let v5802 : Index := Scalar.indexCast v5781
  let c0_2685 : Index := 0#32
  ![5, v5802.toNat, 0]
def k0_off68 (i : grid0.Coords) : Fin 3 → Nat :=
  let c6_2686 : Index := 6#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let c128_i32 : BitVec 32 := 128#32
  let v5781 : BitVec 32 := Scalar.muli v5773 c128_i32
  let v5806 : Index := Scalar.indexCast v5781
  let c0_2687 : Index := 0#32
  ![6, v5806.toNat, 0]
def k0_off69 (i : grid0.Coords) : Fin 3 → Nat :=
  let c7_2688 : Index := 7#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let c128_i32 : BitVec 32 := 128#32
  let v5781 : BitVec 32 := Scalar.muli v5773 c128_i32
  let v5810 : Index := Scalar.indexCast v5781
  let c0_2689 : Index := 0#32
  ![7, v5810.toNat, 0]
def k0_off70 (i : grid0.Coords) : Fin 3 → Nat :=
  let c8_2690 : Index := 8#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let c128_i32 : BitVec 32 := 128#32
  let v5781 : BitVec 32 := Scalar.muli v5773 c128_i32
  let v5814 : Index := Scalar.indexCast v5781
  let c0_2691 : Index := 0#32
  ![8, v5814.toNat, 0]
def k0_off71 (i : grid0.Coords) : Fin 3 → Nat :=
  let c9_2692 : Index := 9#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let c128_i32 : BitVec 32 := 128#32
  let v5781 : BitVec 32 := Scalar.muli v5773 c128_i32
  let v5818 : Index := Scalar.indexCast v5781
  let c0_2693 : Index := 0#32
  ![9, v5818.toNat, 0]
def k0_off72 (i : grid0.Coords) : Fin 3 → Nat :=
  let c10_2694 : Index := 10#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let c128_i32 : BitVec 32 := 128#32
  let v5781 : BitVec 32 := Scalar.muli v5773 c128_i32
  let v5822 : Index := Scalar.indexCast v5781
  let c0_2695 : Index := 0#32
  ![10, v5822.toNat, 0]
def k0_off73 (i : grid0.Coords) : Fin 3 → Nat :=
  let c11_2696 : Index := 11#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let c128_i32 : BitVec 32 := 128#32
  let v5781 : BitVec 32 := Scalar.muli v5773 c128_i32
  let v5826 : Index := Scalar.indexCast v5781
  let c0_2697 : Index := 0#32
  ![11, v5826.toNat, 0]
def k0_off74 (i : grid0.Coords) : Fin 3 → Nat :=
  let c12_2698 : Index := 12#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let c128_i32 : BitVec 32 := 128#32
  let v5781 : BitVec 32 := Scalar.muli v5773 c128_i32
  let v5830 : Index := Scalar.indexCast v5781
  let c0_2699 : Index := 0#32
  ![12, v5830.toNat, 0]
def k0_off75 (i : grid0.Coords) : Fin 3 → Nat :=
  let c13_2700 : Index := 13#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let c128_i32 : BitVec 32 := 128#32
  let v5781 : BitVec 32 := Scalar.muli v5773 c128_i32
  let v5834 : Index := Scalar.indexCast v5781
  let c0_2701 : Index := 0#32
  ![13, v5834.toNat, 0]
def k0_off76 (i : grid0.Coords) : Fin 3 → Nat :=
  let c14_2702 : Index := 14#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let c128_i32 : BitVec 32 := 128#32
  let v5781 : BitVec 32 := Scalar.muli v5773 c128_i32
  let v5838 : Index := Scalar.indexCast v5781
  let c0_2703 : Index := 0#32
  ![14, v5838.toNat, 0]
def k0_off77 (i : grid0.Coords) : Fin 3 → Nat :=
  let c15_2704 : Index := 15#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let c128_i32 : BitVec 32 := 128#32
  let v5781 : BitVec 32 := Scalar.muli v5773 c128_i32
  let v5842 : Index := Scalar.indexCast v5781
  let c0_2705 : Index := 0#32
  ![15, v5842.toNat, 0]
def k0_off78 (i : grid0.Coords) (c0_i32_2756 : BitVec 32) : Fin 3 → Nat :=
  let c0_2795 : Index := 0#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let c4_i32_2755 : BitVec 32 := 4#32
  let v5897 : BitVec 32 := Scalar.muli v5773 c4_i32_2755
  let v5898 : BitVec 32 := Scalar.addi v5897 c0_i32_2756
  let c8_i32_2794 : BitVec 32 := 8#32
  let v6141 : BitVec 32 := Scalar.muli v5898 c8_i32_2794
  let v6142 : Index := Scalar.indexCast v6141
  let c0_2796 : Index := 0#32
  ![0, v6142.toNat, 0]
def k0_off79 (i : grid0.Coords) (c0_i32_2756 : BitVec 32) : Fin 3 → Nat :=
  let c1_2850 : Index := 1#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let c4_i32_2755 : BitVec 32 := 4#32
  let v5897 : BitVec 32 := Scalar.muli v5773 c4_i32_2755
  let v5898 : BitVec 32 := Scalar.addi v5897 c0_i32_2756
  let c8_i32_2849 : BitVec 32 := 8#32
  let v6401 : BitVec 32 := Scalar.muli v5898 c8_i32_2849
  let v6402 : Index := Scalar.indexCast v6401
  let c0_2851 : Index := 0#32
  ![1, v6402.toNat, 0]
def k0_off80 (i : grid0.Coords) (c0_i32_2756 : BitVec 32) : Fin 3 → Nat :=
  let c2_2905 : Index := 2#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let c4_i32_2755 : BitVec 32 := 4#32
  let v5897 : BitVec 32 := Scalar.muli v5773 c4_i32_2755
  let v5898 : BitVec 32 := Scalar.addi v5897 c0_i32_2756
  let c8_i32_2904 : BitVec 32 := 8#32
  let v6661 : BitVec 32 := Scalar.muli v5898 c8_i32_2904
  let v6662 : Index := Scalar.indexCast v6661
  let c0_2906 : Index := 0#32
  ![2, v6662.toNat, 0]
def k0_off81 (i : grid0.Coords) (c0_i32_2756 : BitVec 32) : Fin 3 → Nat :=
  let c3_2960 : Index := 3#32
  let arg1 : BitVec 32 := BitVec.ofNat 32 (i 1).val
  let c0_i32_2664 : BitVec 32 := 0#32
  let v5758 : BitVec 1 := Scalar.cmpi .sgt arg1 c0_i32_2664
  let v5759 : BitVec 32 := Scalar.extui v5758
  let c0_i32_2665 : BitVec 32 := 0#32
  let v5760 : BitVec 1 := Scalar.cmpi .slt arg1 c0_i32_2665
  let v5761 : BitVec 32 := Scalar.extui v5760
  let v5762 : BitVec 32 := Scalar.subi v5759 v5761
  let c4_i32 : BitVec 32 := 4#32
  let c0_i32_2666 : BitVec 32 := 0#32
  let v5763 : BitVec 1 := Scalar.cmpi .sgt c4_i32 c0_i32_2666
  let v5764 : BitVec 32 := Scalar.extui v5763
  let c0_i32_2667 : BitVec 32 := 0#32
  let v5765 : BitVec 1 := Scalar.cmpi .slt c4_i32 c0_i32_2667
  let v5766 : BitVec 32 := Scalar.extui v5765
  let v5767 : BitVec 32 := Scalar.subi v5764 v5766
  let v5768 : BitVec 1 := Scalar.cmpi .ne v5762 v5767
  let v5769 : BitVec 32 := Scalar.remsi arg1 c4_i32
  let c0_i32_2668 : BitVec 32 := 0#32
  let v5770 : BitVec 1 := Scalar.cmpi .ne v5769 c0_i32_2668
  let v5771 : BitVec 1 := Scalar.andi v5768 v5770
  let v5757 : BitVec 32 := Scalar.divsi arg1 c4_i32
  let c1_i32_2669 : BitVec 32 := 1#32
  let v5772 : BitVec 32 := Scalar.subi v5757 c1_i32_2669
  let v5773 : BitVec 32 := Scalar.select v5771 v5772 v5757
  let c4_i32_2755 : BitVec 32 := 4#32
  let v5897 : BitVec 32 := Scalar.muli v5773 c4_i32_2755
  let v5898 : BitVec 32 := Scalar.addi v5897 c0_i32_2756
  let c8_i32_2959 : BitVec 32 := 8#32
  let v6921 : BitVec 32 := Scalar.muli v5898 c8_i32_2959
  let v6922 : Index := Scalar.indexCast v6921
  let c0_2961 : Index := 0#32
  ![3, v6922.toNat, 0]
@[reducible] def k0_t3_loop (i : grid0.Coords) : Scf.Loop 32 :=
  let c0_i32_3713 : BitVec 32 := 0#32
  let arg1 : BitVec 32 := BitVec.ofNat 32 (i 1).val
  let c0_i32_3706 : BitVec 32 := 0#32
  let v10285 : BitVec 1 := Scalar.cmpi .sgt arg1 c0_i32_3706
  let v10286 : BitVec 32 := Scalar.extui v10285
  let c0_i32_3707 : BitVec 32 := 0#32
  let v10287 : BitVec 1 := Scalar.cmpi .slt arg1 c0_i32_3707
  let v10288 : BitVec 32 := Scalar.extui v10287
  let v10289 : BitVec 32 := Scalar.subi v10286 v10288
  let c16_i32_3705 : BitVec 32 := 16#32
  let c0_i32_3708 : BitVec 32 := 0#32
  let v10290 : BitVec 1 := Scalar.cmpi .sgt c16_i32_3705 c0_i32_3708
  let v10291 : BitVec 32 := Scalar.extui v10290
  let c0_i32_3709 : BitVec 32 := 0#32
  let v10292 : BitVec 1 := Scalar.cmpi .slt c16_i32_3705 c0_i32_3709
  let v10293 : BitVec 32 := Scalar.extui v10292
  let v10294 : BitVec 32 := Scalar.subi v10291 v10293
  let v10295 : BitVec 1 := Scalar.cmpi .ne v10289 v10294
  let v10296 : BitVec 32 := Scalar.remsi arg1 c16_i32_3705
  let c0_i32_3710 : BitVec 32 := 0#32
  let v10297 : BitVec 1 := Scalar.cmpi .ne v10296 c0_i32_3710
  let v10298 : BitVec 1 := Scalar.andi v10295 v10297
  let v10284 : BitVec 32 := Scalar.divsi arg1 c16_i32_3705
  let c1_i32_3711 : BitVec 32 := 1#32
  let v10299 : BitVec 32 := Scalar.subi v10284 c1_i32_3711
  let v10300 : BitVec 32 := Scalar.select v10298 v10299 v10284
  let c1_i32_3712 : BitVec 32 := 1#32
  let v10301 : BitVec 32 := Scalar.addi v10300 c1_i32_3712
  let v10302 : BitVec 32 := Scalar.subi v10301 c0_i32_3713
  let c1_i32_3715 : BitVec 32 := 1#32
  let v10304 : BitVec 32 := Scalar.divsi v10302 c1_i32_3715
  let v10305 : BitVec 32 := Scalar.muli v10304 c1_i32_3715
  let v10306 : BitVec 32 := Scalar.addi c0_i32_3713 v10305
  let c1_i32_3716 : BitVec 32 := 1#32
  ⟨c0_i32_3713, v10306, c1_i32_3716⟩
def k0_mult1 (i : grid0.Coords) (k0_t3 : Fin (k0_t3_loop i).trips) : BitVec 32 :=
  let c0_i32_3713 : BitVec 32 := 0#32
  let c1_i32_3716 : BitVec 32 := 1#32
  let arg14 : BitVec 32 := Scf.iv c0_i32_3713 c1_i32_3716 k0_t3
  let c128_i32_3718 : BitVec 32 := 128#32
  let v10309 : BitVec 32 := Scalar.muli arg14 c128_i32_3718
  v10309
def k0_off82 (i : grid0.Coords) (k0_t3 : Fin (k0_t3_loop i).trips) : Fin 3 → Nat :=
  let c0_3719 : Index := 0#32
  let c0_i32_3713 : BitVec 32 := 0#32
  let c1_i32_3716 : BitVec 32 := 1#32
  let arg14 : BitVec 32 := Scf.iv c0_i32_3713 c1_i32_3716 k0_t3
  let c128_i32_3718 : BitVec 32 := 128#32
  let v10309 : BitVec 32 := Scalar.muli arg14 c128_i32_3718
  let v10310 : BitVec 32 := v10309
  let v10314 : Index := Scalar.indexCast v10310
  let c0_3720 : Index := 0#32
  ![0, v10314.toNat, 0]
def k0_off83 (i : grid0.Coords) (k0_t3 : Fin (k0_t3_loop i).trips) : Fin 4 → Nat :=
  let c0_3726 : Index := 0#32
  let c0_3727 : Index := 0#32
  let c0_3728 : Index := 0#32
  let c0_i32_3713 : BitVec 32 := 0#32
  let c1_i32_3716 : BitVec 32 := 1#32
  let arg14 : BitVec 32 := Scf.iv c0_i32_3713 c1_i32_3716 k0_t3
  let c128_i32_3718 : BitVec 32 := 128#32
  let v10309 : BitVec 32 := Scalar.muli arg14 c128_i32_3718
  let v10310 : BitVec 32 := v10309
  let v10379 : Index := Scalar.indexCast v10310
  ![0, 0, 0, v10379.toNat]
def k0_off84 (i : grid0.Coords) (k0_t3 : Fin (k0_t3_loop i).trips) : Fin 3 → Nat :=
  let c1_3729 : Index := 1#32
  let c0_i32_3713 : BitVec 32 := 0#32
  let c1_i32_3716 : BitVec 32 := 1#32
  let arg14 : BitVec 32 := Scf.iv c0_i32_3713 c1_i32_3716 k0_t3
  let c128_i32_3718 : BitVec 32 := 128#32
  let v10309 : BitVec 32 := Scalar.muli arg14 c128_i32_3718
  let v10310 : BitVec 32 := v10309
  let v10383 : Index := Scalar.indexCast v10310
  let c0_3730 : Index := 0#32
  ![1, v10383.toNat, 0]
def k0_off85 (i : grid0.Coords) (k0_t3 : Fin (k0_t3_loop i).trips) : Fin 4 → Nat :=
  let c0_3736 : Index := 0#32
  let c1_3737 : Index := 1#32
  let c0_3738 : Index := 0#32
  let c0_i32_3713 : BitVec 32 := 0#32
  let c1_i32_3716 : BitVec 32 := 1#32
  let arg14 : BitVec 32 := Scf.iv c0_i32_3713 c1_i32_3716 k0_t3
  let c128_i32_3718 : BitVec 32 := 128#32
  let v10309 : BitVec 32 := Scalar.muli arg14 c128_i32_3718
  let v10310 : BitVec 32 := v10309
  let v10448 : Index := Scalar.indexCast v10310
  ![0, 1, 0, v10448.toNat]
def k0_off86 (i : grid0.Coords) (k0_t3 : Fin (k0_t3_loop i).trips) : Fin 3 → Nat :=
  let c2_3739 : Index := 2#32
  let c0_i32_3713 : BitVec 32 := 0#32
  let c1_i32_3716 : BitVec 32 := 1#32
  let arg14 : BitVec 32 := Scf.iv c0_i32_3713 c1_i32_3716 k0_t3
  let c128_i32_3718 : BitVec 32 := 128#32
  let v10309 : BitVec 32 := Scalar.muli arg14 c128_i32_3718
  let v10310 : BitVec 32 := v10309
  let v10452 : Index := Scalar.indexCast v10310
  let c0_3740 : Index := 0#32
  ![2, v10452.toNat, 0]
def k0_off87 (i : grid0.Coords) (k0_t3 : Fin (k0_t3_loop i).trips) : Fin 4 → Nat :=
  let c0_3746 : Index := 0#32
  let c2_3747 : Index := 2#32
  let c0_3748 : Index := 0#32
  let c0_i32_3713 : BitVec 32 := 0#32
  let c1_i32_3716 : BitVec 32 := 1#32
  let arg14 : BitVec 32 := Scf.iv c0_i32_3713 c1_i32_3716 k0_t3
  let c128_i32_3718 : BitVec 32 := 128#32
  let v10309 : BitVec 32 := Scalar.muli arg14 c128_i32_3718
  let v10310 : BitVec 32 := v10309
  let v10517 : Index := Scalar.indexCast v10310
  ![0, 2, 0, v10517.toNat]
def k0_off88 (i : grid0.Coords) (k0_t3 : Fin (k0_t3_loop i).trips) : Fin 3 → Nat :=
  let c3_3749 : Index := 3#32
  let c0_i32_3713 : BitVec 32 := 0#32
  let c1_i32_3716 : BitVec 32 := 1#32
  let arg14 : BitVec 32 := Scf.iv c0_i32_3713 c1_i32_3716 k0_t3
  let c128_i32_3718 : BitVec 32 := 128#32
  let v10309 : BitVec 32 := Scalar.muli arg14 c128_i32_3718
  let v10310 : BitVec 32 := v10309
  let v10521 : Index := Scalar.indexCast v10310
  let c0_3750 : Index := 0#32
  ![3, v10521.toNat, 0]
def k0_off89 (i : grid0.Coords) (k0_t3 : Fin (k0_t3_loop i).trips) : Fin 4 → Nat :=
  let c0_3756 : Index := 0#32
  let c3_3757 : Index := 3#32
  let c0_3758 : Index := 0#32
  let c0_i32_3713 : BitVec 32 := 0#32
  let c1_i32_3716 : BitVec 32 := 1#32
  let arg14 : BitVec 32 := Scf.iv c0_i32_3713 c1_i32_3716 k0_t3
  let c128_i32_3718 : BitVec 32 := 128#32
  let v10309 : BitVec 32 := Scalar.muli arg14 c128_i32_3718
  let v10310 : BitVec 32 := v10309
  let v10586 : Index := Scalar.indexCast v10310
  ![0, 3, 0, v10586.toNat]
@[reducible] def k0_t4_loop (i : grid0.Coords) : Scf.Loop 32 :=
  let c0_i32_3713 : BitVec 32 := 0#32
  let arg1 : BitVec 32 := BitVec.ofNat 32 (i 1).val
  let c0_i32_3706 : BitVec 32 := 0#32
  let v10285 : BitVec 1 := Scalar.cmpi .sgt arg1 c0_i32_3706
  let v10286 : BitVec 32 := Scalar.extui v10285
  let c0_i32_3707 : BitVec 32 := 0#32
  let v10287 : BitVec 1 := Scalar.cmpi .slt arg1 c0_i32_3707
  let v10288 : BitVec 32 := Scalar.extui v10287
  let v10289 : BitVec 32 := Scalar.subi v10286 v10288
  let c16_i32_3705 : BitVec 32 := 16#32
  let c0_i32_3708 : BitVec 32 := 0#32
  let v10290 : BitVec 1 := Scalar.cmpi .sgt c16_i32_3705 c0_i32_3708
  let v10291 : BitVec 32 := Scalar.extui v10290
  let c0_i32_3709 : BitVec 32 := 0#32
  let v10292 : BitVec 1 := Scalar.cmpi .slt c16_i32_3705 c0_i32_3709
  let v10293 : BitVec 32 := Scalar.extui v10292
  let v10294 : BitVec 32 := Scalar.subi v10291 v10293
  let v10295 : BitVec 1 := Scalar.cmpi .ne v10289 v10294
  let v10296 : BitVec 32 := Scalar.remsi arg1 c16_i32_3705
  let c0_i32_3710 : BitVec 32 := 0#32
  let v10297 : BitVec 1 := Scalar.cmpi .ne v10296 c0_i32_3710
  let v10298 : BitVec 1 := Scalar.andi v10295 v10297
  let v10284 : BitVec 32 := Scalar.divsi arg1 c16_i32_3705
  let c1_i32_3711 : BitVec 32 := 1#32
  let v10299 : BitVec 32 := Scalar.subi v10284 c1_i32_3711
  let v10300 : BitVec 32 := Scalar.select v10298 v10299 v10284
  let c1_i32_3712 : BitVec 32 := 1#32
  let v10301 : BitVec 32 := Scalar.addi v10300 c1_i32_3712
  let v10302 : BitVec 32 := Scalar.subi v10301 c0_i32_3713
  let c1_i32_3715 : BitVec 32 := 1#32
  let v10304 : BitVec 32 := Scalar.divsi v10302 c1_i32_3715
  let v10305 : BitVec 32 := Scalar.muli v10304 c1_i32_3715
  let v10306 : BitVec 32 := Scalar.addi c0_i32_3713 v10305
  let v10303 : BitVec 32 := Scalar.addi c0_i32_3713 v10302
  let c1_i32_3717 : BitVec 32 := 1#32
  ⟨v10306, v10303, c1_i32_3717⟩
def k0_mult2 (i : grid0.Coords) (k0_t4 : Fin (k0_t4_loop i).trips) : BitVec 32 :=
  let c0_i32_3713 : BitVec 32 := 0#32
  let arg1 : BitVec 32 := BitVec.ofNat 32 (i 1).val
  let c0_i32_3706 : BitVec 32 := 0#32
  let v10285 : BitVec 1 := Scalar.cmpi .sgt arg1 c0_i32_3706
  let v10286 : BitVec 32 := Scalar.extui v10285
  let c0_i32_3707 : BitVec 32 := 0#32
  let v10287 : BitVec 1 := Scalar.cmpi .slt arg1 c0_i32_3707
  let v10288 : BitVec 32 := Scalar.extui v10287
  let v10289 : BitVec 32 := Scalar.subi v10286 v10288
  let c16_i32_3705 : BitVec 32 := 16#32
  let c0_i32_3708 : BitVec 32 := 0#32
  let v10290 : BitVec 1 := Scalar.cmpi .sgt c16_i32_3705 c0_i32_3708
  let v10291 : BitVec 32 := Scalar.extui v10290
  let c0_i32_3709 : BitVec 32 := 0#32
  let v10292 : BitVec 1 := Scalar.cmpi .slt c16_i32_3705 c0_i32_3709
  let v10293 : BitVec 32 := Scalar.extui v10292
  let v10294 : BitVec 32 := Scalar.subi v10291 v10293
  let v10295 : BitVec 1 := Scalar.cmpi .ne v10289 v10294
  let v10296 : BitVec 32 := Scalar.remsi arg1 c16_i32_3705
  let c0_i32_3710 : BitVec 32 := 0#32
  let v10297 : BitVec 1 := Scalar.cmpi .ne v10296 c0_i32_3710
  let v10298 : BitVec 1 := Scalar.andi v10295 v10297
  let v10284 : BitVec 32 := Scalar.divsi arg1 c16_i32_3705
  let c1_i32_3711 : BitVec 32 := 1#32
  let v10299 : BitVec 32 := Scalar.subi v10284 c1_i32_3711
  let v10300 : BitVec 32 := Scalar.select v10298 v10299 v10284
  let c1_i32_3712 : BitVec 32 := 1#32
  let v10301 : BitVec 32 := Scalar.addi v10300 c1_i32_3712
  let v10302 : BitVec 32 := Scalar.subi v10301 c0_i32_3713
  let c1_i32_3715 : BitVec 32 := 1#32
  let v10304 : BitVec 32 := Scalar.divsi v10302 c1_i32_3715
  let v10305 : BitVec 32 := Scalar.muli v10304 c1_i32_3715
  let v10306 : BitVec 32 := Scalar.addi c0_i32_3713 v10305
  let c1_i32_3717 : BitVec 32 := 1#32
  let arg14 : BitVec 32 := Scf.iv v10306 c1_i32_3717 k0_t4
  let c128_i32_3718 : BitVec 32 := 128#32
  let v10309 : BitVec 32 := Scalar.muli arg14 c128_i32_3718
  v10309
def k0_off90 (i : grid0.Coords) (k0_t4 : Fin (k0_t4_loop i).trips) : Fin 3 → Nat :=
  let c0_3719 : Index := 0#32
  let c0_i32_3713 : BitVec 32 := 0#32
  let arg1 : BitVec 32 := BitVec.ofNat 32 (i 1).val
  let c0_i32_3706 : BitVec 32 := 0#32
  let v10285 : BitVec 1 := Scalar.cmpi .sgt arg1 c0_i32_3706
  let v10286 : BitVec 32 := Scalar.extui v10285
  let c0_i32_3707 : BitVec 32 := 0#32
  let v10287 : BitVec 1 := Scalar.cmpi .slt arg1 c0_i32_3707
  let v10288 : BitVec 32 := Scalar.extui v10287
  let v10289 : BitVec 32 := Scalar.subi v10286 v10288
  let c16_i32_3705 : BitVec 32 := 16#32
  let c0_i32_3708 : BitVec 32 := 0#32
  let v10290 : BitVec 1 := Scalar.cmpi .sgt c16_i32_3705 c0_i32_3708
  let v10291 : BitVec 32 := Scalar.extui v10290
  let c0_i32_3709 : BitVec 32 := 0#32
  let v10292 : BitVec 1 := Scalar.cmpi .slt c16_i32_3705 c0_i32_3709
  let v10293 : BitVec 32 := Scalar.extui v10292
  let v10294 : BitVec 32 := Scalar.subi v10291 v10293
  let v10295 : BitVec 1 := Scalar.cmpi .ne v10289 v10294
  let v10296 : BitVec 32 := Scalar.remsi arg1 c16_i32_3705
  let c0_i32_3710 : BitVec 32 := 0#32
  let v10297 : BitVec 1 := Scalar.cmpi .ne v10296 c0_i32_3710
  let v10298 : BitVec 1 := Scalar.andi v10295 v10297
  let v10284 : BitVec 32 := Scalar.divsi arg1 c16_i32_3705
  let c1_i32_3711 : BitVec 32 := 1#32
  let v10299 : BitVec 32 := Scalar.subi v10284 c1_i32_3711
  let v10300 : BitVec 32 := Scalar.select v10298 v10299 v10284
  let c1_i32_3712 : BitVec 32 := 1#32
  let v10301 : BitVec 32 := Scalar.addi v10300 c1_i32_3712
  let v10302 : BitVec 32 := Scalar.subi v10301 c0_i32_3713
  let c1_i32_3715 : BitVec 32 := 1#32
  let v10304 : BitVec 32 := Scalar.divsi v10302 c1_i32_3715
  let v10305 : BitVec 32 := Scalar.muli v10304 c1_i32_3715
  let v10306 : BitVec 32 := Scalar.addi c0_i32_3713 v10305
  let c1_i32_3717 : BitVec 32 := 1#32
  let arg14 : BitVec 32 := Scf.iv v10306 c1_i32_3717 k0_t4
  let c128_i32_3718 : BitVec 32 := 128#32
  let v10309 : BitVec 32 := Scalar.muli arg14 c128_i32_3718
  let v10310 : BitVec 32 := v10309
  let v10314 : Index := Scalar.indexCast v10310
  let c0_3720 : Index := 0#32
  ![0, v10314.toNat, 0]
def k0_off91 (i : grid0.Coords) (k0_t4 : Fin (k0_t4_loop i).trips) : Fin 4 → Nat :=
  let c0_3726 : Index := 0#32
  let c0_3727 : Index := 0#32
  let c0_3728 : Index := 0#32
  let c0_i32_3713 : BitVec 32 := 0#32
  let arg1 : BitVec 32 := BitVec.ofNat 32 (i 1).val
  let c0_i32_3706 : BitVec 32 := 0#32
  let v10285 : BitVec 1 := Scalar.cmpi .sgt arg1 c0_i32_3706
  let v10286 : BitVec 32 := Scalar.extui v10285
  let c0_i32_3707 : BitVec 32 := 0#32
  let v10287 : BitVec 1 := Scalar.cmpi .slt arg1 c0_i32_3707
  let v10288 : BitVec 32 := Scalar.extui v10287
  let v10289 : BitVec 32 := Scalar.subi v10286 v10288
  let c16_i32_3705 : BitVec 32 := 16#32
  let c0_i32_3708 : BitVec 32 := 0#32
  let v10290 : BitVec 1 := Scalar.cmpi .sgt c16_i32_3705 c0_i32_3708
  let v10291 : BitVec 32 := Scalar.extui v10290
  let c0_i32_3709 : BitVec 32 := 0#32
  let v10292 : BitVec 1 := Scalar.cmpi .slt c16_i32_3705 c0_i32_3709
  let v10293 : BitVec 32 := Scalar.extui v10292
  let v10294 : BitVec 32 := Scalar.subi v10291 v10293
  let v10295 : BitVec 1 := Scalar.cmpi .ne v10289 v10294
  let v10296 : BitVec 32 := Scalar.remsi arg1 c16_i32_3705
  let c0_i32_3710 : BitVec 32 := 0#32
  let v10297 : BitVec 1 := Scalar.cmpi .ne v10296 c0_i32_3710
  let v10298 : BitVec 1 := Scalar.andi v10295 v10297
  let v10284 : BitVec 32 := Scalar.divsi arg1 c16_i32_3705
  let c1_i32_3711 : BitVec 32 := 1#32
  let v10299 : BitVec 32 := Scalar.subi v10284 c1_i32_3711
  let v10300 : BitVec 32 := Scalar.select v10298 v10299 v10284
  let c1_i32_3712 : BitVec 32 := 1#32
  let v10301 : BitVec 32 := Scalar.addi v10300 c1_i32_3712
  let v10302 : BitVec 32 := Scalar.subi v10301 c0_i32_3713
  let c1_i32_3715 : BitVec 32 := 1#32
  let v10304 : BitVec 32 := Scalar.divsi v10302 c1_i32_3715
  let v10305 : BitVec 32 := Scalar.muli v10304 c1_i32_3715
  let v10306 : BitVec 32 := Scalar.addi c0_i32_3713 v10305
  let c1_i32_3717 : BitVec 32 := 1#32
  let arg14 : BitVec 32 := Scf.iv v10306 c1_i32_3717 k0_t4
  let c128_i32_3718 : BitVec 32 := 128#32
  let v10309 : BitVec 32 := Scalar.muli arg14 c128_i32_3718
  let v10310 : BitVec 32 := v10309
  let v10379 : Index := Scalar.indexCast v10310
  ![0, 0, 0, v10379.toNat]
def k0_off92 (i : grid0.Coords) (k0_t4 : Fin (k0_t4_loop i).trips) : Fin 3 → Nat :=
  let c1_3729 : Index := 1#32
  let c0_i32_3713 : BitVec 32 := 0#32
  let arg1 : BitVec 32 := BitVec.ofNat 32 (i 1).val
  let c0_i32_3706 : BitVec 32 := 0#32
  let v10285 : BitVec 1 := Scalar.cmpi .sgt arg1 c0_i32_3706
  let v10286 : BitVec 32 := Scalar.extui v10285
  let c0_i32_3707 : BitVec 32 := 0#32
  let v10287 : BitVec 1 := Scalar.cmpi .slt arg1 c0_i32_3707
  let v10288 : BitVec 32 := Scalar.extui v10287
  let v10289 : BitVec 32 := Scalar.subi v10286 v10288
  let c16_i32_3705 : BitVec 32 := 16#32
  let c0_i32_3708 : BitVec 32 := 0#32
  let v10290 : BitVec 1 := Scalar.cmpi .sgt c16_i32_3705 c0_i32_3708
  let v10291 : BitVec 32 := Scalar.extui v10290
  let c0_i32_3709 : BitVec 32 := 0#32
  let v10292 : BitVec 1 := Scalar.cmpi .slt c16_i32_3705 c0_i32_3709
  let v10293 : BitVec 32 := Scalar.extui v10292
  let v10294 : BitVec 32 := Scalar.subi v10291 v10293
  let v10295 : BitVec 1 := Scalar.cmpi .ne v10289 v10294
  let v10296 : BitVec 32 := Scalar.remsi arg1 c16_i32_3705
  let c0_i32_3710 : BitVec 32 := 0#32
  let v10297 : BitVec 1 := Scalar.cmpi .ne v10296 c0_i32_3710
  let v10298 : BitVec 1 := Scalar.andi v10295 v10297
  let v10284 : BitVec 32 := Scalar.divsi arg1 c16_i32_3705
  let c1_i32_3711 : BitVec 32 := 1#32
  let v10299 : BitVec 32 := Scalar.subi v10284 c1_i32_3711
  let v10300 : BitVec 32 := Scalar.select v10298 v10299 v10284
  let c1_i32_3712 : BitVec 32 := 1#32
  let v10301 : BitVec 32 := Scalar.addi v10300 c1_i32_3712
  let v10302 : BitVec 32 := Scalar.subi v10301 c0_i32_3713
  let c1_i32_3715 : BitVec 32 := 1#32
  let v10304 : BitVec 32 := Scalar.divsi v10302 c1_i32_3715
  let v10305 : BitVec 32 := Scalar.muli v10304 c1_i32_3715
  let v10306 : BitVec 32 := Scalar.addi c0_i32_3713 v10305
  let c1_i32_3717 : BitVec 32 := 1#32
  let arg14 : BitVec 32 := Scf.iv v10306 c1_i32_3717 k0_t4
  let c128_i32_3718 : BitVec 32 := 128#32
  let v10309 : BitVec 32 := Scalar.muli arg14 c128_i32_3718
  let v10310 : BitVec 32 := v10309
  let v10383 : Index := Scalar.indexCast v10310
  let c0_3730 : Index := 0#32
  ![1, v10383.toNat, 0]
def k0_off93 (i : grid0.Coords) (k0_t4 : Fin (k0_t4_loop i).trips) : Fin 4 → Nat :=
  let c0_3736 : Index := 0#32
  let c1_3737 : Index := 1#32
  let c0_3738 : Index := 0#32
  let c0_i32_3713 : BitVec 32 := 0#32
  let arg1 : BitVec 32 := BitVec.ofNat 32 (i 1).val
  let c0_i32_3706 : BitVec 32 := 0#32
  let v10285 : BitVec 1 := Scalar.cmpi .sgt arg1 c0_i32_3706
  let v10286 : BitVec 32 := Scalar.extui v10285
  let c0_i32_3707 : BitVec 32 := 0#32
  let v10287 : BitVec 1 := Scalar.cmpi .slt arg1 c0_i32_3707
  let v10288 : BitVec 32 := Scalar.extui v10287
  let v10289 : BitVec 32 := Scalar.subi v10286 v10288
  let c16_i32_3705 : BitVec 32 := 16#32
  let c0_i32_3708 : BitVec 32 := 0#32
  let v10290 : BitVec 1 := Scalar.cmpi .sgt c16_i32_3705 c0_i32_3708
  let v10291 : BitVec 32 := Scalar.extui v10290
  let c0_i32_3709 : BitVec 32 := 0#32
  let v10292 : BitVec 1 := Scalar.cmpi .slt c16_i32_3705 c0_i32_3709
  let v10293 : BitVec 32 := Scalar.extui v10292
  let v10294 : BitVec 32 := Scalar.subi v10291 v10293
  let v10295 : BitVec 1 := Scalar.cmpi .ne v10289 v10294
  let v10296 : BitVec 32 := Scalar.remsi arg1 c16_i32_3705
  let c0_i32_3710 : BitVec 32 := 0#32
  let v10297 : BitVec 1 := Scalar.cmpi .ne v10296 c0_i32_3710
  let v10298 : BitVec 1 := Scalar.andi v10295 v10297
  let v10284 : BitVec 32 := Scalar.divsi arg1 c16_i32_3705
  let c1_i32_3711 : BitVec 32 := 1#32
  let v10299 : BitVec 32 := Scalar.subi v10284 c1_i32_3711
  let v10300 : BitVec 32 := Scalar.select v10298 v10299 v10284
  let c1_i32_3712 : BitVec 32 := 1#32
  let v10301 : BitVec 32 := Scalar.addi v10300 c1_i32_3712
  let v10302 : BitVec 32 := Scalar.subi v10301 c0_i32_3713
  let c1_i32_3715 : BitVec 32 := 1#32
  let v10304 : BitVec 32 := Scalar.divsi v10302 c1_i32_3715
  let v10305 : BitVec 32 := Scalar.muli v10304 c1_i32_3715
  let v10306 : BitVec 32 := Scalar.addi c0_i32_3713 v10305
  let c1_i32_3717 : BitVec 32 := 1#32
  let arg14 : BitVec 32 := Scf.iv v10306 c1_i32_3717 k0_t4
  let c128_i32_3718 : BitVec 32 := 128#32
  let v10309 : BitVec 32 := Scalar.muli arg14 c128_i32_3718
  let v10310 : BitVec 32 := v10309
  let v10448 : Index := Scalar.indexCast v10310
  ![0, 1, 0, v10448.toNat]
def k0_off94 (i : grid0.Coords) (k0_t4 : Fin (k0_t4_loop i).trips) : Fin 3 → Nat :=
  let c2_3739 : Index := 2#32
  let c0_i32_3713 : BitVec 32 := 0#32
  let arg1 : BitVec 32 := BitVec.ofNat 32 (i 1).val
  let c0_i32_3706 : BitVec 32 := 0#32
  let v10285 : BitVec 1 := Scalar.cmpi .sgt arg1 c0_i32_3706
  let v10286 : BitVec 32 := Scalar.extui v10285
  let c0_i32_3707 : BitVec 32 := 0#32
  let v10287 : BitVec 1 := Scalar.cmpi .slt arg1 c0_i32_3707
  let v10288 : BitVec 32 := Scalar.extui v10287
  let v10289 : BitVec 32 := Scalar.subi v10286 v10288
  let c16_i32_3705 : BitVec 32 := 16#32
  let c0_i32_3708 : BitVec 32 := 0#32
  let v10290 : BitVec 1 := Scalar.cmpi .sgt c16_i32_3705 c0_i32_3708
  let v10291 : BitVec 32 := Scalar.extui v10290
  let c0_i32_3709 : BitVec 32 := 0#32
  let v10292 : BitVec 1 := Scalar.cmpi .slt c16_i32_3705 c0_i32_3709
  let v10293 : BitVec 32 := Scalar.extui v10292
  let v10294 : BitVec 32 := Scalar.subi v10291 v10293
  let v10295 : BitVec 1 := Scalar.cmpi .ne v10289 v10294
  let v10296 : BitVec 32 := Scalar.remsi arg1 c16_i32_3705
  let c0_i32_3710 : BitVec 32 := 0#32
  let v10297 : BitVec 1 := Scalar.cmpi .ne v10296 c0_i32_3710
  let v10298 : BitVec 1 := Scalar.andi v10295 v10297
  let v10284 : BitVec 32 := Scalar.divsi arg1 c16_i32_3705
  let c1_i32_3711 : BitVec 32 := 1#32
  let v10299 : BitVec 32 := Scalar.subi v10284 c1_i32_3711
  let v10300 : BitVec 32 := Scalar.select v10298 v10299 v10284
  let c1_i32_3712 : BitVec 32 := 1#32
  let v10301 : BitVec 32 := Scalar.addi v10300 c1_i32_3712
  let v10302 : BitVec 32 := Scalar.subi v10301 c0_i32_3713
  let c1_i32_3715 : BitVec 32 := 1#32
  let v10304 : BitVec 32 := Scalar.divsi v10302 c1_i32_3715
  let v10305 : BitVec 32 := Scalar.muli v10304 c1_i32_3715
  let v10306 : BitVec 32 := Scalar.addi c0_i32_3713 v10305
  let c1_i32_3717 : BitVec 32 := 1#32
  let arg14 : BitVec 32 := Scf.iv v10306 c1_i32_3717 k0_t4
  let c128_i32_3718 : BitVec 32 := 128#32
  let v10309 : BitVec 32 := Scalar.muli arg14 c128_i32_3718
  let v10310 : BitVec 32 := v10309
  let v10452 : Index := Scalar.indexCast v10310
  let c0_3740 : Index := 0#32
  ![2, v10452.toNat, 0]
def k0_off95 (i : grid0.Coords) (k0_t4 : Fin (k0_t4_loop i).trips) : Fin 4 → Nat :=
  let c0_3746 : Index := 0#32
  let c2_3747 : Index := 2#32
  let c0_3748 : Index := 0#32
  let c0_i32_3713 : BitVec 32 := 0#32
  let arg1 : BitVec 32 := BitVec.ofNat 32 (i 1).val
  let c0_i32_3706 : BitVec 32 := 0#32
  let v10285 : BitVec 1 := Scalar.cmpi .sgt arg1 c0_i32_3706
  let v10286 : BitVec 32 := Scalar.extui v10285
  let c0_i32_3707 : BitVec 32 := 0#32
  let v10287 : BitVec 1 := Scalar.cmpi .slt arg1 c0_i32_3707
  let v10288 : BitVec 32 := Scalar.extui v10287
  let v10289 : BitVec 32 := Scalar.subi v10286 v10288
  let c16_i32_3705 : BitVec 32 := 16#32
  let c0_i32_3708 : BitVec 32 := 0#32
  let v10290 : BitVec 1 := Scalar.cmpi .sgt c16_i32_3705 c0_i32_3708
  let v10291 : BitVec 32 := Scalar.extui v10290
  let c0_i32_3709 : BitVec 32 := 0#32
  let v10292 : BitVec 1 := Scalar.cmpi .slt c16_i32_3705 c0_i32_3709
  let v10293 : BitVec 32 := Scalar.extui v10292
  let v10294 : BitVec 32 := Scalar.subi v10291 v10293
  let v10295 : BitVec 1 := Scalar.cmpi .ne v10289 v10294
  let v10296 : BitVec 32 := Scalar.remsi arg1 c16_i32_3705
  let c0_i32_3710 : BitVec 32 := 0#32
  let v10297 : BitVec 1 := Scalar.cmpi .ne v10296 c0_i32_3710
  let v10298 : BitVec 1 := Scalar.andi v10295 v10297
  let v10284 : BitVec 32 := Scalar.divsi arg1 c16_i32_3705
  let c1_i32_3711 : BitVec 32 := 1#32
  let v10299 : BitVec 32 := Scalar.subi v10284 c1_i32_3711
  let v10300 : BitVec 32 := Scalar.select v10298 v10299 v10284
  let c1_i32_3712 : BitVec 32 := 1#32
  let v10301 : BitVec 32 := Scalar.addi v10300 c1_i32_3712
  let v10302 : BitVec 32 := Scalar.subi v10301 c0_i32_3713
  let c1_i32_3715 : BitVec 32 := 1#32
  let v10304 : BitVec 32 := Scalar.divsi v10302 c1_i32_3715
  let v10305 : BitVec 32 := Scalar.muli v10304 c1_i32_3715
  let v10306 : BitVec 32 := Scalar.addi c0_i32_3713 v10305
  let c1_i32_3717 : BitVec 32 := 1#32
  let arg14 : BitVec 32 := Scf.iv v10306 c1_i32_3717 k0_t4
  let c128_i32_3718 : BitVec 32 := 128#32
  let v10309 : BitVec 32 := Scalar.muli arg14 c128_i32_3718
  let v10310 : BitVec 32 := v10309
  let v10517 : Index := Scalar.indexCast v10310
  ![0, 2, 0, v10517.toNat]
def k0_off96 (i : grid0.Coords) (k0_t4 : Fin (k0_t4_loop i).trips) : Fin 3 → Nat :=
  let c3_3749 : Index := 3#32
  let c0_i32_3713 : BitVec 32 := 0#32
  let arg1 : BitVec 32 := BitVec.ofNat 32 (i 1).val
  let c0_i32_3706 : BitVec 32 := 0#32
  let v10285 : BitVec 1 := Scalar.cmpi .sgt arg1 c0_i32_3706
  let v10286 : BitVec 32 := Scalar.extui v10285
  let c0_i32_3707 : BitVec 32 := 0#32
  let v10287 : BitVec 1 := Scalar.cmpi .slt arg1 c0_i32_3707
  let v10288 : BitVec 32 := Scalar.extui v10287
  let v10289 : BitVec 32 := Scalar.subi v10286 v10288
  let c16_i32_3705 : BitVec 32 := 16#32
  let c0_i32_3708 : BitVec 32 := 0#32
  let v10290 : BitVec 1 := Scalar.cmpi .sgt c16_i32_3705 c0_i32_3708
  let v10291 : BitVec 32 := Scalar.extui v10290
  let c0_i32_3709 : BitVec 32 := 0#32
  let v10292 : BitVec 1 := Scalar.cmpi .slt c16_i32_3705 c0_i32_3709
  let v10293 : BitVec 32 := Scalar.extui v10292
  let v10294 : BitVec 32 := Scalar.subi v10291 v10293
  let v10295 : BitVec 1 := Scalar.cmpi .ne v10289 v10294
  let v10296 : BitVec 32 := Scalar.remsi arg1 c16_i32_3705
  let c0_i32_3710 : BitVec 32 := 0#32
  let v10297 : BitVec 1 := Scalar.cmpi .ne v10296 c0_i32_3710
  let v10298 : BitVec 1 := Scalar.andi v10295 v10297
  let v10284 : BitVec 32 := Scalar.divsi arg1 c16_i32_3705
  let c1_i32_3711 : BitVec 32 := 1#32
  let v10299 : BitVec 32 := Scalar.subi v10284 c1_i32_3711
  let v10300 : BitVec 32 := Scalar.select v10298 v10299 v10284
  let c1_i32_3712 : BitVec 32 := 1#32
  let v10301 : BitVec 32 := Scalar.addi v10300 c1_i32_3712
  let v10302 : BitVec 32 := Scalar.subi v10301 c0_i32_3713
  let c1_i32_3715 : BitVec 32 := 1#32
  let v10304 : BitVec 32 := Scalar.divsi v10302 c1_i32_3715
  let v10305 : BitVec 32 := Scalar.muli v10304 c1_i32_3715
  let v10306 : BitVec 32 := Scalar.addi c0_i32_3713 v10305
  let c1_i32_3717 : BitVec 32 := 1#32
  let arg14 : BitVec 32 := Scf.iv v10306 c1_i32_3717 k0_t4
  let c128_i32_3718 : BitVec 32 := 128#32
  let v10309 : BitVec 32 := Scalar.muli arg14 c128_i32_3718
  let v10310 : BitVec 32 := v10309
  let v10521 : Index := Scalar.indexCast v10310
  let c0_3750 : Index := 0#32
  ![3, v10521.toNat, 0]
def k0_off97 (i : grid0.Coords) (k0_t4 : Fin (k0_t4_loop i).trips) : Fin 4 → Nat :=
  let c0_3756 : Index := 0#32
  let c3_3757 : Index := 3#32
  let c0_3758 : Index := 0#32
  let c0_i32_3713 : BitVec 32 := 0#32
  let arg1 : BitVec 32 := BitVec.ofNat 32 (i 1).val
  let c0_i32_3706 : BitVec 32 := 0#32
  let v10285 : BitVec 1 := Scalar.cmpi .sgt arg1 c0_i32_3706
  let v10286 : BitVec 32 := Scalar.extui v10285
  let c0_i32_3707 : BitVec 32 := 0#32
  let v10287 : BitVec 1 := Scalar.cmpi .slt arg1 c0_i32_3707
  let v10288 : BitVec 32 := Scalar.extui v10287
  let v10289 : BitVec 32 := Scalar.subi v10286 v10288
  let c16_i32_3705 : BitVec 32 := 16#32
  let c0_i32_3708 : BitVec 32 := 0#32
  let v10290 : BitVec 1 := Scalar.cmpi .sgt c16_i32_3705 c0_i32_3708
  let v10291 : BitVec 32 := Scalar.extui v10290
  let c0_i32_3709 : BitVec 32 := 0#32
  let v10292 : BitVec 1 := Scalar.cmpi .slt c16_i32_3705 c0_i32_3709
  let v10293 : BitVec 32 := Scalar.extui v10292
  let v10294 : BitVec 32 := Scalar.subi v10291 v10293
  let v10295 : BitVec 1 := Scalar.cmpi .ne v10289 v10294
  let v10296 : BitVec 32 := Scalar.remsi arg1 c16_i32_3705
  let c0_i32_3710 : BitVec 32 := 0#32
  let v10297 : BitVec 1 := Scalar.cmpi .ne v10296 c0_i32_3710
  let v10298 : BitVec 1 := Scalar.andi v10295 v10297
  let v10284 : BitVec 32 := Scalar.divsi arg1 c16_i32_3705
  let c1_i32_3711 : BitVec 32 := 1#32
  let v10299 : BitVec 32 := Scalar.subi v10284 c1_i32_3711
  let v10300 : BitVec 32 := Scalar.select v10298 v10299 v10284
  let c1_i32_3712 : BitVec 32 := 1#32
  let v10301 : BitVec 32 := Scalar.addi v10300 c1_i32_3712
  let v10302 : BitVec 32 := Scalar.subi v10301 c0_i32_3713
  let c1_i32_3715 : BitVec 32 := 1#32
  let v10304 : BitVec 32 := Scalar.divsi v10302 c1_i32_3715
  let v10305 : BitVec 32 := Scalar.muli v10304 c1_i32_3715
  let v10306 : BitVec 32 := Scalar.addi c0_i32_3713 v10305
  let c1_i32_3717 : BitVec 32 := 1#32
  let arg14 : BitVec 32 := Scf.iv v10306 c1_i32_3717 k0_t4
  let c128_i32_3718 : BitVec 32 := 128#32
  let v10309 : BitVec 32 := Scalar.muli arg14 c128_i32_3718
  let v10310 : BitVec 32 := v10309
  let v10586 : Index := Scalar.indexCast v10310
  ![0, 3, 0, v10586.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, arg1.toNat, c1_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, arg1.toNat, c1_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S2x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x4x1024x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x1024x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== ReferenceIdeal.lean ====
abbrev S2x4x131072x256 : Shape := ⟨4, ![2, 4, 131072, 256]⟩
abbrev S2x4 : Shape := ⟨2, ![2, 4]⟩
abbrev S2x1x131072x256 : Shape := ⟨4, ![2, 1, 131072, 256]⟩
abbrev S2x1 : Shape := ⟨2, ![2, 1]⟩
abbrev S2x1x4x16384x2048 : Shape := ⟨5, ![2, 1, 4, 16384, 2048]⟩
abbrev S2x1x1024x16x8x256 : Shape := ⟨6, ![2, 1, 1024, 16, 8, 256]⟩
abbrev S2x1x16x1024x8x256 : Shape := ⟨6, ![2, 1, 16, 1024, 8, 256]⟩
abbrev S2x1x16x1024x2048 : Shape := ⟨5, ![2, 1, 16, 1024, 2048]⟩
abbrev S2x1x4 : Shape := ⟨3, ![2, 1, 4]⟩
abbrev S2x1x1 : Shape := ⟨3, ![2, 1, 1]⟩
abbrev S_ : Shape := ⟨0, ![]⟩
abbrev S2x1x4x16384x16x1024 : Shape := ⟨6, ![2, 1, 4, 16384, 16, 1024]⟩
abbrev S2x1x4x1x1x1 : Shape := ⟨6, ![2, 1, 4, 1, 1, 1]⟩
abbrev S16384 : Shape := ⟨1, ![16384]⟩
abbrev S1024 : Shape := ⟨1, ![1024]⟩
abbrev S1x1024 : Shape := ⟨2, ![1, 1024]⟩
abbrev S16 : Shape := ⟨1, ![16]⟩
abbrev S16x1 : Shape := ⟨2, ![16, 1]⟩
abbrev S16x1024 : Shape := ⟨2, ![16, 1024]⟩
abbrev S1x16x1024 : Shape := ⟨3, ![1, 16, 1024]⟩
abbrev S16384x1x1 : Shape := ⟨3, ![16384, 1, 1]⟩
abbrev S16384x16x1024 : Shape := ⟨3, ![16384, 16, 1024]⟩
abbrev S2x1x4x16384 : Shape := ⟨4, ![2, 1, 4, 16384]⟩
abbrev S2x1x4x16384x1x1 : Shape := ⟨6, ![2, 1, 4, 16384, 1, 1]⟩
abbrev S2x1x4x1024x16x16x1024 : Shape := ⟨7, ![2, 1, 4, 1024, 16, 16, 1024]⟩
abbrev S2x1x4x1024x1024 : Shape := ⟨5, ![2, 1, 4, 1024, 1024]⟩
abbrev S1x1x1x16384 : Shape := ⟨4, ![1, 1, 1, 16384]⟩
abbrev S2x4x1024x1024 : Shape := ⟨4, ![2, 4, 1024, 1024]⟩
abbrev S2x4x16384 : Shape := ⟨3, ![2, 4, 16384]⟩

abbrev nBuf : Space → Nat
  | .hbm => 64
  | .vmem => 4
  | .smem => 0
  | _ => 0

abbrev bufTy : (tb : Table) → Fin (tcTables nBuf tb) → BufTy
  | .hbm, ⟨0, _⟩ => ⟨S2x4x131072x256, .i8⟩
  | .hbm, ⟨1, _⟩ => ⟨S2x4, .f32⟩
  | .hbm, ⟨2, _⟩ => ⟨S2x1x131072x256, .i8⟩
  | .hbm, ⟨3, _⟩ => ⟨S2x1, .f32⟩
  | .hbm, ⟨4, _⟩ => ⟨S2x4x131072x256, .f32⟩
  | .hbm, ⟨5, _⟩ => ⟨S2x1x131072x256, .f32⟩
  | .hbm, ⟨6, _⟩ => ⟨S2x1x4x16384x2048, .f32⟩
  | .hbm, ⟨7, _⟩ => ⟨S2x1x1024x16x8x256, .f32⟩
  | .hbm, ⟨8, _⟩ => ⟨S2x1x1024x16x8x256, .f32⟩
  | .hbm, ⟨9, _⟩ => ⟨S2x1x16x1024x8x256, .f32⟩
  | .hbm, ⟨10, _⟩ => ⟨S2x1x16x1024x2048, .f32⟩
  | .hbm, ⟨11, _⟩ => ⟨S2x1x4, .f32⟩
  | .hbm, ⟨12, _⟩ => ⟨S2x1x1, .f32⟩
  | .hbm, ⟨13, _⟩ => ⟨S2x1x4, .f32⟩
  | .hbm, ⟨14, _⟩ => ⟨S2x1x4, .f32⟩
  | .hbm, ⟨15, _⟩ => ⟨S_, .f32⟩
  | .hbm, ⟨16, _⟩ => ⟨S2x1x4, .f32⟩
  | .hbm, ⟨17, _⟩ => ⟨S2x1x4, .f32⟩
  | .hbm, ⟨18, _⟩ => ⟨S2x1x4x16384x16x1024, .f32⟩
  | .hbm, ⟨19, _⟩ => ⟨S2x1x4x1x1x1, .f32⟩
  | .hbm, ⟨20, _⟩ => ⟨S2x1x4x16384x16x1024, .f32⟩
  | .hbm, ⟨21, _⟩ => ⟨S2x1x4x16384x16x1024, .f32⟩
  | .hbm, ⟨22, _⟩ => ⟨S16384, .i32⟩
  | .hbm, ⟨23, _⟩ => ⟨S1024, .i32⟩
  | .hbm, ⟨24, _⟩ => ⟨S1x1024, .i32⟩
  | .hbm, ⟨25, _⟩ => ⟨S_, .i32⟩
  | .hbm, ⟨26, _⟩ => ⟨S1x1024, .i32⟩
  | .hbm, ⟨27, _⟩ => ⟨S1x1024, .i32⟩
  | .hbm, ⟨28, _⟩ => ⟨S16, .i32⟩
  | .hbm, ⟨29, _⟩ => ⟨S16x1, .i32⟩
  | .hbm, ⟨30, _⟩ => ⟨S16x1024, .i32⟩
  | .hbm, ⟨31, _⟩ => ⟨S16x1024, .i32⟩
  | .hbm, ⟨32, _⟩ => ⟨S16x1024, .i32⟩
  | .hbm, ⟨33, _⟩ => ⟨S1x16x1024, .i32⟩
  | .hbm, ⟨34, _⟩ => ⟨S16384x1x1, .i32⟩
  | .hbm, ⟨35, _⟩ => ⟨S16384x16x1024, .i32⟩
  | .hbm, ⟨36, _⟩ => ⟨S16384x16x1024, .i32⟩
  | .hbm, ⟨37, _⟩ => ⟨S16384x16x1024, .i1⟩
  | .hbm, ⟨38, _⟩ => ⟨S_, .f32⟩
  | .hbm, ⟨39, _⟩ => ⟨S_, .f32⟩
  | .hbm, ⟨40, _⟩ => ⟨S2x1x4x16384x16x1024, .i1⟩
  | .hbm, ⟨41, _⟩ => ⟨S2x1x4x16384x16x1024, .f32⟩
  | .hbm, ⟨42, _⟩ => ⟨S2x1x4x16384x16x1024, .f32⟩
  | .hbm, ⟨43, _⟩ => ⟨S2x1x4x16384x16x1024, .f32⟩
  | .hbm, ⟨44, _⟩ => ⟨S_, .f32⟩
  | .hbm, ⟨45, _⟩ => ⟨S2x1x4x16384, .f32⟩
  | .hbm, ⟨46, _⟩ => ⟨S2x1x4x16384, .f32⟩
  | .hbm, ⟨47, _⟩ => ⟨S2x1x4x16384x1x1, .f32⟩
  | .hbm, ⟨48, _⟩ => ⟨S2x1x4x16384x16x1024, .f32⟩
  | .hbm, ⟨49, _⟩ => ⟨S2x1x4x16384x16x1024, .f32⟩
  | .hbm, ⟨50, _⟩ => ⟨S2x1x4x16384x16x1024, .f32⟩
  | .hbm, ⟨51, _⟩ => ⟨S2x1x4x1024x16x16x1024, .f32⟩
  | .hbm, ⟨52, _⟩ => ⟨S_, .f32⟩
  | .hbm, ⟨53, _⟩ => ⟨S2x1x4x1024x1024, .f32⟩
  | .hbm, ⟨54, _⟩ => ⟨S_, .i32⟩
  | .hbm, ⟨55, _⟩ => ⟨S16384, .i32⟩
  | .hbm, ⟨56, _⟩ => ⟨S16384, .i32⟩
  | .hbm, ⟨57, _⟩ => ⟨S16384, .f32⟩
  | .hbm, ⟨58, _⟩ => ⟨S16384, .f32⟩
  | .hbm, ⟨59, _⟩ => ⟨S1x1x1x16384, .f32⟩
  | .hbm, ⟨60, _⟩ => ⟨S2x1x4x16384, .f32⟩
  | .hbm, ⟨61, _⟩ => ⟨S2x1x4x16384, .f32⟩
  | .hbm, ⟨62, _⟩ => ⟨S2x4x1024x1024, .f32⟩
  | .hbm, ⟨63, _⟩ => ⟨S2x4x16384, .f32⟩
  | .local _ .vmem, ⟨0, _⟩ => ⟨S2x4x131072x256, .i8⟩
  | .local _ .vmem, ⟨1, _⟩ => ⟨S2x1x131072x256, .i8⟩
  | .local _ .vmem, ⟨2, _⟩ => ⟨S2x4x131072x256, .f32⟩
  | .local _ .vmem, ⟨3, _⟩ => ⟨S2x1x131072x256, .f32⟩
  | _, _ => ⟨S2x4x131072x256, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v31 : Ref sig .tc := ⟨.hbm, 42, rfl⟩
abbrev main_v32 : Ref sig .tc := ⟨.hbm, 43, rfl⟩
abbrev main_cst_1 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_2 : Ref sig .tc := ⟨.hbm, 52, rfl⟩
abbrev main_v40 : Ref sig .tc := ⟨.hbm, 53, rfl⟩
abbrev main_c_3 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x4x131072x256 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1x131072x256 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4x131072x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1x131072x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Cmd.lean ====
/- A small language of commands over ten named arrays, in which the kernel's body is written once
   (`Proof/Body.lean`). A command has two readings: the program it stands for, over memory references
   (`prog`), and what it does to the arrays' contents (`run`). `Proof/CmdRule.lean` proves that the
   program does what `run` says. -/
module

public import Idealize.ShloMosaic.Lib.Pipeline
public import Idealize.ShloMosaic.Lib.Scf
public import Idealize.ShloMosaic.PureOps
public import Idealize.ShloMosaic.PureOps.Ideal

@[expose] public section

namespace K01

open Idealize.ShloMosaic Idealize.SL.Sem

abbrev S2x4 : Shape := ⟨2, ![2, 4]⟩
abbrev S2x1 : Shape := ⟨2, ![2, 1]⟩
abbrev S1x1 : Shape := ⟨2, ![1, 1]⟩
abbrev S1x4x1024x128 : Shape := ⟨4, ![1, 4, 1024, 128]⟩
abbrev S1x1x1024x128 : Shape := ⟨4, ![1, 1, 1024, 128]⟩
abbrev S1x4x8x1024 : Shape := ⟨4, ![1, 4, 8, 1024]⟩
abbrev S1x1x8x128 : Shape := ⟨4, ![1, 1, 8, 128]⟩
abbrev S1x4x128 : Shape := ⟨3, ![1, 4, 128]⟩
abbrev S1x1x128 : Shape := ⟨3, ![1, 1, 128]⟩
abbrev S16x4096x128 : Shape := ⟨3, ![16, 4096, 128]⟩
abbrev S16x128x128 : Shape := ⟨3, ![16, 128, 128]⟩
abbrev S4x1024x128 : Shape := ⟨3, ![4, 1024, 128]⟩
abbrev S1x128x128 : Shape := ⟨3, ![1, 128, 128]⟩
abbrev S1x8x128 : Shape := ⟨3, ![1, 8, 128]⟩
abbrev S16x8x128 : Shape := ⟨3, ![16, 8, 128]⟩
abbrev S128x2x128 : Shape := ⟨3, ![128, 2, 128]⟩
abbrev S8x1x128 : Shape := ⟨3, ![8, 1, 128]⟩
abbrev S8x128x1 : Shape := ⟨3, ![8, 128, 1]⟩
abbrev S1024x128 : Shape := ⟨2, ![1024, 128]⟩
abbrev S256x128 : Shape := ⟨2, ![256, 128]⟩
abbrev S128x128 : Shape := ⟨2, ![128, 128]⟩
abbrev S512x128 : Shape := ⟨2, ![512, 128]⟩
abbrev S512x2048 : Shape := ⟨2, ![512, 2048]⟩
abbrev S512x512 : Shape := ⟨2, ![512, 512]⟩
abbrev S8x128 : Shape := ⟨2, ![8, 128]⟩
abbrev S1x128 : Shape := ⟨2, ![1, 128]⟩
abbrev S128 : Shape := ⟨1, ![128]⟩

/-- The vector memory arrays of the body: the two lane tiles of the queries and of the keys, the two
    results, and the four scratch arrays. -/
inductive Nm
  | q0 | q1 | k0 | k1 | blk | lse | kp | qp | p | m
  deriving DecidableEq

/-- An array's shape. -/
def Nm.shp : Nm → Shape
  | .q0 => S1x4x1024x128
  | .q1 => S1x4x1024x128
  | .k0 => S1x1x1024x128
  | .k1 => S1x1x1024x128
  | .blk => S1x4x8x1024
  | .lse => S1x4x128
  | .kp => S16x4096x128
  | .qp => S16x128x128
  | .p => S4x1024x128
  | .m => S4x1024x128

/-- An array's element type. -/
def Nm.elt : Nm → EltTy
  | .q0 => .i8
  | .q1 => .i8
  | .k0 => .i8
  | .k1 => .i8
  | .blk => .f32
  | .lse => .f32
  | .kp => .i32
  | .qp => .i32
  | .p => .f32
  | .m => .f32

variable {F : FTy → Type}

/-- Commands returning a value of type `α`: return; load a block; store a block; read one element of
    the two tables of scales; a counted loop. -/
inductive Cmd (F : FTy → Type) : Type → Type 1
  | ret {α : Type} (a : α) : Cmd F α
  | ld {α : Type} (b : Nm) (r : LoadRect b.shp) (h : 0 < r.shape.numel)
      (k : (r.shape.Idx → Elt F b.elt) → Cmd F α) : Cmd F α
  | st {α : Type} (b : Nm) (r : Rect b.shp) (w : r.shape.Idx → Elt F b.elt) (h : 0 < r.shape.numel)
      (hb : b.elt.bits = 32) (k : Cmd F α) : Cmd F α
  | ldQ {α : Type} (r : Rect S2x4) (h : r.shape.numel = 1) (k : F .f32 → Cmd F α) : Cmd F α
  | ldK {α : Type} (r : Rect S2x1) (h : r.shape.numel = 1) (k : F .f32 → Cmd F α) : Cmd F α
  | loop {α σ : Type} (l : Scf.Loop 32) (ok : l.OK) (init : σ) (body : Fin l.trips → σ → Cmd F σ)
      (k : σ → Cmd F α) : Cmd F α

namespace Cmd

/-- One command after another. -/
noncomputable def bind {α β : Type} (x : Cmd F α) : (α → Cmd F β) → Cmd F β :=
  Cmd.rec (motive := fun α _ => (α → Cmd F β) → Cmd F β)
    (fun a f => f a)
    (fun b r h _ ih f => .ld b r h fun v => ih v f)
    (fun b r w h hb _ ih f => .st b r w h hb (ih f))
    (fun r h _ ih f => .ldQ r h fun v => ih v f)
    (fun r h _ ih f => .ldK r h fun v => ih v f)
    (fun l ok init body _ _ ih f => .loop l ok init body fun v => ih v f)
    x

/-- Run `f` on each element of a list in order, carrying a value. -/
noncomputable def each {σ ι : Type} (f : ι → σ → Cmd F σ) (l : List ι) : σ → Cmd F σ :=
  List.rec (motive := fun _ => σ → Cmd F σ) (fun s => .ret s) (fun a _ ih s => bind (f a s) ih) l

/-! ## The program a command stands for -/

section Prog

variable {nD : Nat} {τ : Topo} {sig : RefSig} {Λ : Labels}

/-- The memory references the names stand for. -/
structure Env (sig : RefSig) where
  qs : Memref sig .tc .smem S2x4 .f32
  ks : Memref sig .tc .smem S2x1 .f32
  mem : (b : Nm) → Memref sig .tc .vmem b.shp b.elt

/-- The environment of twelve references. -/
def env (qs : Memref sig .tc .smem S2x4 .f32) (ks : Memref sig .tc .smem S2x1 .f32)
    (q0 q1 : Memref sig .tc .vmem S1x4x1024x128 .i8) (k0 k1 : Memref sig .tc .vmem S1x1x1024x128 .i8)
    (blk : Memref sig .tc .vmem S1x4x8x1024 .f32) (lse : Memref sig .tc .vmem S1x4x128 .f32)
    (kp : Memref sig .tc .vmem S16x4096x128 .i32) (qp : Memref sig .tc .vmem S16x128x128 .i32)
    (p m : Memref sig .tc .vmem S4x1024x128 .f32) : Env sig where
  qs := qs
  ks := ks
  mem
    | .q0 => q0 | .q1 => q1 | .k0 => k0 | .k1 => k1 | .blk => blk | .lse => lse | .kp => kp | .qp => qp | .p => p | .m => m

/-- The program. -/
noncomputable def prog (e : Env sig) {α : Type} (x : Cmd F α) : Prog (TpuEff nD τ sig (Elt F) Λ .tc) α :=
  Cmd.rec (motive := fun α _ => Prog (TpuEff nD τ sig (Elt F) Λ .tc) α)
    (fun a => .ret a)
    (fun b r h _ ih => .op (.load (e.mem b) r (View.loadsAt_vmem h)) ih)
    (fun b r w h hb _ ih => .op (.store (e.mem b) r w Finset.univ (View.stores_vmem_bits_univ h hb) (.inl rfl)) fun _ => ih)
    (fun r h _ ih => smemLoad e.qs r h rfl >>= ih)
    (fun r h _ ih => smemLoad e.ks r h rfl >>= ih)
    (fun l ok init _ _ ihb ih => Scf.Loop.for l ok init ihb >>= ih)
    x

end Prog

/-! ## What a command does to the arrays -/

/-- The arrays' contents. -/
abbrev St (F : FTy → Type) : Type := (b : Nm) → b.shp.Idx → Elt F b.elt

/-- The contents of a block written into an array: the block's elements at the block's places, the
    array's own elsewhere. -/
noncomputable def put {s : Shape} {α : Type} (x : s.Idx → α) (r : Rect s) (w : r.shape.Idx → α) : s.Idx → α :=
  fun y => open Classical in if h : ∃ j, r.emb j = y then w h.choose else x y

theorem put_emb {s : Shape} {α : Type} (x : s.Idx → α) (r : Rect s) (w : r.shape.Idx → α) (j : r.shape.Idx) :
    put x r w (r.emb j) = w j := by
  have h : ∃ j', r.emb j' = r.emb j := ⟨j, rfl⟩
  unfold put
  rw [dif_pos h]
  exact congrArg w (r.emb.injective h.choose_spec)

theorem put_not {s : Shape} {α : Type} (x : s.Idx → α) (r : Rect s) (w : r.shape.Idx → α) (y : s.Idx)
    (h : ∀ j, r.emb j ≠ y) : put x r w y = x y := by
  unfold put
  rw [dif_neg (by rintro ⟨j, hj⟩; exact h j hj)]

/-- A value and the contents after the command, from the two tables of scales and the contents before. -/
noncomputable def run (qs : S2x4.Idx → F .f32) (ks : S2x1.Idx → F .f32) {α : Type} (x : Cmd F α) : St F → α × St F :=
  Cmd.rec (motive := fun α _ => St F → α × St F)
    (fun a s => (a, s))
    (fun b r _ _ ih s => ih (fun j => s b (r.idx j)) s)
    (fun b r w _ _ _ ih s => ih (Function.update s b (put (s b) r w)))
    (fun r h _ ih s => ih (qs (r.emb (Shape.Idx.first (h.symm ▸ Nat.one_pos)))) s)
    (fun r h _ ih s => ih (ks (r.emb (Shape.Idx.first (h.symm ▸ Nat.one_pos)))) s)
    (fun l _ init _ _ ihb ih s =>
      let a := (List.finRange l.trips).foldl (fun u t => ihb t u.1 u.2) (init, s)
      ih a.1 a.2)
    x

end Cmd

end K01
-- ==== Proof.CmdRule.lean ====
/- The program a command stands for does what the command's `run` says: owning the two tables of scales
   and the ten arrays at contents `s`, the program returns `run`'s value with the arrays at `run`'s
   contents. Proved once, by induction on the command. -/
module

public import proofs.«01_k».proof.Proof.Cmd
public import Idealize.ShloMosaic.Lib.Pipeline.Frame
public import Idealize.ShloMosaic.Lib.Tactic

@[expose] public section

noncomputable section

namespace K01

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

instance : Fintype Nm where
  elems := {.q0, .q1, .k0, .k1, .blk, .lse, .kp, .qp, .p, .m}
  complete := by intro b; cases b <;> decide

namespace Cmd

variable {F : FTy → Type}
variable {nD : Nat} {τ : Topo} {sig : RefSig} {Λ : Labels} {U : Type} [URA U]

local notation "𝕄" => MT nD τ sig Unit (Elt F) ℕ U ℕ

/-- The two tables and the ten arrays, owned at contents. -/
def own (c : Dev nD) (e : Env sig) (qs : S2x4.Idx → F .f32) (ks : S2x1.Idx → F .f32) (s : St F) : sProp 𝕄 :=
  iprop(owns (c : Thread nD τ) e.qs fullShare (qs : S2x4.Idx → Elt F .f32) ∗ owns (c : Thread nD τ) e.ks fullShare (ks : S2x1.Idx → Elt F .f32)
    ∗ bigSep Finset.univ fun b => owns (c : Thread nD τ) (e.mem b) fullShare (s b))

/-- One conjunct taken out, and another put in its place. -/
theorem take {M : Type} [URA M] (Φ Ψ : Nm → sProp M) (b : Nm) (h : ∀ b', b' ≠ b → Φ b' = Ψ b') :
    bigSep Finset.univ Φ ⊢ iprop(Φ b ∗ (Ψ b -∗ bigSep Finset.univ Ψ)) := by
  have e : bigSep (Finset.univ.erase b) Φ = bigSep (Finset.univ.erase b) Ψ :=
    bigSep_congr fun b' hb => h b' (Finset.ne_of_mem_erase hb)
  have h1 : bigSep Finset.univ Φ ⊢ iprop(Φ b ∗ bigSep (Finset.univ.erase b) Ψ) :=
    Entails.of_eq ((bigSep_univ_split b).trans (by rw [e]; rfl))
  have h2 : iprop(Ψ b ∗ bigSep (Finset.univ.erase b) Ψ) ⊢ bigSep Finset.univ Ψ := Entails.of_eq (bigSep_univ_split b).symm
  iintro H
  ihave ⟨H, HR⟩ := h1 $$ H
  isplitl [H]; · iexact H
  iintro HX
  iapply h2
  isplitl [HX]; · iexact HX
  iexact HR

/-- One array taken out, and put back at any contents. -/
theorem arrays_take (c : Dev nD) (e : Env sig) (s : St F) (b : Nm) (X : b.shp.Idx → Elt F b.elt) :
    (bigSep Finset.univ fun b => owns (c : Thread nD τ) (e.mem b) fullShare (s b) : sProp 𝕄)
      ⊢ iprop(owns (c : Thread nD τ) (e.mem b) fullShare (s b)
        ∗ (owns (c : Thread nD τ) (e.mem b) fullShare X -∗ bigSep Finset.univ fun b' => owns (c : Thread nD τ) (e.mem b') fullShare (Function.update s b X b'))) := by
  have h := take (M := 𝕄) (fun b => owns (c : Thread nD τ) (e.mem b) fullShare (s b))
    (fun b' => owns (c : Thread nD τ) (e.mem b') fullShare (Function.update s b X b')) b
    (fun b' hb => by show owns _ _ _ _ = owns _ _ _ _; rw [Function.update_of_ne hb])
  rw [Function.update_self] at h
  exact h

/-- Reading through the view after a store through one of its rectangles. -/
theorem read_store {sp : Space} {sh : Shape} {e : EltTy} (m : Memref sig .tc sp sh e) (r : Rect sh)
    (f : m.view.ty.Contents (Elt F)) (w : r.shape.Idx → Elt F e) :
    m.view.read (Elt F) ((m.access r).write (Elt F) f w Finset.univ) = put (m.view.read (Elt F) f) r w := by
  funext y
  by_cases h : ∃ j, r.emb j = y
  · obtain ⟨j, rfl⟩ := h
    rw [put_emb]
    exact View.read_slice_write_emb r f w (Finset.mem_univ j)
  · rw [put_not _ _ _ _ fun j hj => h ⟨j, hj⟩]
    exact View.read_slice_write_of_not_mem r f w _ fun hm => by
      obtain ⟨j, -, hj⟩ := Finset.mem_map.mp hm
      exact h ⟨j, hj⟩

variable {defs : Defs nD τ sig (Elt F) Λ} (𝒱 : Variants)

theorem wp_prog (c : Dev nD) (e : Env sig) (qs : S2x4.Idx → F .f32) (ks : S2x1.Idx → F .f32) {α : Type} (x : Cmd F α) :
    ∀ (s : St F) (Q : α → sProp 𝕄),
      iprop(own c e qs ks s ∗ (own c e qs ks (run qs ks x s).2 -∗ Q (run qs ks x s).1))
        ⊢ wp frame (wpE defs 𝒱 (c : Thread nD τ) none) Set.univ (prog e x) Q := by
  induction x with
  | ret a =>
    intro s Q
    show iprop(own c e qs ks s ∗ (own c e qs ks s -∗ Q a)) ⊢ wp _ _ _ (Prog.ret a) Q
    rw [wp_ret]
    iintro ⟨H, HQ⟩
    imodintro
    iapply HQ
    iexact H
  | ld b r h k ih =>
    intro s Q
    show _ ⊢ wp _ _ _ (.op (.load (e.mem b) r (View.loadsAt_vmem h)) fun v => prog e (k v)) Q
    unfold own
    iintro ⟨⟨Hq, Hk, HA⟩, HQ⟩
    ihave ⟨Hb, HR⟩ := (arrays_take c e s b (s b)) $$ HA
    unfold owns
    icases Hb with ⟨%f, %hf, Hb⟩
    iapply (wp_load 𝒱 (c : Thread nD τ) none Set.univ (View.setOn_subset_set _ _)) $$ Hb
    iintro Hb
    ihave HA := HR $$ [Hb]
    · iexists f; isplitr; · ipureintro; exact hf
      iexact Hb
    have hu : Function.update (β := fun b : Nm => b.shp.Idx → Elt F b.elt) s b (s b) = s := Function.update_eq_self b s
    rw [hu]
    have hv : ((e.mem b).view.readAt (Elt F) r f) = fun j => s b (r.idx j) := by
      funext j; rw [View.readAt_apply, hf]
    rw [hv]
    iapply (ih (fun j => s b (r.idx j)) s Q)
    isplitr [HQ]
    · unfold own owns
      isplitl [Hq]; · iexact Hq
      isplitl [Hk]; · iexact Hk
      iexact HA
    · unfold own owns
      iexact HQ
  | st b r w h hb k ih =>
    intro s Q
    show _ ⊢ wp _ _ _ (.op (.store (e.mem b) r w Finset.univ (View.stores_vmem_bits_univ h hb) (.inl rfl)) fun _ => prog e k) Q
    unfold own
    iintro ⟨⟨Hq, Hk, HA⟩, HQ⟩
    ihave ⟨Hb, HR⟩ := (arrays_take c e s b (put (s b) r w)) $$ HA
    unfold owns
    icases Hb with ⟨%f, %hf, Hb⟩
    iapply (wp_store 𝒱 (c : Thread nD τ) none Set.univ (m := e.mem b) (r := r) (w := w) (Mk := Finset.univ) (S := (e.mem b).view.set)
      (f := f) (View.set_slice_subset (e.mem b).view r)) $$ Hb
    iintro Hb
    ihave HA := HR $$ [Hb]
    · iexists _; isplitr; swap; · iexact Hb
      ipureintro; rw [read_store, hf]
    iapply (ih (Function.update s b (put (s b) r w)) Q)
    isplitr [HQ]
    · unfold own owns
      isplitl [Hq]; · iexact Hq
      isplitl [Hk]; · iexact Hk
      iexact HA
    · unfold own owns
      iexact HQ
  | ldQ r h k ih =>
    intro s Q
    show _ ⊢ wp _ _ _ (smemLoad e.qs r h rfl >>= fun v => prog e (k v)) Q
    unfold own
    iintro ⟨⟨Hq, Hk, HA⟩, HQ⟩
    unfold owns
    icases Hq with ⟨%f, %hf, Hq⟩
    iapply (wp_smemLoadElt 𝒱 (c : Thread nD τ) none Set.univ (m := e.qs) (r := r) (hw := View.loads_smem_one rfl h)
      (x := Shape.Idx.first (h.symm ▸ Nat.one_pos)) (S := e.qs.view.set) (k := fun v => prog e (k v)) (View.set_slice_subset _ _)) $$ Hq
    iintro Hq
    have hv : ((e.qs.access r).read (Elt F) f (Shape.Idx.first (h.symm ▸ Nat.one_pos))) = qs (r.emb (Shape.Idx.first (h.symm ▸ Nat.one_pos))) := by
      rw [← hf]; rfl
    rw [hv]
    iapply (ih (qs (r.emb (Shape.Idx.first (h.symm ▸ Nat.one_pos)))) s Q)
    isplitr [HQ]
    · unfold own owns
      isplitl [Hq]
      · iexists f; isplitr; · ipureintro; exact hf
        iexact Hq
      isplitl [Hk]; · iexact Hk
      iexact HA
    · unfold own owns
      iexact HQ
  | ldK r h k ih =>
    intro s Q
    show _ ⊢ wp _ _ _ (smemLoad e.ks r h rfl >>= fun v => prog e (k v)) Q
    unfold own
    iintro ⟨⟨Hq, Hk, HA⟩, HQ⟩
    unfold owns
    icases Hk with ⟨%f, %hf, Hk⟩
    iapply (wp_smemLoadElt 𝒱 (c : Thread nD τ) none Set.univ (m := e.ks) (r := r) (hw := View.loads_smem_one rfl h)
      (x := Shape.Idx.first (h.symm ▸ Nat.one_pos)) (S := e.ks.view.set) (k := fun v => prog e (k v)) (View.set_slice_subset _ _)) $$ Hk
    iintro Hk
    have hv : ((e.ks.access r).read (Elt F) f (Shape.Idx.first (h.symm ▸ Nat.one_pos))) = ks (r.emb (Shape.Idx.first (h.symm ▸ Nat.one_pos))) := by
      rw [← hf]; rfl
    rw [hv]
    iapply (ih (ks (r.emb (Shape.Idx.first (h.symm ▸ Nat.one_pos)))) s Q)
    isplitr [HQ]
    · unfold own owns
      isplitl [Hq]; · iexact Hq
      isplitl [Hk]
      · iexists f; isplitr; · ipureintro; exact hf
        iexact Hk
      iexact HA
    · unfold own owns
      iexact HQ
  | loop l ok init body k ihb ih =>
    intro s Q
    show _ ⊢ wp _ _ _ (Scf.for l.lb l.ub l.st ok init (fun t a => prog e (body t a)) >>= fun v => prog e (k v)) Q
    let step : _ × St F → Fin l.trips → _ × St F := fun u t => run qs ks (body t u.1) u.2
    let at_ : ℕ → _ × St F := fun n => ((List.finRange l.trips).take n).foldl step (init, s)
    have hsucc : ∀ t : Fin l.trips, at_ (t.val + 1) = step (at_ t.val) t := fun t => by
      have hlen : t.val < (List.finRange l.trips).length := by rw [List.length_finRange]; exact t.isLt
      show List.foldl step (init, s) (List.take (t.val + 1) _) = _
      rw [List.take_succ_eq_append_getElem hlen, List.foldl_append, List.getElem_finRange]
      rfl
    have hall : at_ l.trips = (List.finRange l.trips).foldl step (init, s) := by
      show List.foldl step (init, s) (List.take l.trips _) = _
      rw [List.take_of_length_le (by rw [List.length_finRange])]
    iintro ⟨H, HQ⟩
    iapply (Scf.wp_for_bind frame (wpE defs 𝒱 (c : Thread nD τ) none) Set.univ l.lb l.ub l.st ok init
      (fun t a => prog e (body t a)) (fun n a => iprop(⌜a = (at_ n).1⌝ ∗ own c e qs ks (at_ n).2)) (fun t a => by
        iintro ⟨%ha, H⟩
        subst ha
        iapply (ihb t (at_ t.val).1 (at_ t.val).2 _)
        isplitl [H]; · iexact H
        iintro H
        rw [hsucc t]
        isplitr; · ipureintro; rfl
        iexact H)) $$ [H]
    · isplitr; · ipureintro; rfl
      iexact H
    iintro %a ⟨%ha, H⟩
    subst ha
    have e1 : Scf.trips l.lb l.ub l.st = l.trips := rfl
    rw [e1, hall]
    iapply (ih _ _ Q)
    isplitl [H]; · iexact H
    iexact HQ

end Cmd

end K01
-- ==== Proof.Body.lean ====
/- The kernel's body, written as loops in the commands of `Proof/Cmd.lean`: the words of the key and
   query tiles transposed and stored, the chunks of the scores with their running maxima and sums, the
   row results, and the block results. `Proof/PrintedKernel.lean` and `Proof/PrintedKernelIdeal.lean` prove
   that the two printed bodies are this one. -/
module

public import proofs.«01_k».proof.Proof.Cmd

@[expose] public section

namespace K01

open Idealize.ShloMosaic Idealize.SL.Sem

variable {F : FTy → Type} [FloatOps F]

/-- Run `f` on each element of a list in order. -/
noncomputable def forE {ι : Type} (l : List ι) (f : ι → Cmd F Unit) : Cmd F Unit := Cmd.each (fun a _ => f a) l ()

/-! ## Loop bounds -/

/-- The quotient of the point's number by `d`, as the kernel computes it. -/
def floorDiv (x d : BitVec 32) : BitVec 32 :=
  Scalar.select
    (Scalar.andi
      (Scalar.cmpi .ne
        (Scalar.subi (Scalar.extui (Scalar.cmpi .sgt x 0#32)) (Scalar.extui (Scalar.cmpi .slt x 0#32)))
        (Scalar.subi (Scalar.extui (Scalar.cmpi .sgt d 0#32)) (Scalar.extui (Scalar.cmpi .slt d 0#32))))
      (Scalar.cmpi .ne (Scalar.remsi x d) 0#32))
    (Scalar.subi (Scalar.divsi x d) 1#32) (Scalar.divsi x d)

/-- A grid coordinate as the kernel's integer. -/
abbrev idx32 {n : Nat} (i : Fin n) : BitVec 32 := BitVec.ofNat 32 i.val

/-- The number of chunks wholly below the diagonal. -/
def nFull (i : Fin 128) : BitVec 32 := floorDiv (idx32 i) 4#32

/-- The number of column tiles of the block results. -/
def nTiles (i : Fin 128) : BitVec 32 := Scalar.addi (floorDiv (idx32 i) 16#32) 1#32

/-- The loop of `n` trips that a counted loop prints first. -/
@[reducible] def mainLoop (n : BitVec 32) : Scf.Loop 32 :=
  ⟨0#32, Scalar.addi 0#32 (Scalar.muli (Scalar.divsi (Scalar.subi n 0#32) 1#32) 1#32), 1#32⟩

/-- The loop of the trips left over, of which there are none. -/
@[reducible] def restLoop (n : BitVec 32) : Scf.Loop 32 :=
  ⟨Scalar.addi 0#32 (Scalar.muli (Scalar.divsi (Scalar.subi n 0#32) 1#32) 1#32), Scalar.addi 0#32 (Scalar.subi n 0#32), 1#32⟩

theorem nFull_toNat : ∀ i : Fin 128, (nFull i).toNat = i.val / 4 := by decide +kernel
theorem nTiles_toNat : ∀ i : Fin 128, (nTiles i).toNat = i.val / 16 + 1 := by decide +kernel

theorem mainFull_ok : ∀ i : Fin 128, (mainLoop (nFull i)).OK := by decide +kernel
theorem restFull_ok : ∀ i : Fin 128, (restLoop (nFull i)).OK := by decide +kernel
theorem mainTiles_ok : ∀ i : Fin 128, (mainLoop (nTiles i)).OK := by decide +kernel
theorem restTiles_ok : ∀ i : Fin 128, (restLoop (nTiles i)).OK := by decide +kernel
theorem mainFull_trips : ∀ i : Fin 128, (mainLoop (nFull i)).trips = i.val / 4 := by decide +kernel
theorem restFull_trips : ∀ i : Fin 128, (restLoop (nFull i)).trips = 0 := by decide +kernel
theorem mainTiles_trips : ∀ i : Fin 128, (mainLoop (nTiles i)).trips = i.val / 16 + 1 := by decide +kernel
theorem restTiles_trips : ∀ i : Fin 128, (restLoop (nTiles i)).trips = 0 := by decide +kernel

theorem iv_toNat (k : Nat) (h : k < 2 ^ 32) : (Scf.iv 0#32 1#32 k).toNat = k := by
  simp [Scf.iv]
  omega

theorem mainFull_iv (i : Fin 128) (t : Fin (mainLoop (nFull i)).trips) : (Scf.iv 0#32 1#32 t.val).toNat < 32 := by
  have h := t.isLt
  have h' := mainFull_trips i
  rw [iv_toNat _ (by omega)]; omega

theorem mainTiles_iv (i : Fin 128) (t : Fin (mainLoop (nTiles i)).trips) : (Scf.iv 0#32 1#32 t.val).toNat < 8 := by
  have h := t.isLt
  have h' := mainTiles_trips i
  rw [iv_toNat _ (by omega)]; omega

theorem restFull_none (i : Fin 128) (t : Fin (restLoop (nFull i)).trips) : False := by
  have h := t.isLt
  have h' := restFull_trips i
  omega

theorem restTiles_none (i : Fin 128) (t : Fin (restLoop (nTiles i)).trips) : False := by
  have h := t.isLt
  have h' := restTiles_trips i
  omega

/-! ## The words of a tile, transposed and stored -/

/-- A tile's bytes as words: word row, half, lane. -/
def words (x : S1x1x1024x128.Idx → BitVec 8) : IVec S128x2x128 32 :=
  shapeCast S128x2x128 (bitcast S256x128 32 (shapeCast S1024x128 x (by decide)) (by decide)) (by decide)

/-- The `k`-th of the four blocks of eight word rows that are transposed together. -/
def src (w : IVec S128x2x128 32) (half a c0 : Fin 2) (k : Fin 4) : IVec S8x128 32 :=
  shapeCast S8x128
    (extractStridedSlice S8x1x128 ![16 * (4 * a.val + k.val) + 8 * c0.val, half.val, 0] w
      (by revert half a c0 k; decide)) (by decide)

/-- The four transposed words of four words, byte by byte. -/
def bytesT (x : Fin 4 → IVec S8x128 32) : Fin 4 → IVec S8x128 32 :=
  let a0 := ori (andi (x 0) (broadcast S8x128 16711935#32)) (shli (andi (x 1) (broadcast S8x128 16711935#32)) (broadcast S8x128 8#32))
  let a1 := ori (andi (shrui (x 0) (broadcast S8x128 8#32)) (broadcast S8x128 16711935#32)) (andi (x 1) (broadcast S8x128 4278255360#32))
  let b0 := ori (andi (x 2) (broadcast S8x128 16711935#32)) (shli (andi (x 3) (broadcast S8x128 16711935#32)) (broadcast S8x128 8#32))
  let b1 := ori (andi (shrui (x 2) (broadcast S8x128 8#32)) (broadcast S8x128 16711935#32)) (andi (x 3) (broadcast S8x128 4278255360#32))
  ![ori (andi a0 (broadcast S8x128 65535#32)) (shli b0 (broadcast S8x128 16#32)),
    ori (andi a1 (broadcast S8x128 65535#32)) (shli b1 (broadcast S8x128 16#32)),
    ori (shrui a0 (broadcast S8x128 16#32)) (andi b0 (broadcast S8x128 4294901760#32)),
    ori (shrui a1 (broadcast S8x128 16#32)) (andi b1 (broadcast S8x128 4294901760#32))]

/-- Every second row of sixteen, from row `n` of plane `p` of the key scratch. -/
def kRect (p : Nat) (hp : p < 16) (n : Nat) (hn : n + 14 < 4096) : Rect S16x4096x128 :=
  ⟨⟨![p, n, 0], S1x8x128.size, ![1, 2, 1], by
    intro a; right; fin_cases a <;> simp <;> omega⟩, by
    show ∀ a, 0 < (![1, 2, 1] : Fin 3 → Nat) a; decide⟩

/-- The same of the query scratch. -/
def qRect (p : Nat) (hp : p < 16) (n : Nat) (hn : n + 14 < 128) : Rect S16x128x128 :=
  ⟨⟨![p, n, 0], S1x8x128.size, ![1, 2, 1], by
    intro a; right; fin_cases a <;> simp <;> omega⟩, by
    show ∀ a, 0 < (![1, 2, 1] : Fin 3 → Nat) a; decide⟩

theorem S1x8x128_pos : 0 < S1x8x128.numel := by decide

/-- A block of eight rows with a leading axis of one. -/
def lead {α : Type} (y : S8x128.Idx → α) : S1x8x128.Idx → α := shapeCast S1x8x128 y (by decide)

/-- Store a block in the key scratch (the kernel loads the block first, and makes no use of it). -/
noncomputable def setK (p : Nat) (hp : p < 16) (n : Nat) (hn : n + 14 < 4096) (y : IVec S8x128 32) : Cmd F Unit :=
  .ld .kp (kRect p hp n hn).toLoadRect S1x8x128_pos fun _ => .st .kp (kRect p hp n hn) (lead y) S1x8x128_pos rfl (.ret ())

/-- Store a block in the query scratch. -/
noncomputable def setQ (p : Nat) (hp : p < 16) (n : Nat) (hn : n + 14 < 128) (y : IVec S8x128 32) : Cmd F Unit :=
  .ld .qp (qRect p hp n hn).toLoadRect S1x8x128_pos fun _ => .st .qp (qRect p hp n hn) (lead y) S1x8x128_pos rfl (.ret ())

/-- The first row, in the key scratch, of the words stored for half `c0` of the cells, word `a`, at point `i`. -/
def kRow (i : Fin 128) (a c0 : Fin 2) : Nat :=
  (Scalar.indexCast (Scalar.addi (Scalar.addi (Scalar.muli (idx32 i) 32#32) (BitVec.ofNat 32 (16 * c0.val))) (BitVec.ofNat 32 a.val))).toNat

theorem kRow_eq : ∀ (i : Fin 128) (a c0 : Fin 2), kRow i a c0 = 32 * i.val + 16 * c0.val + a.val := by decide +kernel

/-- The four stores of one group of four words of a key lane tile: token within the row `4·half + b`, the
    tokens in reverse. -/
noncomputable def packK1 (i : Fin 128) (ws : Fin 2 → IVec S128x2x128 32) (half a c0 lt : Fin 2) : Cmd F Unit :=
  forE [0, 1, 2, 3] fun b : Fin 4 =>
    setK (2 * (7 - (4 * half.val + b.val)) + lt.val) (by omega) (kRow i a c0) (by rw [kRow_eq]; omega)
      (bytesT (src (ws lt) half a c0) b)

/-- The same for a query lane tile of head `h`, the tokens in order. -/
noncomputable def packQ1 (h : Fin 4) (ws : Fin 2 → IVec S128x2x128 32) (half a c0 lt : Fin 2) : Cmd F Unit :=
  forE [0, 1, 2, 3] fun b : Fin 4 =>
    setQ (2 * (4 * half.val + b.val) + lt.val) (by omega) (32 * h.val + 16 * c0.val + a.val) (by omega)
      (bytesT (src (ws lt) half a c0) b)

/-- All groups of a tile. -/
noncomputable def packAll (f : Fin 2 → Fin 2 → Fin 2 → Fin 2 → Cmd F Unit) : Cmd F Unit :=
  forE [0, 1] fun half => forE [0, 1] fun a => forE [0, 1] fun c0 => forE [0, 1] fun lt => f half a c0 lt

theorem S1x1x1024x128_pos : 0 < S1x1x1024x128.numel := by decide

/-- A key lane tile, the whole of it. -/
def kTile : Rect S1x1x1024x128 := Rect.unit ![0, 0, 0, 0] S1x1x1024x128.size (by decide)

/-- Head `h` of a query lane tile. -/
def qTile (h : Fin 4) : Rect S1x4x1024x128 := Rect.unit ![0, h.val, 0, 0] S1x1x1024x128.size (by revert h; decide)

/-- The keys of the point's tile, into the key scratch. -/
noncomputable def packK (i : Fin 128) : Cmd F Unit :=
  .ld .k0 kTile.toLoadRect S1x1x1024x128_pos fun x =>
  .ld .k1 kTile.toLoadRect S1x1x1024x128_pos fun y =>
  packAll (packK1 i ![words x, words y])

/-- The queries of the point's tile, into the query scratch. -/
noncomputable def packQ : Cmd F Unit :=
  forE [0, 1, 2, 3] fun h : Fin 4 =>
    .ld .q0 (qTile h).toLoadRect S1x1x1024x128_pos fun x =>
    .ld .q1 (qTile h).toLoadRect S1x1x1024x128_pos fun y =>
    packAll (packQ1 h ![words x, words y])

/-! ## The chunks -/

/-- The place of head `h`'s scale. -/
def qsRect (b : Fin 2) (h : Fin 4) : Rect S2x4 :=
  Rect.unit ![(Scalar.indexCast (idx32 b)).toNat, h.val] S1x1.size (by revert b h; decide)

/-- The place of the keys' scale. -/
def ksRect (b : Fin 2) : Rect S2x1 :=
  Rect.unit ![(Scalar.indexCast (idx32 b)).toNat, 0] S1x1.size (by revert b; decide)

theorem S1x1_one : S1x1.numel = 1 := by decide

/-- The factor of head `h`'s products: both scales, the score scale and `log2e`. -/
noncomputable def mult (log2e : F .f32) (b : Fin 2) (h : Fin 4) : Cmd F (F .f32) :=
  .ldQ (qsRect b h) S1x1_one fun x =>
  .ldK (ksRect b) S1x1_one fun y =>
  .ret (Scalar.mulf (Scalar.mulf (Scalar.mulf x y) (Scalar.ofBits .f32 0x3C000000#32)) log2e)

/-- The lane number. -/
def lane : IVec S8x128 32 := iota .tc S8x128 32 [1] (by decide)
/-- The sublane number. -/
def sublane : IVec S8x128 32 := iota .tc S8x128 32 [0] (by decide)

/-- The lane number modulo `d`, as the kernel computes it. -/
def laneMod (d : BitVec 32) : IVec S8x128 32 :=
  let v := Scalar.select (Scalar.cmpi .eq d 0#32) 1#32 d
  let r := remsi lane (broadcast S8x128 v)
  select (andi (xori (cmpi .slt r (broadcast S8x128 0#32))
      (broadcastTo S8x128 (broadcast S8x128 (Scalar.cmpi .slt v 0#32)) (by decide))) (cmpi .ne r (broadcast S8x128 0#32)))
    (addi r (broadcast S8x128 v)) r

/-- The lane number divided by `d`, as the kernel computes it. -/
def laneDiv (d : BitVec 32) : IVec S8x128 32 :=
  let q := divsi lane (broadcast S8x128 d)
  select
    (andi
      (cmpi .ne (subi (extui 32 (cmpi .sgt lane (broadcast S8x128 0#32)) (by decide)) (extui 32 (cmpi .slt lane (broadcast S8x128 0#32)) (by decide)))
        (broadcast S8x128 (Scalar.subi (Scalar.extui (Scalar.cmpi .sgt d 0#32)) (Scalar.extui (Scalar.cmpi .slt d 0#32)))))
      (cmpi .ne (remsi lane (broadcast S8x128 d)) (broadcast S8x128 0#32)))
    (subi q (broadcast S8x128 1#32)) q

/-- The query row of a lane, less sixteen times the sublane. -/
def rowGap : IVec S8x128 32 :=
  subi (addi (muli (laneMod 8#32) (broadcast S8x128 16#32)) (laneDiv 8#32)) (muli (broadcast S8x128 16#32) sublane)

/-- The codes of 128 rows of words of one plane. -/
noncomputable def codes (x : S1x128x128.Idx → BitVec 32) : FVec F S512x128 .fp8e4m3 :=
  bitcastToFloat .fp8e4m3 (bitcast S512x128 8 (shapeCast S128x128 x (by decide)) (by decide))

/-- Sixteen values, one after another. -/
noncomputable def collect {α : Type} (f : Fin 16 → Cmd F α) : Cmd F (Fin 16 → α) :=
  (f 0).bind fun v0 => (f 1).bind fun v1 => (f 2).bind fun v2 => (f 3).bind fun v3 =>
  (f 4).bind fun v4 => (f 5).bind fun v5 => (f 6).bind fun v6 => (f 7).bind fun v7 =>
  (f 8).bind fun v8 => (f 9).bind fun v9 => (f 10).bind fun v10 => (f 11).bind fun v11 =>
  (f 12).bind fun v12 => (f 13).bind fun v13 => (f 14).bind fun v14 => (f 15).bind fun v15 =>
  .ret ![v0, v1, v2, v3, v4, v5, v6, v7, v8, v9, v10, v11, v12, v13, v14, v15]

theorem planes_cat : Shape.Concatenates (List.replicate 16 S512x128) S512x2048 1 := by decide

/-- Sixteen planes side by side. -/
def planes (v : Fin 16 → FVec F S512x128 .fp8e4m3) : FVec F S512x2048 .fp8e4m3 :=
  concatenate S512x2048 1
    [⟨S512x128, v 0⟩, ⟨S512x128, v 1⟩, ⟨S512x128, v 2⟩, ⟨S512x128, v 3⟩, ⟨S512x128, v 4⟩, ⟨S512x128, v 5⟩,
     ⟨S512x128, v 6⟩, ⟨S512x128, v 7⟩, ⟨S512x128, v 8⟩, ⟨S512x128, v 9⟩, ⟨S512x128, v 10⟩, ⟨S512x128, v 11⟩,
     ⟨S512x128, v 12⟩, ⟨S512x128, v 13⟩, ⟨S512x128, v 14⟩, ⟨S512x128, v 15⟩] planes_cat

/-- Rows `128·a` on of the key scratch. -/
def kChunk (p : Fin 16) (a : BitVec 32) (ha : a.toNat < 32) : Rect S16x4096x128 :=
  Rect.unit ![p.val, (Scalar.indexCast (Scalar.muli a 128#32)).toNat, 0] S1x128x128.size (by
    have h : (Scalar.indexCast (Scalar.muli a 128#32)).toNat = a.toNat * 128 := by
      show (a * 128#32).toNat = _
      rw [BitVec.toNat_mul]; simp; omega
    intro x; fin_cases x <;> simp [h] <;> omega)

/-- The query scratch's plane `p`. -/
def qPlane (p : Fin 16) : Rect S16x128x128 := Rect.unit ![p.val, 0, 0] S1x128x128.size (by revert p; decide)

theorem S1x128x128_pos : 0 < S1x128x128.numel := by decide

/-- The key codes of chunk `a`. -/
noncomputable def loadK (a : BitVec 32) (ha : a.toNat < 32) : Cmd F (FVec F S512x2048 .fp8e4m3) :=
  (collect fun p => .ld .kp (kChunk p a ha).toLoadRect S1x128x128_pos fun x => .ret (codes x)).bind fun v => .ret (planes v)

/-- The query codes. -/
noncomputable def loadQ : Cmd F (FVec F S512x2048 .fp8e4m3) :=
  (collect fun p => .ld .qp (qPlane p).toLoadRect S1x128x128_pos fun x => .ret (codes x)).bind fun v => .ret (planes v)

/-- Rows against rows. -/
def rowsDot : DotDims S512x2048 S512x2048 S512x512 where
  lhsContracting := [1]
  rhsContracting := [1]
  lhsNonContracting := [0]
  rhsNonContracting := [0]
  lhsBatch := []
  rhsBatch := []
  wf := by decide

/-- The products of a chunk's keys and the queries. -/
noncomputable def dots (k q : FVec F S512x2048 .fp8e4m3) : FVec F S512x512 .f32 :=
  matmul rowsDot none k q (constant S512x512 .f32 0x00000000#32)

/-- Block (group `g`, head `h`) of the products, by cells. -/
def cells (d : FVec F S512x512 .f32) (g h : Fin 4) : FVec F S16x8x128 .f32 :=
  shapeCast S16x8x128 (extractStridedSlice S128x128 ![128 * g.val, 128 * h.val] d (by revert g h; decide)) (by decide)

/-- Cell `c` of sixteen. -/
def cell (x : FVec F S16x8x128 .f32) (c : Fin 16) : FVec F S8x128 .f32 :=
  shapeCast S8x128 (extractStridedSlice S1x8x128 ![c.val, 0, 0] x (by revert c; decide)) (by decide)

/-- Combine sixteen values from the left. -/
def chain (op : FVec F S8x128 .f32 → FVec F S8x128 .f32 → FVec F S8x128 .f32) (s : Fin 16 → FVec F S8x128 .f32) :
    FVec F S8x128 .f32 :=
  [1, 2, 3, 4, 5, 6, 7, 8, 9, 10, 11, 12, 13, 14, 15].foldl (fun acc c => op acc (s c)) (s 0)

/-- The number that stands for no score. -/
noncomputable def floorV : FVec F S8x128 .f32 := broadcast S8x128 (Scalar.ofBits .f32 0xFF61B1E6#32)

/-- The maximum over the cells. -/
noncomputable def maxOf (s : Fin 16 → FVec F S8x128 .f32) : FVec F S8x128 .f32 := maximumf (chain maximumf s) floorV

/-- The sum over the cells of the exponentials, shifted by `mg`. -/
noncomputable def sumOf (s : Fin 16 → FVec F S8x128 .f32) (mg : FVec F S8x128 .f32) : FVec F S8x128 .f32 :=
  chain addf fun c => exp2 (subf (s c) mg)

/-- The group's number. -/
def groupNo (a : BitVec 32) (g : Fin 4) : BitVec 32 := Scalar.addi (Scalar.muli a 4#32) (BitVec.ofNat 32 g.val)

/-- Head `h`, rows of the group: where the group's sums and maxima are kept. -/
def gRect (a : BitVec 32) (ha : a.toNat < 32) (g h : Fin 4) : Rect S4x1024x128 :=
  Rect.unit ![h.val, (Scalar.indexCast (Scalar.muli (groupNo a g) 8#32)).toNat, 0] S1x8x128.size (by
    have h1 : (Scalar.indexCast (Scalar.muli (groupNo a g) 8#32)).toNat = (a.toNat * 4 + g.val) * 8 := by
      show ((a * 4#32 + BitVec.ofNat 32 g.val) * 8#32).toNat = _
      rw [BitVec.toNat_mul, BitVec.toNat_add, BitVec.toNat_mul]; simp; omega
    intro x; fin_cases x <;> simp [h1] <;> omega)

/-- The running maximum and the running sum of each of four heads. -/
abbrev Carry (F : FTy → Type) : Type :=
  FVec F S8x128 .f32 × FVec F S8x128 .f32 × FVec F S8x128 .f32 × FVec F S8x128 .f32
    × FVec F S8x128 .f32 × FVec F S8x128 .f32 × FVec F S8x128 .f32 × FVec F S8x128 .f32

/-- A score as it is. -/
def keep (_ : BitVec 32) (_ : Fin 16) (s : FVec F S8x128 .f32) : FVec F S8x128 .f32 := s

/-- A score where the key is not after the query, `-∞` elsewhere. -/
noncomputable def causal (i : Fin 128) (ga : BitVec 32) (c : Fin 16) (s : FVec F S8x128 .f32) : FVec F S8x128 .f32 :=
  select (cmpi .sge rowGap (broadcast S8x128 (Scalar.addi (BitVec.ofNat 32 c.val) (Scalar.muli 128#32 (Scalar.subi ga (idx32 i))))))
    s (broadcast S8x128 (Scalar.ofBits .f32 0xFF800000#32))

/-- The group's scores, by cells. -/
noncomputable def scores (msk : BitVec 32 → Fin 16 → FVec F S8x128 .f32 → FVec F S8x128 .f32) (mu : F .f32) (d : FVec F S512x512 .f32)
    (a : BitVec 32) (g h : Fin 4) (c : Fin 16) : FVec F S8x128 .f32 :=
  msk (groupNo a g) c (mulf (cell (cells d g h) c) (broadcast S8x128 mu))

/-- The new running maximum. -/
noncomputable def nextM (m mg : FVec F S8x128 .f32) : FVec F S8x128 .f32 := maximumf m mg

/-- The new running sum. -/
noncomputable def nextL (m l mg pg : FVec F S8x128 .f32) : FVec F S8x128 .f32 :=
  addf (mulf l (exp2 (subf m (nextM m mg)))) (mulf pg (exp2 (subf mg (nextM m mg))))

/-- Store a group's sums or maxima. -/
noncomputable def setP (a : BitVec 32) (ha : a.toNat < 32) (g h : Fin 4) (y : FVec F S8x128 .f32) : Cmd F Unit :=
  .ld .p (gRect a ha g h).toLoadRect S1x8x128_pos fun _ => .st .p (gRect a ha g h) (lead y) S1x8x128_pos rfl (.ret ())
noncomputable def setM (a : BitVec 32) (ha : a.toNat < 32) (g h : Fin 4) (y : FVec F S8x128 .f32) : Cmd F Unit :=
  .ld .m (gRect a ha g h).toLoadRect S1x8x128_pos fun _ => .st .m (gRect a ha g h) (lead y) S1x8x128_pos rfl (.ret ())

/-- One group of one head: keep its sums and maxima, and carry the running ones on. -/
noncomputable def headStep (a : BitVec 32) (ha : a.toNat < 32) (g h : Fin 4) (s : Fin 16 → FVec F S8x128 .f32)
    (m l : FVec F S8x128 .f32) : Cmd F (FVec F S8x128 .f32 × FVec F S8x128 .f32) :=
  (setP a ha g h (sumOf s (maxOf s))).bind fun _ =>
  (setM a ha g h (maxOf s)).bind fun _ =>
  .ret (nextM m (maxOf s), nextL m l (maxOf s) (sumOf s (maxOf s)))

/-- One chunk: its products, and each group of each head in turn. -/
noncomputable def chunk (msk : BitVec 32 → Fin 16 → FVec F S8x128 .f32 → FVec F S8x128 .f32) (mu : Fin 4 → F .f32)
    (a : BitVec 32) (ha : a.toNat < 32) (cr : Carry F) : Cmd F (Carry F) :=
  (loadK a ha).bind fun k => loadQ.bind fun q =>
  Cmd.each (fun (g : Fin 4) (cr : Carry F) =>
      (headStep a ha g 0 (scores msk (mu 0) (dots k q) a g 0) cr.1 cr.2.1).bind fun r0 =>
      (headStep a ha g 1 (scores msk (mu 1) (dots k q) a g 1) cr.2.2.1 cr.2.2.2.1).bind fun r1 =>
      (headStep a ha g 2 (scores msk (mu 2) (dots k q) a g 2) cr.2.2.2.2.1 cr.2.2.2.2.2.1).bind fun r2 =>
      (headStep a ha g 3 (scores msk (mu 3) (dots k q) a g 3) cr.2.2.2.2.2.2.1 cr.2.2.2.2.2.2.2).bind fun r3 =>
      .ret (r0.1, r0.2, r1.1, r1.2, r2.1, r2.2, r3.1, r3.2))
    [0, 1, 2, 3] cr

/-- Zero in every place. -/
noncomputable def zeroV : FVec F S8x128 .f32 := broadcast S8x128 (Scalar.ofBits .f32 0x00000000#32)

/-- All chunks: those below the diagonal, and the one the diagonal crosses. -/
noncomputable def chunks (i : Fin 128) (mu : Fin 4 → F .f32) : Cmd F (Carry F) :=
  .loop (mainLoop (nFull i)) (mainFull_ok i) (floorV, zeroV, floorV, zeroV, floorV, zeroV, floorV, zeroV)
    (fun t cr => chunk keep mu (Scf.iv 0#32 1#32 t.val) (mainFull_iv i t) cr) fun cr =>
  .loop (restLoop (nFull i)) (restFull_ok i) cr
    (fun t cr => chunk keep mu (Scf.iv (restLoop (nFull i)).lb 1#32 t.val)
      (restFull_none i t).elim cr) fun cr =>
  chunk (causal i) mu (nFull i) (by rw [nFull_toNat]; omega) cr

/-! ## The results -/

/-- The logarithm, in base two, of a row's sum of exponentials. -/
noncomputable def rowNorm (log2e : F .f32) (m l : FVec F S8x128 .f32) : FVec F S1x128 .f32 :=
  let mt : FVec F S1x128 .f32 := shapeCast S1x128 (multiReduction .maximumf [0] S128 m 0xFF800000#32 (by decide) (.inl rfl) rfl) (by decide)
  let lt : FVec F S1x128 .f32 := shapeCast S1x128
    (multiReduction .add [0] S128 (mulf l (exp2 (subf m (broadcastTo S8x128 mt (by decide))))) 0x00000000#32 (by decide) (.inl rfl) rfl) (by decide)
  addf mt (mulf (log lt) (broadcast S1x128 log2e))

/-- The query row of a lane. -/
def rowNo (i : Fin 128) : IVec S8x128 32 :=
  addi (addi (broadcast S8x128 (Scalar.muli (idx32 i) 128#32)) (muli (laneMod 8#32) (broadcast S8x128 16#32))) (laneDiv 8#32)

/-- The lane of a query row. -/
def laneOf : IVec S8x128 32 := addi (muli (laneMod 16#32) (broadcast S8x128 8#32)) (laneDiv 16#32)

/-- The rows' logarithms of the mean exponential, in the queries' order. -/
noncomputable def rowOut (ln2 : F .f32) (i : Fin 128) (norm : FVec F S1x128 .f32) : FVec F S1x1x128 .f32 :=
  let v : FVec F S8x128 .f32 :=
    subf (broadcastTo S8x128 (mulf norm (broadcast S1x128 ln2)) (by decide)) (log (sitofp .f32 (addi (rowNo i) (broadcast S8x128 1#32))))
  let ix : IVec S8x128 32 := select (cmpi .slt laneOf (broadcast S8x128 0#32)) (addi laneOf (broadcast S8x128 128#32)) laneOf
  let ix' : IVec S8x128 32 := shapeCast S8x128 (shapeCast S8x128x1 ix (by decide)) (by decide)
  shapeCast S1x1x128 (extractStridedSlice S1x128 ![0, 0] (dynamicGather 1 v ix') (by decide)) (by decide)

/-- Head `h`'s row of the row result. -/
def lRect (h : Fin 4) : Rect S1x4x128 := Rect.unit ![0, h.val, 0] S1x1x128.size (by revert h; decide)

theorem S1x1x128_pos : 0 < S1x1x128.numel := by decide

/-- Store head `h`'s row result. -/
noncomputable def setL (h : Fin 4) (y : FVec F S1x1x128 .f32) : Cmd F Unit :=
  .ld .lse (lRect h).toLoadRect S1x1x128_pos fun _ => .st .lse (lRect h) y S1x1x128_pos rfl (.ret ())

/-- The block result's whole window. -/
def bWhole : Rect S1x4x8x1024 := Rect.unit ![0, 0, 0, 0] S1x4x8x1024.size (by decide)

theorem S1x4x8x1024_pos : 0 < S1x4x8x1024.numel := by decide

/-- Zero the block results. -/
noncomputable def zeroB : Cmd F Unit :=
  .ld .blk bWhole.toLoadRect S1x4x8x1024_pos fun _ =>
  .st .blk bWhole (broadcast S1x4x8x1024 (Scalar.ofBits .f32 0x00000000#32)) S1x4x8x1024_pos rfl (.ret ())

/-- Head `h`, rows of tile `t`, of the kept sums and maxima. -/
def tRect (t : BitVec 32) (ht : t.toNat < 8) (h : Fin 4) : Rect S4x1024x128 :=
  Rect.unit ![h.val, (Scalar.indexCast (Scalar.muli t 128#32)).toNat, 0] S1x128x128.size (by
    have h1 : (Scalar.indexCast (Scalar.muli t 128#32)).toNat = t.toNat * 128 := by
      show (t * 128#32).toNat = _
      rw [BitVec.toNat_mul]; simp; omega
    intro x; fin_cases x <;> simp [h1] <;> omega)

/-- Head `h`, columns of tile `t`, of the block results. -/
def bRect (t : BitVec 32) (ht : t.toNat < 8) (h : Fin 4) : Rect S1x4x8x1024 :=
  Rect.unit ![0, h.val, 0, (Scalar.indexCast (Scalar.muli t 128#32)).toNat] S1x1x8x128.size (by
    have h1 : (Scalar.indexCast (Scalar.muli t 128#32)).toNat = t.toNat * 128 := by
      show (t * 128#32).toNat = _
      rw [BitVec.toNat_mul]; simp; omega
    intro x; fin_cases x <;> simp [h1] <;> omega)

theorem S1x1x8x128_pos : 0 < S1x1x8x128.numel := by decide

/-- The key block of a row of tile `t`. -/
def keyBlock (t : BitVec 32) : IVec S128x128 32 :=
  addi (iota .tc S128x128 32 [0] (by decide)) (broadcast S128x128 (Scalar.muli t 128#32))

/-- A tile's kept sums, scaled by the row's norm, zero after the point's last block; by cells of the queries. -/
noncomputable def tileOut (i : Fin 128) (t : BitVec 32) (norm : FVec F S1x128 .f32) (p m : S1x128x128.Idx → F .f32) : FVec F S16x8x128 .f32 :=
  let v : FVec F S128x128 .f32 :=
    mulf (shapeCast S128x128 p (by decide)) (exp2 (subf (shapeCast S128x128 m (by decide)) (broadcastTo S128x128 norm (by decide))))
  let v' : FVec F S128x128 .f32 :=
    select (cmpi .slt (keyBlock t) (broadcast S128x128 (Scalar.muli (Scalar.addi (idx32 i) 1#32) 8#32))) v
      (broadcast S128x128 (Scalar.ofBits .f32 0x00000000#32))
  shapeCast S16x8x128 (transpose S128x128 [1, 0] v' (by decide)) (by decide)

/-- One tile of the block results of one head. -/
noncomputable def tileHead (i : Fin 128) (t : BitVec 32) (ht : t.toNat < 8) (h : Fin 4) (norm : FVec F S1x128 .f32) : Cmd F Unit :=
  .ld .p (tRect t ht h).toLoadRect S1x128x128_pos fun p =>
  .ld .m (tRect t ht h).toLoadRect S1x128x128_pos fun m =>
  .ld .blk (bRect t ht h).toLoadRect S1x1x8x128_pos fun _ =>
  .st .blk (bRect t ht h) (shapeCast S1x1x8x128 (chain addf (cell (tileOut i t norm p m))) (by decide)) S1x1x8x128_pos rfl (.ret ())

/-- One tile of the block results. -/
noncomputable def tile (i : Fin 128) (norm : Fin 4 → FVec F S1x128 .f32) (t : BitVec 32) (ht : t.toNat < 8) : Cmd F (BitVec 32) :=
  (forE [0, 1, 2, 3] fun h : Fin 4 => tileHead i t ht h (norm h)).bind fun _ => .ret 0#32

/-- All tiles of the block results. -/
noncomputable def tiles (i : Fin 128) (norm : Fin 4 → FVec F S1x128 .f32) : Cmd F Unit :=
  .loop (mainLoop (nTiles i)) (mainTiles_ok i) 0#32
    (fun t _ => tile i norm (Scf.iv 0#32 1#32 t.val) (mainTiles_iv i t)) fun z =>
  .loop (restLoop (nTiles i)) (restTiles_ok i) z
    (fun t _ => tile i norm (Scf.iv (restLoop (nTiles i)).lb 1#32 t.val)
      (restTiles_none i t).elim) fun _ =>
  .ret ()

/-- The four norms of a carry. -/
noncomputable def norms (log2e : F .f32) (cr : Carry F) : Fin 4 → FVec F S1x128 .f32 :=
  ![rowNorm log2e cr.1 cr.2.1, rowNorm log2e cr.2.2.1 cr.2.2.2.1, rowNorm log2e cr.2.2.2.2.1 cr.2.2.2.2.2.1,
    rowNorm log2e cr.2.2.2.2.2.2.1 cr.2.2.2.2.2.2.2]

/-- The results, from the final carry. -/
noncomputable def results (log2e ln2 : F .f32) (i : Fin 128) (cr : Carry F) : Cmd F Unit :=
  (forE [0, 1, 2, 3] fun h : Fin 4 => setL h (rowOut ln2 i (norms log2e cr h))).bind fun _ =>
  zeroB.bind fun _ => tiles i (norms log2e cr)

/-- The kernel's body at point `(b, i)`. -/
noncomputable def body (log2e ln2 : F .f32) (b : Fin 2) (i : Fin 128) : Cmd F Unit :=
  (packK i).bind fun _ => packQ.bind fun _ =>
  (mult log2e b 0).bind fun m0 => (mult log2e b 1).bind fun m1 => (mult log2e b 2).bind fun m2 => (mult log2e b 3).bind fun m3 =>
  (chunks i ![m0, m1, m2, m3]).bind fun cr => results log2e ln2 i cr

end K01
-- ==== Proof.Keeps.lean ====
/- What a command leaves alone: the six input arrays are read and never written, and a command that
   writes none of an array's places leaves it as it was. -/
module

public import proofs.«01_k».proof.Proof.Body

@[expose] public section

namespace K01

open Idealize.ShloMosaic Idealize.SL.Sem

variable {F : FTy → Type}

namespace Cmd

/-- The command stores only in arrays of which `P` holds. -/
def writes (P : Nm → Prop) {α : Type} (x : Cmd F α) : Prop :=
  Cmd.rec (motive := fun _ _ => Prop)
    (fun _ => True)
    (fun _ _ _ _ ih => ∀ v, ih v)
    (fun b _ _ _ _ _ ih => P b ∧ ih)
    (fun _ _ _ ih => ∀ v, ih v)
    (fun _ _ _ ih => ∀ v, ih v)
    (fun _ _ _ _ _ ihb ih => (∀ t v, ihb t v) ∧ ∀ v, ih v)
    x

theorem writes_bind (P : Nm → Prop) {α β : Type} (x : Cmd F α) (f : α → Cmd F β) (hx : writes P x) (hf : ∀ a, writes P (f a)) :
    writes P (bind x f) := by
  induction x with
  | ret a => exact hf a
  | ld b r h k ih => exact fun v => ih v f (hx v) hf
  | st b r w h hb k ih => exact ⟨hx.1, ih f hx.2 hf⟩
  | ldQ r h k ih => exact fun v => ih v f (hx v) hf
  | ldK r h k ih => exact fun v => ih v f (hx v) hf
  | loop l ok init body k ihb ih => exact ⟨hx.1, fun v => ih v f (hx.2 v) hf⟩

theorem writes_each (P : Nm → Prop) {σ ι : Type} (f : ι → σ → Cmd F σ) (hf : ∀ a s, writes P (f a s)) (l : List ι) :
    ∀ s, writes P (each f l s) := by
  induction l with
  | nil => exact fun _ => trivial
  | cons a l ih => exact fun s => writes_bind P _ _ (hf a s) ih

/-- An array the command does not store in keeps its contents. -/
theorem run_keeps (P : Nm → Prop) (qs : S2x4.Idx → F .f32) (ks : S2x1.Idx → F .f32) {α : Type} (x : Cmd F α) (b : Nm) (hb : ¬ P b) :
    ∀ s : St F, writes P x → (run qs ks x s).2 b = s b := by
  induction x with
  | ret a => exact fun s _ => rfl
  | ld b' r h k ih => exact fun s hx => ih _ s (hx _)
  | st b' r w h hb' k ih =>
    intro s hx
    have hne : b ≠ b' := fun e => hb (e ▸ hx.1)
    exact (ih _ hx.2).trans (Function.update_of_ne hne _ _)
  | ldQ r h k ih => exact fun s hx => ih _ s (hx _)
  | ldK r h k ih => exact fun s hx => ih _ s (hx _)
  | loop l ok init body k ihb ih =>
    intro s hx
    refine (ih _ _ (hx.2 _)).trans ?_
    have hl : ∀ (L : List (Fin l.trips)) (u : _ × St F),
        (L.foldl (fun u t => run qs ks (body t u.1) u.2) u).2 b = u.2 b := by
      intro L
      induction L with
      | nil => exact fun _ => rfl
      | cons t L ihL => exact fun u => (ihL _).trans (ihb t u.1 u.2 (hx.1 t u.1))
    exact hl _ (init, s)

end Cmd

open Cmd

variable [FloatOps F]

theorem writes_forE (P : Nm → Prop) {ι : Type} (l : List ι) (f : ι → Cmd F Unit) (hf : ∀ a, writes P (f a)) : writes P (forE l f) :=
  writes_each P _ (fun a _ => hf a) l ()

theorem writes_packAll (P : Nm → Prop) (f : Fin 2 → Fin 2 → Fin 2 → Fin 2 → Cmd F Unit) (hf : ∀ a b c d, writes P (f a b c d)) :
    writes P (packAll f) :=
  writes_forE P _ _ fun a => writes_forE P _ _ fun b => writes_forE P _ _ fun c => writes_forE P _ _ fun d => hf a b c d

theorem writes_packK1 (i : Fin 128) (ws : Fin 2 → IVec S128x2x128 32) (half a c0 lt : Fin 2) :
    writes (F := F) (· = .kp) (packK1 i ws half a c0 lt) :=
  writes_forE _ _ _ fun _ => fun _ => ⟨rfl, trivial⟩

theorem writes_packQ1 (h : Fin 4) (ws : Fin 2 → IVec S128x2x128 32) (half a c0 lt : Fin 2) :
    writes (F := F) (· = .qp) (packQ1 h ws half a c0 lt) :=
  writes_forE _ _ _ fun _ => fun _ => ⟨rfl, trivial⟩

theorem writes_packK (i : Fin 128) : writes (F := F) (· = .kp) (packK i) :=
  fun x y => writes_packAll _ _ fun half a c0 lt => writes_packK1 i ![words x, words y] half a c0 lt

theorem writes_packQ : writes (F := F) (· = .qp) packQ :=
  writes_forE _ _ _ fun h => fun x y => writes_packAll _ _ fun half a c0 lt => writes_packQ1 h ![words x, words y] half a c0 lt

theorem writes_collect (P : Nm → Prop) {α : Type} (f : Fin 16 → Cmd F α) (hf : ∀ a, writes P (f a)) : writes P (collect f) := by
  unfold collect
  repeat refine writes_bind P _ _ (hf _) fun _ => ?_
  exact trivial

theorem writes_mono {P Q : Nm → Prop} (h : ∀ b, P b → Q b) {α : Type} (x : Cmd F α) (hx : writes P x) : writes Q x := by
  induction x with
  | ret a => trivial
  | ld b r hh k ih => exact fun v => ih v (hx v)
  | st b r w hh hb k ih => exact ⟨h _ hx.1, ih hx.2⟩
  | ldQ r hh k ih => exact fun v => ih v (hx v)
  | ldK r hh k ih => exact fun v => ih v (hx v)
  | loop l ok init body k ihb ih => exact ⟨fun t v => ihb t v (hx.1 t v), fun v => ih v (hx.2 v)⟩

theorem writes_loadK (a : BitVec 32) (ha : a.toNat < 32) : writes (F := F) (fun _ => False) (loadK a ha) :=
  writes_bind _ _ _ (writes_collect _ _ fun _ _ => trivial) fun _ => trivial

theorem writes_loadQ : writes (F := F) (fun _ => False) loadQ :=
  writes_bind _ _ _ (writes_collect _ _ fun _ _ => trivial) fun _ => trivial

theorem writes_headStep (a : BitVec 32) (ha : a.toNat < 32) (g h : Fin 4) (s : Fin 16 → FVec F S8x128 .f32) (m l : FVec F S8x128 .f32) :
    writes (F := F) (fun b => b = .p ∨ b = .m) (headStep a ha g h s m l) :=
  writes_bind _ _ _ (fun _ => ⟨.inl rfl, trivial⟩) fun _ => writes_bind _ _ _ (fun _ => ⟨.inr rfl, trivial⟩) fun _ => trivial

theorem writes_chunk (msk : BitVec 32 → Fin 16 → FVec F S8x128 .f32 → FVec F S8x128 .f32) (mu : Fin 4 → F .f32)
    (a : BitVec 32) (ha : a.toNat < 32) (cr : Carry F) : writes (F := F) (fun b => b = .p ∨ b = .m) (chunk msk mu a ha cr) := by
  refine writes_bind _ _ _ (writes_mono (fun _ h => h.elim) _ (writes_loadK a ha)) fun k => ?_
  refine writes_bind _ _ _ (writes_mono (fun _ h => h.elim) _ writes_loadQ) fun q => ?_
  refine writes_each _ _ (fun g cr => ?_) _ _
  refine writes_bind _ _ _ (writes_headStep _ _ _ _ _ _ _) fun _ => ?_
  refine writes_bind _ _ _ (writes_headStep _ _ _ _ _ _ _) fun _ => ?_
  refine writes_bind _ _ _ (writes_headStep _ _ _ _ _ _ _) fun _ => ?_
  refine writes_bind _ _ _ (writes_headStep _ _ _ _ _ _ _) fun _ => ?_
  trivial

theorem writes_chunks (i : Fin 128) (mu : Fin 4 → F .f32) : writes (F := F) (fun b => b = .p ∨ b = .m) (chunks i mu) :=
  ⟨fun t cr => writes_chunk keep mu _ (mainFull_iv i t) cr, fun _ => ⟨fun t _ => (restFull_none i t).elim,
    fun cr => writes_chunk (causal i) mu (nFull i) (by rw [nFull_toNat]; omega) cr⟩⟩

theorem writes_tile (i : Fin 128) (norm : Fin 4 → FVec F S1x128 .f32) (t : BitVec 32) (ht : t.toNat < 8) :
    writes (F := F) (fun b => b = .blk) (tile i norm t ht) :=
  writes_bind _ _ _ (writes_forE _ _ _ fun _ _ _ _ => ⟨rfl, trivial⟩) fun _ => trivial

theorem writes_tiles (i : Fin 128) (norm : Fin 4 → FVec F S1x128 .f32) : writes (F := F) (fun b => b = .blk) (tiles i norm) :=
  ⟨fun t _ => writes_tile i norm _ (mainTiles_iv i t), fun _ => ⟨fun t _ => (restTiles_none i t).elim, fun _ => trivial⟩⟩

/-- The results are all that the last part stores in. -/
theorem writes_results (log2e ln2 : F .f32) (i : Fin 128) (cr : Carry F) :
    writes (F := F) (fun b => b = .blk ∨ b = .lse) (results log2e ln2 i cr) :=
  writes_bind _ _ _ (writes_forE _ _ _ fun _ _ => ⟨.inr rfl, trivial⟩) fun _ =>
    writes_bind _ _ _ (fun _ => ⟨.inl rfl, trivial⟩) fun _ => writes_mono (fun _ h => .inl h) _ (writes_tiles _ _)

/-- The arrays the body reads and never stores in. -/
def Nm.isInput : Nm → Bool
  | .q0 | .q1 | .k0 | .k1 => true
  | _ => false

theorem writes_mult (P : Nm → Prop) (log2e : F .f32) (b : Fin 2) (h : Fin 4) : writes P (mult log2e b h) := fun _ _ => trivial

theorem writes_body (log2e ln2 : F .f32) (b : Fin 2) (i : Fin 128) : writes (F := F) (fun b => b.isInput = false) (body log2e ln2 b i) := by
  refine writes_bind _ _ _ (writes_mono (by rintro _ rfl; rfl) _ (writes_packK i)) fun _ => ?_
  refine writes_bind _ _ _ (writes_mono (by rintro _ rfl; rfl) _ writes_packQ) fun _ => ?_
  refine writes_bind _ _ _ (writes_mult _ _ _ _) fun _ => ?_
  refine writes_bind _ _ _ (writes_mult _ _ _ _) fun _ => ?_
  refine writes_bind _ _ _ (writes_mult _ _ _ _) fun _ => ?_
  refine writes_bind _ _ _ (writes_mult _ _ _ _) fun _ => ?_
  refine writes_bind _ _ _ (writes_mono (by rintro _ (rfl | rfl) <;> rfl) _ (writes_chunks _ _)) fun _ => ?_
  exact writes_mono (by rintro _ (rfl | rfl) <;> rfl) _ (writes_results _ _ _ _)

/-- The body leaves its inputs as they were. -/
theorem body_keeps (qs : S2x4.Idx → F .f32) (ks : S2x1.Idx → F .f32) (log2e ln2 : F .f32) (b : Fin 2) (i : Fin 128) (s : St F)
    (n : Nm) (hn : n.isInput = true) : (run qs ks (body log2e ln2 b i) s).2 n = s n :=
  run_keeps _ qs ks _ n (by rw [hn]; decide) s (writes_body log2e ln2 b i)

end K01
-- ==== Proof.PrintedKernel.lean ====
/- The body printed in `Proof/../Kernel.lean` is the one of `Proof/Body.lean`. The two programs are the same
   operations in the same order; they differ in how the sequence is bracketed after the two loops over
   the chunks, so the printed sequence is restated there (`after` and `results`) and bracketed anew. -/
module

public import proofs.«01_k».proof.Proof.Body
public import proofs.«01_k».proof.Proof.Gen.Kernel
public import Idealize.ShloMosaic.Lib.Tactic

@[expose] public section

set_option maxRecDepth 65536

noncomputable section

namespace K01.Kernel

open Idealize.ShloMosaic Idealize.SL.Sem Idealize.ShloMosaic.TcCoe Cert.Kernel Cert.Kernel.Gen

variable {F : FTy → Type} [FloatOps F]

/-- `log2e` as the body has it. -/
def log2e : F .f32 := (Scalar.ofBits .f32 0x3FB8AA3B#32)
/-- `ln2` as the body has it. -/
def ln2 : F .f32 := (Scalar.ofBits .f32 0x3F317218#32)

section
variable (i : grid0.Coords) (arg2 : Memref sig .tc .smem S2x4 .f32) (harg2 : arg2.IsWhole) (arg3 : Memref sig .tc .smem S2x1 .f32) (harg3 : arg3.IsWhole) (arg4 : Memref sig .tc .vmem S1x4x1024x128 .i8) (harg4 : arg4.IsWhole) (arg5 : Memref sig .tc .vmem S1x4x1024x128 .i8) (harg5 : arg5.IsWhole) (arg6 : Memref sig .tc .vmem S1x1x1024x128 .i8) (harg6 : arg6.IsWhole) (arg7 : Memref sig .tc .vmem S1x1x1024x128 .i8) (harg7 : arg7.IsWhole) (arg8 : Memref sig .tc .vmem S1x4x8x1024 .f32) (harg8 : arg8.IsWhole) (arg9 : Memref sig .tc .vmem S1x4x128 .f32) (harg9 : arg9.IsWhole) (arg10 : Memref sig .tc .vmem S16x4096x128 .i32) (harg10 : arg10.IsWhole) (arg11 : Memref sig .tc .vmem S16x128x128 .i32) (harg11 : arg11.IsWhole) (arg12 : Memref sig .tc .vmem S4x1024x128 .f32) (harg12 : arg12.IsWhole) (arg13 : Memref sig .tc .vmem S4x1024x128 .f32) (harg13 : arg13.IsWhole)

/-- What the first loops leave: the printed values that the rest of the body reads. -/
abbrev AfterLoops (F : FTy → Type) : Type := Σ' (v5748 : IVec S8x128 32) (v5773 : BitVec 32) (v5780_0 : FVec F S8x128 .f32) (v5780_1 : FVec F S8x128 .f32) (v5780_2 : FVec F S8x128 .f32) (v5780_3 : FVec F S8x128 .f32) (v5780_4 : FVec F S8x128 .f32) (v5780_5 : FVec F S8x128 .f32) (v5780_6 : FVec F S8x128 .f32) (v5780_7 : FVec F S8x128 .f32), BitVec 32

/-- The printed values that the body's last parts read. -/
abbrev AfterChunk (F : FTy → Type) : Type := Σ' (v5679 : F .f32) (v5686 : F .f32) (v5693 : F .f32) (v5700 : F .f32) (v5701 : IVec S8x128 32) (v5748 : IVec S8x128 32) (v5773 : BitVec 32) (v5896 : FVec F S512x512 .f32) (v6411 : FVec F S8x128 .f32) (v6418 : FVec F S8x128 .f32) (v6671 : FVec F S8x128 .f32) (v6678 : FVec F S8x128 .f32) (v6931 : FVec F S8x128 .f32) (v6938 : FVec F S8x128 .f32) (v6940 : BitVec 32) (v7193 : FVec F S8x128 .f32) (v7200 : FVec F S8x128 .f32) (v7254 : FVec F S8x128 .f32) (v7258 : FVec F S8x128 .f32) (v7262 : FVec F S8x128 .f32) (v7266 : FVec F S8x128 .f32) (v7273 : FVec F S8x128 .f32) (v7280 : FVec F S8x128 .f32) (v7287 : FVec F S8x128 .f32) (v7294 : FVec F S8x128 .f32) (v7301 : FVec F S8x128 .f32) (v7308 : FVec F S8x128 .f32) (v7315 : FVec F S8x128 .f32) (v7322 : FVec F S8x128 .f32) (v7329 : FVec F S8x128 .f32) (v7336 : FVec F S8x128 .f32) (v7343 : FVec F S8x128 .f32) (v7350 : FVec F S8x128 .f32), BitVec 32

/-- The printed chunk on the diagonal, up to the cut. -/
def after (arg1 : BitVec 32) (v5679 : F .f32) (v5686 : F .f32) (v5693 : F .f32) (v5700 : F .f32) (v5701 : IVec S8x128 32) : AfterLoops F → Prog (TpuEff nD τ sig (Elt F) Λ₀ .tc) (AfterChunk F) := fun ⟨v5748, v5773, v5780_0, v5780_1, v5780_2, v5780_3, v5780_4, v5780_5, v5780_6, v5780_7, v5781⟩ => do
  let ⟨v5785, v5789, v5793, v5797, v5801, v5805, v5809, v5813, v5817, v5821⟩ ← k0_part250 i arg2 harg2 arg3 harg3 arg4 harg4 arg5 harg5 arg6 harg6 arg7 harg7 arg8 harg8 arg9 harg9 arg10 harg10 arg11 harg11 arg12 harg12 arg13 harg13 v5781
  let ⟨v5846, v5849, v5852, v5855, v5857⟩ ← k0_part251 i arg2 harg2 arg3 harg3 arg4 harg4 arg5 harg5 arg6 harg6 arg7 harg7 arg8 harg8 arg9 harg9 arg10 harg10 arg11 harg11 arg12 harg12 arg13 harg13 v5781 v5785 v5789 v5793 v5797 v5801 v5805 v5809 v5813 v5817 v5821
  let ⟨v5858, v5861, v5864, v5867, v5870, v5873, v5876, v5879, v5882, v5885, v5887⟩ ← k0_part252 i arg2 harg2 arg3 harg3 arg4 harg4 arg5 harg5 arg6 harg6 arg7 harg7 arg8 harg8 arg9 harg9 arg10 harg10 arg11 harg11 arg12 harg12 arg13 harg13 v5857
  let ⟨v5896, v5898, v5900, v5904, v5908, v5912, v5916, v5920, v5924, v5928, v5932, v5936, v5938⟩ ← k0_part253 i arg2 harg2 arg3 harg3 arg4 harg4 arg5 harg5 arg6 harg6 arg7 harg7 arg8 harg8 arg9 harg9 arg10 harg10 arg11 harg11 arg12 harg12 arg13 harg13 v5679 v5773 v5846 v5849 v5852 v5855 v5858 v5861 v5864 v5867 v5870 v5873 v5876 v5879 v5882 v5885 v5887
  let ⟨v5940, v5944, v5948, v5952, v5956, v5960, v5964, v5971, v5978, v5985, v5987, c3_i32⟩ ← k0_part254 i arg2 harg2 arg3 harg3 arg4 harg4 arg5 harg5 arg6 harg6 arg7 harg7 arg8 harg8 arg9 harg9 arg10 harg10 arg11 harg11 arg12 harg12 arg13 harg13 arg1 v5679 v5748 v5898 v5900 v5904 v5908 v5912 v5938
  let ⟨v5992, v5999, v6006, v6013, v6020, v6027, v6029, c9_i32⟩ ← k0_part255 i arg2 harg2 arg3 harg3 arg4 harg4 arg5 harg5 arg6 harg6 arg7 harg7 arg8 harg8 arg9 harg9 arg10 harg10 arg11 harg11 arg12 harg12 arg13 harg13 arg1 v5748 v5898 v5916 v5920 v5924 v5928 v5932 v5936 v5987 c3_i32
  let ⟨v6034, v6041, v6048, v6055, v6062, v6069, v6071, c15_i32⟩ ← k0_part256 i arg2 harg2 arg3 harg3 arg4 harg4 arg5 harg5 arg6 harg6 arg7 harg7 arg8 harg8 arg9 harg9 arg10 harg10 arg11 harg11 arg12 harg12 arg13 harg13 arg1 v5748 v5898 v5940 v5944 v5948 v5952 v5956 v5960 v6029 c9_i32
  let ⟨v6076, v6093, v6128, v6129⟩ ← k0_part257 i arg2 harg2 arg3 harg3 arg4 harg4 arg5 harg5 arg6 harg6 arg7 harg7 arg8 harg8 arg9 harg9 arg10 harg10 arg11 harg11 arg12 harg12 arg13 harg13 v5748 v5964 v5971 v5978 v5985 v5992 v5999 v6006 v6013 v6020 v6027 v6034 v6041 v6048 v6055 v6062 v6069 v6071 c15_i32
  let ⟨v6151, v6158, v6160, v6164, v6168, v6172, v6176, v6180, v6181⟩ ← k0_part258 i arg2 harg2 arg3 harg3 arg4 harg4 arg5 harg5 arg6 harg6 arg7 harg7 arg8 harg8 arg9 harg9 arg10 harg10 arg11 harg11 arg12 harg12 arg13 harg13 v5686 v5780_0 v5780_1 v5896 v5898 v6062 v6069 v6076 v6093 v6128 v6129
  let ⟨v6184, v6188, v6192, v6196, v6200, v6204, v6208, v6212, v6216, v6220, v6224, v6231, v6236⟩ ← k0_part259 i arg2 harg2 arg3 harg3 arg4 harg4 arg5 harg5 arg6 harg6 arg7 harg7 arg8 harg8 arg9 harg9 arg10 harg10 arg11 harg11 arg12 harg12 arg13 harg13 arg1 v5686 v5748 v5898 v6160 v6164 v6181
  let ⟨v6238, v6245, v6252, v6259, v6266, v6273, v6278⟩ ← k0_part260 i arg2 harg2 arg3 harg3 arg4 harg4 arg5 harg5 arg6 harg6 arg7 harg7 arg8 harg8 arg9 harg9 arg10 harg10 arg11 harg11 arg12 harg12 arg13 harg13 arg1 v5748 v5898 v6168 v6172 v6176 v6180 v6184 v6188 v6236
  let ⟨v6280, v6287, v6294, v6301, v6308, v6315, v6320⟩ ← k0_part261 i arg2 harg2 arg3 harg3 arg4 harg4 arg5 harg5 arg6 harg6 arg7 harg7 arg8 harg8 arg9 harg9 arg10 harg10 arg11 harg11 arg12 harg12 arg13 harg13 arg1 v5748 v5898 v6192 v6196 v6200 v6204 v6208 v6212 v6278
  let ⟨v6322, v6329, v6336, v6353, v6370, v6372⟩ ← k0_part262 i arg2 harg2 arg3 harg3 arg4 harg4 arg5 harg5 arg6 harg6 arg7 harg7 arg8 harg8 arg9 harg9 arg10 harg10 arg11 harg11 arg12 harg12 arg13 harg13 arg1 v5748 v5898 v6216 v6220 v6224 v6231 v6238 v6245 v6252 v6259 v6266 v6273 v6280 v6287 v6294 v6301 v6308 v6315 v6320
  let ⟨v6411, v6418, v6420, v6424⟩ ← k0_part263 i arg2 harg2 arg3 harg3 arg4 harg4 arg5 harg5 arg6 harg6 arg7 harg7 arg8 harg8 arg9 harg9 arg10 harg10 arg11 harg11 arg12 harg12 arg13 harg13 v5693 v5780_2 v5780_3 v5896 v5898 v6280 v6287 v6294 v6301 v6308 v6315 v6322 v6329 v6336 v6353 v6370 v6372
  let ⟨v6428, v6432, v6436, v6440, v6444, v6448, v6452, v6456, v6460, v6464, v6468, v6472, v6476, v6480, v6484⟩ ← k0_part264 i arg2 harg2 arg3 harg3 arg4 harg4 arg5 harg5 arg6 harg6 arg7 harg7 arg8 harg8 arg9 harg9 arg10 harg10 arg11 harg11 arg12 harg12 arg13 harg13 v5693 v6420
  let ⟨v6491, v6498, v6505, v6512, v6519, v6526⟩ ← k0_part265 i arg2 harg2 arg3 harg3 arg4 harg4 arg5 harg5 arg6 harg6 arg7 harg7 arg8 harg8 arg9 harg9 arg10 harg10 arg11 harg11 arg12 harg12 arg13 harg13 arg1 v5748 v5898 v6424 v6428 v6432 v6436 v6440 v6444
  let ⟨v6533, v6540, v6547, v6554, v6561, v6568⟩ ← k0_part266 i arg2 harg2 arg3 harg3 arg4 harg4 arg5 harg5 arg6 harg6 arg7 harg7 arg8 harg8 arg9 harg9 arg10 harg10 arg11 harg11 arg12 harg12 arg13 harg13 arg1 v5748 v5898 v6448 v6452 v6456 v6460 v6464 v6468
  let ⟨v6575, v6582, v6589, v6596, v6613, v6615⟩ ← k0_part267 i arg2 harg2 arg3 harg3 arg4 harg4 arg5 harg5 arg6 harg6 arg7 harg7 arg8 harg8 arg9 harg9 arg10 harg10 arg11 harg11 arg12 harg12 arg13 harg13 arg1 v5748 v5898 v6472 v6476 v6480 v6484 v6491 v6498 v6505 v6512 v6519 v6526 v6533 v6540 v6547 v6554 v6561 v6568
  let ⟨v6660, v6668⟩ ← k0_part268 i arg2 harg2 arg3 harg3 arg4 harg4 arg5 harg5 arg6 harg6 arg7 harg7 arg8 harg8 arg9 harg9 arg10 harg10 arg11 harg11 arg12 harg12 arg13 harg13 v5898 v6498 v6505 v6512 v6519 v6526 v6533 v6540 v6547 v6554 v6561 v6568 v6575 v6582 v6589 v6596 v6613 v6615
  let ⟨v6671, v6678, v6680, v6684, v6688, v6692, v6696, v6700, v6704, v6708, v6712, v6716, v6720, v6724, v6726, v6727⟩ ← k0_part269 i arg2 harg2 arg3 harg3 arg4 harg4 arg5 harg5 arg6 harg6 arg7 harg7 arg8 harg8 arg9 harg9 arg10 harg10 arg11 harg11 arg12 harg12 arg13 harg13 v5700 v5780_4 v5780_5 v5896 v6613 v6660 v6668
  let ⟨v6728, v6732, v6736, v6740, v6744, v6751, v6758, v6765, v6772, v6774⟩ ← k0_part270 i arg2 harg2 arg3 harg3 arg4 harg4 arg5 harg5 arg6 harg6 arg7 harg7 arg8 harg8 arg9 harg9 arg10 harg10 arg11 harg11 arg12 harg12 arg13 harg13 arg1 v5700 v5748 v5898 v6680 v6684 v6688 v6692 v6696 v6726 v6727
  let ⟨v6779, v6786, v6793, v6800, v6807, v6814, v6816⟩ ← k0_part271 i arg2 harg2 arg3 harg3 arg4 harg4 arg5 harg5 arg6 harg6 arg7 harg7 arg8 harg8 arg9 harg9 arg10 harg10 arg11 harg11 arg12 harg12 arg13 harg13 arg1 v5748 v5898 v6700 v6704 v6708 v6712 v6716 v6720 v6774
  let ⟨v6821, v6828, v6835, v6842, v6849, v6856, v6859⟩ ← k0_part272 i arg2 harg2 arg3 harg3 arg4 harg4 arg5 harg5 arg6 harg6 arg7 harg7 arg8 harg8 arg9 harg9 arg10 harg10 arg11 harg11 arg12 harg12 arg13 harg13 arg1 v5748 v5898 v6724 v6728 v6732 v6736 v6740 v6744 v6751 v6758 v6765 v6772 v6816
  let ⟨v6873, v6917, v6918⟩ ← k0_part273 i arg2 harg2 arg3 harg3 arg4 harg4 arg5 harg5 arg6 harg6 arg7 harg7 arg8 harg8 arg9 harg9 arg10 harg10 arg11 harg11 arg12 harg12 arg13 harg13 v6751 v6758 v6765 v6772 v6779 v6786 v6793 v6800 v6807 v6814 v6821 v6828 v6835 v6842 v6849 v6856 v6859
  let ⟨v6931, v6938, v6940, v6942, v6946, v6950, v6954, v6958, v6962, v6966, v6968⟩ ← k0_part274 i arg2 harg2 arg3 harg3 arg4 harg4 arg5 harg5 arg6 harg6 arg7 harg7 arg8 harg8 arg9 harg9 arg10 harg10 arg11 harg11 arg12 harg12 arg13 harg13 v5679 v5773 v5780_6 v5780_7 v5896 v5898 v6873 v6917 v6918
  let ⟨v6970, v6974, v6978, v6982, v6986, v6990, v6994, v6998, v7002, v7006, v7013, v7020, v7021, c128_i32_2973⟩ ← k0_part275 i arg2 harg2 arg3 harg3 arg4 harg4 arg5 harg5 arg6 harg6 arg7 harg7 arg8 harg8 arg9 harg9 arg10 harg10 arg11 harg11 arg12 harg12 arg13 harg13 arg1 v5679 v5748 v6940 v6942 v6946 v6950 v6968
  let ⟨v7027, v7034, v7041, v7048, v7055, v7062, v7063, c128_i32_2991⟩ ← k0_part276 i arg2 harg2 arg3 harg3 arg4 harg4 arg5 harg5 arg6 harg6 arg7 harg7 arg8 harg8 arg9 harg9 arg10 harg10 arg11 harg11 arg12 harg12 arg13 harg13 arg1 v5748 v6940 v6954 v6958 v6962 v6966 v6970 v6974 v7021 c128_i32_2973
  let ⟨v7069, v7076, v7083, v7090, v7097, v7104, v7105, c128_i32_3009⟩ ← k0_part277 i arg2 harg2 arg3 harg3 arg4 harg4 arg5 harg5 arg6 harg6 arg7 harg7 arg8 harg8 arg9 harg9 arg10 harg10 arg11 harg11 arg12 harg12 arg13 harg13 arg1 v5748 v6940 v6978 v6982 v6986 v6990 v6994 v6998 v7063 c128_i32_2991
  let ⟨v7111, v7118, v7135, v7158, v7159⟩ ← k0_part278 i arg2 harg2 arg3 harg3 arg4 harg4 arg5 harg5 arg6 harg6 arg7 harg7 arg8 harg8 arg9 harg9 arg10 harg10 arg11 harg11 arg12 harg12 arg13 harg13 arg1 v5748 v6940 v7002 v7006 v7013 v7020 v7027 v7034 v7041 v7048 v7055 v7062 v7069 v7076 v7083 v7090 v7097 v7104 v7105 c128_i32_3009
  let ⟨v7193, v7200, v7202, v7206, v7210, v7211⟩ ← k0_part279 i arg2 harg2 arg3 harg3 arg4 harg4 arg5 harg5 arg6 harg6 arg7 harg7 arg8 harg8 arg9 harg9 arg10 harg10 arg11 harg11 arg12 harg12 arg13 harg13 v5686 v5896 v6151 v6158 v6940 v7076 v7083 v7090 v7097 v7104 v7111 v7118 v7135 v7158 v7159
  let ⟨v7214, v7218, v7222, v7226, v7230, v7234, v7238, v7242, v7246, v7250, v7254, v7258, v7262, v7266, v7269⟩ ← k0_part280 i arg2 harg2 arg3 harg3 arg4 harg4 arg5 harg5 arg6 harg6 arg7 harg7 arg8 harg8 arg9 harg9 arg10 harg10 arg11 harg11 arg12 harg12 arg13 harg13 arg1 v5686 v6940 v7202 v7211
  let ⟨v7273, v7280, v7287, v7294, v7301, v7308, v7311⟩ ← k0_part281 i arg2 harg2 arg3 harg3 arg4 harg4 arg5 harg5 arg6 harg6 arg7 harg7 arg8 harg8 arg9 harg9 arg10 harg10 arg11 harg11 arg12 harg12 arg13 harg13 arg1 v5748 v6940 v7206 v7210 v7214 v7218 v7222 v7226 v7269
  let ⟨v7315, v7322, v7329, v7336, v7343, v7350, v7353⟩ ← k0_part282 i arg2 harg2 arg3 harg3 arg4 harg4 arg5 harg5 arg6 harg6 arg7 harg7 arg8 harg8 arg9 harg9 arg10 harg10 arg11 harg11 arg12 harg12 arg13 harg13 arg1 v5748 v6940 v7230 v7234 v7238 v7242 v7246 v7250 v7311
  pure ⟨v5679, v5686, v5693, v5700, v5701, v5748, v5773, v5896, v6411, v6418, v6671, v6678, v6931, v6938, v6940, v7193, v7200, v7254, v7258, v7262, v7266, v7273, v7280, v7287, v7294, v7301, v7308, v7315, v7322, v7329, v7336, v7343, v7350, v7353⟩

/-- The printed rest up to the block results. -/
def last (arg1 : BitVec 32) : AfterChunk F → Prog (TpuEff nD τ sig (Elt F) Λ₀ .tc) (Σ' (v10165 : FVec F S1x128 .f32) (v10197 : FVec F S1x128 .f32) (v10229 : FVec F S1x128 .f32) (v10261 : FVec F S1x128 .f32), FVec F S1x4x8x1024 .f32) := fun ⟨v5679, v5686, v5693, v5700, v5701, v5748, v5773, v5896, v6411, v6418, v6671, v6678, v6931, v6938, v6940, v7193, v7200, v7254, v7258, v7262, v7266, v7273, v7280, v7287, v7294, v7301, v7308, v7315, v7322, v7329, v7336, v7343, v7350, v7353⟩ =>
  k0_part346 i arg2 harg2 arg3 harg3 arg4 harg4 arg5 harg5 arg6 harg6 arg7 harg7 arg8 harg8 arg9 harg9 arg10 harg10 arg11 harg11 arg12 harg12 arg13 harg13 arg1 v5679 v5686 v5693 v5700 v5701 v5748 v5773 v5896 v6411 v6418 v6671 v6678 v6931 v6938 v6940 v7193 v7200 v7254 v7258 v7262 v7266 v7273 v7280 v7287 v7294 v7301 v7308 v7315 v7322 v7329 v7336 v7343 v7350 v7353

/-- The commands before the loops. -/
def before (b : Fin 2) (i : Fin 128) : Cmd F (F .f32 × F .f32 × F .f32 × F .f32) :=
  (packK i).bind fun _ => packQ.bind fun _ =>
  (mult log2e b 0).bind fun m0 => (mult log2e b 1).bind fun m1 => (mult log2e b 2).bind fun m2 => (mult log2e b 3).bind fun m3 =>
  .ret (m0, m1, m2, m3)

/-- The loop below the diagonal. -/
def loop1 (mu : Fin 4 → F .f32) : Prog (TpuEff nD τ sig (Elt F) Λ₀ .tc) (Carry F) :=
  Scf.Loop.for (mainLoop (nFull (i 1))) (mainFull_ok (i 1)) (floorV, zeroV, floorV, zeroV, floorV, zeroV, floorV, zeroV)
    fun t cr => Cmd.prog (Cmd.env arg2 arg3 arg4 arg5 arg6 arg7 arg8 arg9 arg10 arg11 arg12 arg13) (chunk keep mu (Scf.iv 0#32 1#32 t.val) (mainFull_iv (i 1) t) cr)

/-- The loop of no trips after it. -/
def loop2 (mu : Fin 4 → F .f32) (cr : Carry F) : Prog (TpuEff nD τ sig (Elt F) Λ₀ .tc) (Carry F) :=
  Scf.Loop.for (restLoop (nFull (i 1))) (restFull_ok (i 1)) cr
    fun t cr => Cmd.prog (Cmd.env arg2 arg3 arg4 arg5 arg6 arg7 arg8 arg9 arg10 arg11 arg12 arg13) (chunk keep mu (Scf.iv (restLoop (nFull (i 1))).lb 1#32 t.val) (restFull_none (i 1) t).elim cr)

/-- The values the rest reads, from the carry. -/
def handOn (c : Carry F) : AfterLoops F :=
  ⟨rowGap, nFull (i 1), c.1, c.2.1, c.2.2.1, c.2.2.2.1, c.2.2.2.2.1, c.2.2.2.2.2.1, c.2.2.2.2.2.2.1, c.2.2.2.2.2.2.2,
    Scalar.muli (nFull (i 1)) 128#32⟩

/-- The printed body, bracketed as it is printed. -/
theorem printed_eq :
    Cert.Kernel.cc0__body (F := F) i arg2 harg2 arg3 harg3 arg4 harg4 arg5 harg5 arg6 harg6 arg7 harg7 arg8 harg8 arg9 harg9 arg10 harg10 arg11 harg11 arg12 harg12 arg13 harg13 =
      Cmd.prog (Cmd.env arg2 arg3 arg4 arg5 arg6 arg7 arg8 arg9 arg10 arg11 arg12 arg13) (before (i 0) (i 1)) >>= fun m =>
        (loop1 i arg2 arg3 arg4 arg5 arg6 arg7 arg8 arg9 arg10 arg11 arg12 arg13 ![m.1, m.2.1, m.2.2.1, m.2.2.2] >>= fun c => loop2 i arg2 arg3 arg4 arg5 arg6 arg7 arg8 arg9 arg10 arg11 arg12 arg13 ![m.1, m.2.1, m.2.2.1, m.2.2.2] c >>= fun c => .ret (handOn i c))
          >>= (after i arg2 harg2 arg3 harg3 arg4 harg4 arg5 harg5 arg6 harg6 arg7 harg7 arg8 harg8 arg9 harg9 arg10 harg10 arg11 harg11 arg12 harg12 arg13 harg13 (idx32 (i 1)) m.1 m.2.1 m.2.2.1 m.2.2.2 lane)
          >>= fun s => last i arg2 harg2 arg3 harg3 arg4 harg4 arg5 harg5 arg6 harg6 arg7 harg7 arg8 harg8 arg9 harg9 arg10 harg10 arg11 harg11 arg12 harg12 arg13 harg13 (idx32 (i 1)) s >>= fun n =>
            Cmd.prog (Cmd.env arg2 arg3 arg4 arg5 arg6 arg7 arg8 arg9 arg10 arg11 arg12 arg13) (zeroB.bind fun _ => tiles (i 1) ![n.1, n.2.1, n.2.2.1, n.2.2.2.1]) := by
  sl_kernel_rfl

/-- The printed body is the commands' program. -/
theorem body_eq :
    Cert.Kernel.cc0__body (F := F) i arg2 harg2 arg3 harg3 arg4 harg4 arg5 harg5 arg6 harg6 arg7 harg7 arg8 harg8 arg9 harg9 arg10 harg10 arg11 harg11 arg12 harg12 arg13 harg13 = Cmd.prog (Cmd.env arg2 arg3 arg4 arg5 arg6 arg7 arg8 arg9 arg10 arg11 arg12 arg13) (body log2e ln2 (i 0) (i 1)) := by
  rw [printed_eq]
  simp only [Prog.bind_assoc, Prog.bind_ret]
  sl_kernel_rfl

end

end K01.Kernel
-- ==== Proof.FrameKernel.lean ====
/- The kernel's run at one grid point, and its frame: the program of the printed body is the command of
   `Proof/Body.lean` (`Proof/PrintedKernel.lean`), so it does what the command's `run` says. Here nothing
   is said of the two results or of the scratch arrays: the frame only. -/
module

public import proofs.«01_k».proof.Proof.CmdRule
public import proofs.«01_k».proof.Proof.Keeps
public import proofs.«01_k».proof.Proof.PrintedKernel
public import proofs.«01_k».proof.Proof.Gen.Kernel.Frame
public import Idealize.ShloMosaic.Lib.Pipeline.Frame
public import Idealize.ShloMosaic.Lib.Tactic

@[expose] public section

noncomputable section

namespace K01.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The contents of the ten arrays, one by one. -/
def contents (q0 q1 : S1x4x1024x128.Idx → Elt F .i8) (k0 k1 : S1x1x1024x128.Idx → Elt F .i8)
    (blk : S1x4x8x1024.Idx → Elt F .f32) (lse : S1x4x128.Idx → Elt F .f32)
    (kp : S16x4096x128.Idx → Elt F .i32) (qp : S16x128x128.Idx → Elt F .i32)
    (p m : S4x1024x128.Idx → Elt F .f32) : Cmd.St F
  | .q0 => q0 | .q1 => q1 | .k0 => k0 | .k1 => k1 | .blk => blk | .lse => lse | .kp => kp | .qp => qp | .p => p | .m => m

/-- The references the body is handed at point `t`. -/
abbrev envAt (t : Fin cfg0.N) : Cmd.Env sig :=
  Cmd.env (st0_0 t) (st0_1 t) (st0_2 t) (st0_3 t) (st0_4 t) (st0_5 t) (st0_6 t) (st0_7 t)
    (Memref.whole cc0_scratch0) (Memref.whole cc0_scratch1) (Memref.whole cc0_scratch2) (Memref.whole cc0_scratch3)

/-- What the body does at point `t`. -/
def runAt (t : Fin cfg0.N) (qs : S2x4.Idx → F .f32) (ks : S2x1.Idx → F .f32) (s : Cmd.St F) : Cmd.St F :=
  (Cmd.run qs ks (body (log2e (F := F)) ln2 (grid0.coords t 0) (grid0.coords t 1)) s).2

/-- The body leaves its inputs as they were. -/
theorem runAt_keeps (t : Fin cfg0.N) (qs : S2x4.Idx → F .f32) (ks : S2x1.Idx → F .f32) (s : Cmd.St F) (n : Nm) (hn : n.isInput = true) :
    runAt t qs ks s n = s n := by
  unfold runAt; exact body_keeps qs ks _ _ _ _ s n hn

theorem arrays_eq (c : Dev nD) (t : Fin cfg0.N) (s : Cmd.St F) :
    (bigSep Finset.univ fun b => owns (c : Thread nD τ) ((envAt t).mem b) fullShare (s b) : sProp 𝕄)
      = iprop(owns (c : Thread nD τ) (st0_2 t) fullShare (s .q0) ∗ owns (c : Thread nD τ) (st0_3 t) fullShare (s .q1)
        ∗ owns (c : Thread nD τ) (st0_4 t) fullShare (s .k0) ∗ owns (c : Thread nD τ) (st0_5 t) fullShare (s .k1)
        ∗ owns (c : Thread nD τ) (st0_6 t) fullShare (s .blk) ∗ owns (c : Thread nD τ) (st0_7 t) fullShare (s .lse)
        ∗ owns (c : Thread nD τ) (Memref.whole cc0_scratch0) fullShare (s .kp) ∗ owns (c : Thread nD τ) (Memref.whole cc0_scratch1) fullShare (s .qp)
        ∗ owns (c : Thread nD τ) (Memref.whole cc0_scratch2) fullShare (s .p) ∗ owns (c : Thread nD τ) (Memref.whole cc0_scratch3) fullShare (s .m)) :=
  bigSep_univ_eq_bigSepL [Nm.q0, Nm.q1, Nm.k0, Nm.k1, Nm.blk, Nm.lse, Nm.kp, Nm.qp, Nm.p, Nm.m] (by decide) (by decide) _

/-- The body at point `t`: from the two tables and the ten arrays at contents `s`, to the arrays at `runAt`'s. -/
theorem body_runs (c : Dev nD) (t : Fin cfg0.N) (qs : S2x4.Idx → F .f32) (ks : S2x1.Idx → F .f32) (s : Cmd.St F)
    (Q : PUnit → sProp 𝕄) :
    iprop(Cmd.own c (envAt t) qs ks s ∗ (Cmd.own c (envAt t) qs ks (runAt t qs ks s) -∗ Q ⟨⟩))
      ⊢ wp frame (wpE (defs₀ (F := F)) Variants.none c none) Set.univ (bodyAt0 t) Q := by
  have e : bodyAt0 (F := F) t = Cmd.prog (envAt t) (body (log2e (F := F)) ln2 (grid0.coords t 0) (grid0.coords t 1)) :=
    body_eq (F := F) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _)
  unfold runAt
  rw [e]
  have h := Cmd.wp_prog (defs := defs₀ (F := F)) Variants.none c (envAt t) qs ks
    (body (log2e (F := F)) ln2 (grid0.coords t 0) (grid0.coords t 1)) s Q
  have u : ∀ a : Unit, Q a = Q ⟨⟩ := fun _ => rfl
  rw [u] at h
  with_reducible exact h

/-! ## One point -/

/-- What the arrays hold before the body runs at point `t`: the inputs' blocks, and the rest at anything. -/
def held (c : Dev nD) (t : Fin cfg0.N) (blk : S1x4x8x1024.Idx → Elt F .f32) (lse : S1x4x128.Idx → Elt F .f32)
    (kp : S16x4096x128.Idx → Elt F .i32) (qp : S16x128x128.Idx → Elt F .i32) (p pm : S4x1024x128.Idx → Elt F .f32) : Cmd.St F :=
  contents (iblk m c 2 t) (iblk m c 3 t) (iblk m c 4 t) (iblk m c 5 t) blk lse kp qp p pm

/-- What they hold after it. -/
def afterRun (c : Dev nD) (t : Fin cfg0.N) (blk : S1x4x8x1024.Idx → Elt F .f32) (lse : S1x4x128.Idx → Elt F .f32)
    (kp : S16x4096x128.Idx → Elt F .i32) (qp : S16x128x128.Idx → Elt F .i32) (p pm : S4x1024x128.Idx → Elt F .f32) : Cmd.St F :=
  runAt t (iblk m c 0 t) (iblk m c 1 t) (held m c t blk lse kp qp p pm)

/-- The body at point `t`, on the inputs' blocks and on the rest at anything: the inputs are left as they
    were, the rest at what the command's `run` says. -/
theorem body_point (c : Dev nD) (t : Fin cfg0.N) (blk : S1x4x8x1024.Idx → Elt F .f32) (lse : S1x4x128.Idx → Elt F .f32)
    (kp : S16x4096x128.Idx → Elt F .i32) (qp : S16x128x128.Idx → Elt F .i32) (p pm : S4x1024x128.Idx → Elt F .f32) (Q : PUnit → sProp 𝕄) :
    iprop(iprop(owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare (iblk m c 4 t) ∗ owns (c : Thread nD τ) (st0_5 t) fullShare (iblk m c 5 t)
        ∗ owns (c : Thread nD τ) (st0_6 t) fullShare blk ∗ owns (c : Thread nD τ) (st0_7 t) fullShare lse
        ∗ owns (c : Thread nD τ) (Memref.whole cc0_scratch0) fullShare kp ∗ owns (c : Thread nD τ) (Memref.whole cc0_scratch1) fullShare qp
        ∗ owns (c : Thread nD τ) (Memref.whole cc0_scratch2) fullShare p ∗ owns (c : Thread nD τ) (Memref.whole cc0_scratch3) fullShare pm)
        ∗ (iprop(owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare (iblk m c 4 t) ∗ owns (c : Thread nD τ) (st0_5 t) fullShare (iblk m c 5 t)
        ∗ owns (c : Thread nD τ) (st0_6 t) fullShare (afterRun m c t blk lse kp qp p pm .blk) ∗ owns (c : Thread nD τ) (st0_7 t) fullShare (afterRun m c t blk lse kp qp p pm .lse)
        ∗ owns (c : Thread nD τ) (Memref.whole cc0_scratch0) fullShare (afterRun m c t blk lse kp qp p pm .kp) ∗ owns (c : Thread nD τ) (Memref.whole cc0_scratch1) fullShare (afterRun m c t blk lse kp qp p pm .qp)
        ∗ owns (c : Thread nD τ) (Memref.whole cc0_scratch2) fullShare (afterRun m c t blk lse kp qp p pm .p) ∗ owns (c : Thread nD τ) (Memref.whole cc0_scratch3) fullShare (afterRun m c t blk lse kp qp p pm .m)) -∗ Q ⟨⟩))
      ⊢ wp frame (wpE (defs₀ (F := F)) Variants.none c none) Set.univ (bodyAt0 t) Q := by
  have h := body_runs c t (iblk m c 0 t) (iblk m c 1 t) (held m c t blk lse kp qp p pm) Q
  unfold Cmd.own at h
  rw [arrays_eq, arrays_eq] at h
  rw [runAt_keeps t _ _ _ .q0 rfl, runAt_keeps t _ _ _ .q1 rfl, runAt_keeps t _ _ _ .k0 rfl, runAt_keeps t _ _ _ .k1 rfl] at h
  exact h

/-- The invariant of the frame: the scratch arrays at some contents, the generator register at some state. -/
theorem PhiA_eq (c : Dev nD) :
    (Pipeline.ΦA spec0 c : sProp 𝕄)
      = iprop(((∃ f, owns (c : Thread nD τ) (Memref.whole cc0_scratch0) fullShare f) ∗ (∃ f, owns (c : Thread nD τ) (Memref.whole cc0_scratch1) fullShare f)
          ∗ (∃ f, owns (c : Thread nD τ) (Memref.whole cc0_scratch2) fullShare f) ∗ (∃ f, owns (c : Thread nD τ) (Memref.whole cc0_scratch3) fullShare f))
          ∗ ∃ r, prngReg c r) := by
  unfold Pipeline.ΦA; rw [scopedRest0_eq]; simp only [owns_whole]; try rfl

/-! ## The frame -/

/-- The two results are forgotten. -/
def forgets0 : Fin 8 → Bool := fun w => w == 6 || w == 7

/-- The proof data: inputs left as they are, results unnamed. -/
def dats (_ : Fin 1) (c : Dev nD) : Dat τ (Elt F) Unit ℕ (UR sig nD τ) ℕ cfg0 c where
  A w := V m c (Pipeline.arrRef spec0 w)
  after := fun w t => match w with
    | 0 => iblk m c 0 t | 1 => iblk m c 1 t | 2 => iblk m c 2 t | 3 => iblk m c 3 t | 4 => iblk m c 4 t | 5 => iblk m c 5 t
    | 6 => Pipeline.Dat.unnamed (cfg := cfg0) 6 t | 7 => Pipeline.Dat.unnamed (cfg := cfg0) 7 t
  Φ _ := Pipeline.ΦA spec0 c
  q w := Pipeline.shareOf spec0 w
  owed _ := 0

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ X, owns (c : Thread nD τ) (st0_6 t) fullShare X) ∗ (∃ X, owns (c : Thread nD τ) (st0_7 t) fullShare X))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t)
    ∗ owns (c : Thread nD τ) (st0_4 t) fullShare ((dats m 0 c).after 4 t) ∗ owns (c : Thread nD τ) (st0_5 t) fullShare ((dats m 0 c).after 5 t)
    ∗ (∃ X, owns (c : Thread nD τ) (st0_6 t) fullShare X) ∗ (∃ X, owns (c : Thread nD τ) (st0_7 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).owesAt () t.succ = (dats m 0 c).owesAt () t.castSucc from rfl,
    show (dats m 0 c).Φ t.succ = Pipeline.ΦA spec0 c from rfl,
    show (dats m 0 c).Φ t.castSucc = Pipeline.ΦA spec0 c from rfl, PhiA_eq]
  simp only [before0_0_of m (dats m 0 c) rfl (fun _ => rfl) t, before0_1_of m (dats m 0 c) rfl (fun _ => rfl) t,
    before0_2_of m (dats m 0 c) rfl (fun _ => rfl) t, before0_3_of m (dats m 0 c) rfl (fun _ => rfl) t,
    before0_4_of m (dats m 0 c) rfl (fun _ => rfl) t, before0_5_of m (dats m 0 c) rfl (fun _ => rfl) t]
  rw [show (dats m 0 c).after 0 t = iblk m c 0 t from rfl, show (dats m 0 c).after 1 t = iblk m c 1 t from rfl,
    show (dats m 0 c).after 2 t = iblk m c 2 t from rfl, show (dats m 0 c).after 3 t = iblk m c 3 t from rfl,
    show (dats m 0 c).after 4 t = iblk m c 4 t from rfl, show (dats m 0 c).after 5 t = iblk m c 5 t from rfl]
  iintro ⟨⟨⟨⟨%kp, S0⟩, ⟨%qp, S1⟩, ⟨%p, S2⟩, ⟨%pm, S3⟩⟩, Hg⟩, HO, ⟨%d0, H0⟩, ⟨%d1, H1⟩, ⟨%d2, H2⟩, ⟨%d3, H3⟩, ⟨%d4, H4⟩, ⟨%d5, H5⟩, ⟨%blk, H6⟩, ⟨%lse, H7⟩⟩
  iapply (body_point m c t blk lse kp qp p pm _)
  isplitl [H0 H1 H2 H3 H4 H5 H6 H7 S0 S1 S2 S3]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    isplitl [S2]; · iexact S2
    iexact S3
  iintro ⟨H0, H1, H2, H3, H4, H5, H6, H7, S0, S1, S2, S3⟩
  isplitl [S0 S1 S2 S3 Hg]
  · isplitr [Hg]; swap; · iexact Hg
    isplitl [S0]; · iexists _; iexact S0
    isplitl [S1]; · iexists _; iexact S1
    isplitl [S2]; · iexists _; iexact S2
    iexists _; iexact S3
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

/-- The body table's row at the point is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- From any memory with zero counters, every execution of the program ends, the argument arrays as they were and
    every semaphore counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := fun _ _ => rfl)
    (hΦ := fun _ _ => rfl)

/-- The frame claim's post. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨h.1.arr_in c 3 rfl, h.1.arr_in c 0 rfl, h.1.arr_in c 5 rfl, h.1.arr_in c 1 rfl⟩, h.2⟩) (run_main m ρ)

end K01.Kernel

end
-- ==== Proof.PrintedKernelIdeal.lean ====
/- The body printed in `Proof/../KernelIdeal.lean` is the one of `Proof/Body.lean`. The two programs are the same
   operations in the same order; they differ in how the sequence is bracketed after the two loops over
   the chunks, so the printed sequence is restated there (`after` and `results`) and bracketed anew. -/
module

public import proofs.«01_k».proof.Proof.Body
public import proofs.«01_k».proof.Proof.Gen.KernelIdeal
public import Idealize.ShloMosaic.Lib.Tactic

@[expose] public section

set_option maxRecDepth 65536

noncomputable section

namespace K01.KernelIdeal

open Idealize.ShloMosaic Idealize.SL.Sem Idealize.ShloMosaic.TcCoe Cert.KernelIdeal Cert.KernelIdeal.Gen

variable {F : FTy → Type} [FloatOps F] [Named F]

/-- `log2e` as the body has it. -/
def log2e : F .f32 := (Named.named κ "log2e" 0x3FB8AA3B#32)
/-- `ln2` as the body has it. -/
def ln2 : F .f32 := (Named.named κ "ln2" 0x3F317218#32)

section
variable (i : grid0.Coords) (arg2 : Memref sig .tc .smem S2x4 .f32) (harg2 : arg2.IsWhole) (arg3 : Memref sig .tc .smem S2x1 .f32) (harg3 : arg3.IsWhole) (arg4 : Memref sig .tc .vmem S1x4x1024x128 .i8) (harg4 : arg4.IsWhole) (arg5 : Memref sig .tc .vmem S1x4x1024x128 .i8) (harg5 : arg5.IsWhole) (arg6 : Memref sig .tc .vmem S1x1x1024x128 .i8) (harg6 : arg6.IsWhole) (arg7 : Memref sig .tc .vmem S1x1x1024x128 .i8) (harg7 : arg7.IsWhole) (arg8 : Memref sig .tc .vmem S1x4x8x1024 .f32) (harg8 : arg8.IsWhole) (arg9 : Memref sig .tc .vmem S1x4x128 .f32) (harg9 : arg9.IsWhole) (arg10 : Memref sig .tc .vmem S16x4096x128 .i32) (harg10 : arg10.IsWhole) (arg11 : Memref sig .tc .vmem S16x128x128 .i32) (harg11 : arg11.IsWhole) (arg12 : Memref sig .tc .vmem S4x1024x128 .f32) (harg12 : arg12.IsWhole) (arg13 : Memref sig .tc .vmem S4x1024x128 .f32) (harg13 : arg13.IsWhole)

/-- What the first loops leave: the printed values that the rest of the body reads. -/
abbrev AfterLoops (F : FTy → Type) : Type := Σ' (v5748 : IVec S8x128 32) (v5773 : BitVec 32) (v5780_0 : FVec F S8x128 .f32) (v5780_1 : FVec F S8x128 .f32) (v5780_2 : FVec F S8x128 .f32) (v5780_3 : FVec F S8x128 .f32) (v5780_4 : FVec F S8x128 .f32) (v5780_5 : FVec F S8x128 .f32) (v5780_6 : FVec F S8x128 .f32) (v5780_7 : FVec F S8x128 .f32), BitVec 32

/-- The printed values that the body's last parts read. -/
abbrev AfterChunk (F : FTy → Type) : Type := Σ' (v5679 : F .f32) (v5686 : F .f32) (v5693 : F .f32) (v5700 : F .f32) (v5701 : IVec S8x128 32) (v5748 : IVec S8x128 32) (v5773 : BitVec 32) (v5896 : FVec F S512x512 .f32) (v6411 : FVec F S8x128 .f32) (v6418 : FVec F S8x128 .f32) (v6671 : FVec F S8x128 .f32) (v6678 : FVec F S8x128 .f32) (v6931 : FVec F S8x128 .f32) (v6938 : FVec F S8x128 .f32) (v6940 : BitVec 32) (v7193 : FVec F S8x128 .f32) (v7200 : FVec F S8x128 .f32) (v7254 : FVec F S8x128 .f32) (v7258 : FVec F S8x128 .f32) (v7262 : FVec F S8x128 .f32) (v7266 : FVec F S8x128 .f32) (v7273 : FVec F S8x128 .f32) (v7280 : FVec F S8x128 .f32) (v7287 : FVec F S8x128 .f32) (v7294 : FVec F S8x128 .f32) (v7301 : FVec F S8x128 .f32) (v7308 : FVec F S8x128 .f32) (v7315 : FVec F S8x128 .f32) (v7322 : FVec F S8x128 .f32) (v7329 : FVec F S8x128 .f32) (v7336 : FVec F S8x128 .f32) (v7343 : FVec F S8x128 .f32) (v7350 : FVec F S8x128 .f32), BitVec 32

/-- The printed chunk on the diagonal, up to the cut. -/
def after (arg1 : BitVec 32) (v5679 : F .f32) (v5686 : F .f32) (v5693 : F .f32) (v5700 : F .f32) (v5701 : IVec S8x128 32) : AfterLoops F → Prog (TpuEff nD τ sig (Elt F) Λ₀ .tc) (AfterChunk F) := fun ⟨v5748, v5773, v5780_0, v5780_1, v5780_2, v5780_3, v5780_4, v5780_5, v5780_6, v5780_7, v5781⟩ => do
  let ⟨v5785, v5789, v5793, v5797, v5801, v5805, v5809, v5813, v5817, v5821⟩ ← k0_part250 i arg2 harg2 arg3 harg3 arg4 harg4 arg5 harg5 arg6 harg6 arg7 harg7 arg8 harg8 arg9 harg9 arg10 harg10 arg11 harg11 arg12 harg12 arg13 harg13 v5781
  let ⟨v5846, v5849, v5852, v5855, v5857⟩ ← k0_part251 i arg2 harg2 arg3 harg3 arg4 harg4 arg5 harg5 arg6 harg6 arg7 harg7 arg8 harg8 arg9 harg9 arg10 harg10 arg11 harg11 arg12 harg12 arg13 harg13 v5781 v5785 v5789 v5793 v5797 v5801 v5805 v5809 v5813 v5817 v5821
  let ⟨v5858, v5861, v5864, v5867, v5870, v5873, v5876, v5879, v5882, v5885, v5887⟩ ← k0_part252 i arg2 harg2 arg3 harg3 arg4 harg4 arg5 harg5 arg6 harg6 arg7 harg7 arg8 harg8 arg9 harg9 arg10 harg10 arg11 harg11 arg12 harg12 arg13 harg13 v5857
  let ⟨v5896, v5898, v5900, v5904, v5908, v5912, v5916, v5920, v5924, v5928, v5932, v5936, v5938⟩ ← k0_part253 i arg2 harg2 arg3 harg3 arg4 harg4 arg5 harg5 arg6 harg6 arg7 harg7 arg8 harg8 arg9 harg9 arg10 harg10 arg11 harg11 arg12 harg12 arg13 harg13 v5679 v5773 v5846 v5849 v5852 v5855 v5858 v5861 v5864 v5867 v5870 v5873 v5876 v5879 v5882 v5885 v5887
  let ⟨v5940, v5944, v5948, v5952, v5956, v5960, v5964, v5971, v5978, v5985, v5987, c3_i32⟩ ← k0_part254 i arg2 harg2 arg3 harg3 arg4 harg4 arg5 harg5 arg6 harg6 arg7 harg7 arg8 harg8 arg9 harg9 arg10 harg10 arg11 harg11 arg12 harg12 arg13 harg13 arg1 v5679 v5748 v5898 v5900 v5904 v5908 v5912 v5938
  let ⟨v5992, v5999, v6006, v6013, v6020, v6027, v6029, c9_i32⟩ ← k0_part255 i arg2 harg2 arg3 harg3 arg4 harg4 arg5 harg5 arg6 harg6 arg7 harg7 arg8 harg8 arg9 harg9 arg10 harg10 arg11 harg11 arg12 harg12 arg13 harg13 arg1 v5748 v5898 v5916 v5920 v5924 v5928 v5932 v5936 v5987 c3_i32
  let ⟨v6034, v6041, v6048, v6055, v6062, v6069, v6071, c15_i32⟩ ← k0_part256 i arg2 harg2 arg3 harg3 arg4 harg4 arg5 harg5 arg6 harg6 arg7 harg7 arg8 harg8 arg9 harg9 arg10 harg10 arg11 harg11 arg12 harg12 arg13 harg13 arg1 v5748 v5898 v5940 v5944 v5948 v5952 v5956 v5960 v6029 c9_i32
  let ⟨v6076, v6093, v6128, v6129⟩ ← k0_part257 i arg2 harg2 arg3 harg3 arg4 harg4 arg5 harg5 arg6 harg6 arg7 harg7 arg8 harg8 arg9 harg9 arg10 harg10 arg11 harg11 arg12 harg12 arg13 harg13 v5748 v5964 v5971 v5978 v5985 v5992 v5999 v6006 v6013 v6020 v6027 v6034 v6041 v6048 v6055 v6062 v6069 v6071 c15_i32
  let ⟨v6151, v6158, v6160, v6164, v6168, v6172, v6176, v6180, v6181⟩ ← k0_part258 i arg2 harg2 arg3 harg3 arg4 harg4 arg5 harg5 arg6 harg6 arg7 harg7 arg8 harg8 arg9 harg9 arg10 harg10 arg11 harg11 arg12 harg12 arg13 harg13 v5686 v5780_0 v5780_1 v5896 v5898 v6062 v6069 v6076 v6093 v6128 v6129
  let ⟨v6184, v6188, v6192, v6196, v6200, v6204, v6208, v6212, v6216, v6220, v6224, v6231, v6236⟩ ← k0_part259 i arg2 harg2 arg3 harg3 arg4 harg4 arg5 harg5 arg6 harg6 arg7 harg7 arg8 harg8 arg9 harg9 arg10 harg10 arg11 harg11 arg12 harg12 arg13 harg13 arg1 v5686 v5748 v5898 v6160 v6164 v6181
  let ⟨v6238, v6245, v6252, v6259, v6266, v6273, v6278⟩ ← k0_part260 i arg2 harg2 arg3 harg3 arg4 harg4 arg5 harg5 arg6 harg6 arg7 harg7 arg8 harg8 arg9 harg9 arg10 harg10 arg11 harg11 arg12 harg12 arg13 harg13 arg1 v5748 v5898 v6168 v6172 v6176 v6180 v6184 v6188 v6236
  let ⟨v6280, v6287, v6294, v6301, v6308, v6315, v6320⟩ ← k0_part261 i arg2 harg2 arg3 harg3 arg4 harg4 arg5 harg5 arg6 harg6 arg7 harg7 arg8 harg8 arg9 harg9 arg10 harg10 arg11 harg11 arg12 harg12 arg13 harg13 arg1 v5748 v5898 v6192 v6196 v6200 v6204 v6208 v6212 v6278
  let ⟨v6322, v6329, v6336, v6353, v6370, v6372⟩ ← k0_part262 i arg2 harg2 arg3 harg3 arg4 harg4 arg5 harg5 arg6 harg6 arg7 harg7 arg8 harg8 arg9 harg9 arg10 harg10 arg11 harg11 arg12 harg12 arg13 harg13 arg1 v5748 v5898 v6216 v6220 v6224 v6231 v6238 v6245 v6252 v6259 v6266 v6273 v6280 v6287 v6294 v6301 v6308 v6315 v6320
  let ⟨v6411, v6418, v6420, v6424⟩ ← k0_part263 i arg2 harg2 arg3 harg3 arg4 harg4 arg5 harg5 arg6 harg6 arg7 harg7 arg8 harg8 arg9 harg9 arg10 harg10 arg11 harg11 arg12 harg12 arg13 harg13 v5693 v5780_2 v5780_3 v5896 v5898 v6280 v6287 v6294 v6301 v6308 v6315 v6322 v6329 v6336 v6353 v6370 v6372
  let ⟨v6428, v6432, v6436, v6440, v6444, v6448, v6452, v6456, v6460, v6464, v6468, v6472, v6476, v6480, v6484⟩ ← k0_part264 i arg2 harg2 arg3 harg3 arg4 harg4 arg5 harg5 arg6 harg6 arg7 harg7 arg8 harg8 arg9 harg9 arg10 harg10 arg11 harg11 arg12 harg12 arg13 harg13 v5693 v6420
  let ⟨v6491, v6498, v6505, v6512, v6519, v6526⟩ ← k0_part265 i arg2 harg2 arg3 harg3 arg4 harg4 arg5 harg5 arg6 harg6 arg7 harg7 arg8 harg8 arg9 harg9 arg10 harg10 arg11 harg11 arg12 harg12 arg13 harg13 arg1 v5748 v5898 v6424 v6428 v6432 v6436 v6440 v6444
  let ⟨v6533, v6540, v6547, v6554, v6561, v6568⟩ ← k0_part266 i arg2 harg2 arg3 harg3 arg4 harg4 arg5 harg5 arg6 harg6 arg7 harg7 arg8 harg8 arg9 harg9 arg10 harg10 arg11 harg11 arg12 harg12 arg13 harg13 arg1 v5748 v5898 v6448 v6452 v6456 v6460 v6464 v6468
  let ⟨v6575, v6582, v6589, v6596, v6613, v6615⟩ ← k0_part267 i arg2 harg2 arg3 harg3 arg4 harg4 arg5 harg5 arg6 harg6 arg7 harg7 arg8 harg8 arg9 harg9 arg10 harg10 arg11 harg11 arg12 harg12 arg13 harg13 arg1 v5748 v5898 v6472 v6476 v6480 v6484 v6491 v6498 v6505 v6512 v6519 v6526 v6533 v6540 v6547 v6554 v6561 v6568
  let ⟨v6660, v6668⟩ ← k0_part268 i arg2 harg2 arg3 harg3 arg4 harg4 arg5 harg5 arg6 harg6 arg7 harg7 arg8 harg8 arg9 harg9 arg10 harg10 arg11 harg11 arg12 harg12 arg13 harg13 v5898 v6498 v6505 v6512 v6519 v6526 v6533 v6540 v6547 v6554 v6561 v6568 v6575 v6582 v6589 v6596 v6613 v6615
  let ⟨v6671, v6678, v6680, v6684, v6688, v6692, v6696, v6700, v6704, v6708, v6712, v6716, v6720, v6724, v6726, v6727⟩ ← k0_part269 i arg2 harg2 arg3 harg3 arg4 harg4 arg5 harg5 arg6 harg6 arg7 harg7 arg8 harg8 arg9 harg9 arg10 harg10 arg11 harg11 arg12 harg12 arg13 harg13 v5700 v5780_4 v5780_5 v5896 v6613 v6660 v6668
  let ⟨v6728, v6732, v6736, v6740, v6744, v6751, v6758, v6765, v6772, v6774⟩ ← k0_part270 i arg2 harg2 arg3 harg3 arg4 harg4 arg5 harg5 arg6 harg6 arg7 harg7 arg8 harg8 arg9 harg9 arg10 harg10 arg11 harg11 arg12 harg12 arg13 harg13 arg1 v5700 v5748 v5898 v6680 v6684 v6688 v6692 v6696 v6726 v6727
  let ⟨v6779, v6786, v6793, v6800, v6807, v6814, v6816⟩ ← k0_part271 i arg2 harg2 arg3 harg3 arg4 harg4 arg5 harg5 arg6 harg6 arg7 harg7 arg8 harg8 arg9 harg9 arg10 harg10 arg11 harg11 arg12 harg12 arg13 harg13 arg1 v5748 v5898 v6700 v6704 v6708 v6712 v6716 v6720 v6774
  let ⟨v6821, v6828, v6835, v6842, v6849, v6856, v6859⟩ ← k0_part272 i arg2 harg2 arg3 harg3 arg4 harg4 arg5 harg5 arg6 harg6 arg7 harg7 arg8 harg8 arg9 harg9 arg10 harg10 arg11 harg11 arg12 harg12 arg13 harg13 arg1 v5748 v5898 v6724 v6728 v6732 v6736 v6740 v6744 v6751 v6758 v6765 v6772 v6816
  let ⟨v6873, v6917, v6918⟩ ← k0_part273 i arg2 harg2 arg3 harg3 arg4 harg4 arg5 harg5 arg6 harg6 arg7 harg7 arg8 harg8 arg9 harg9 arg10 harg10 arg11 harg11 arg12 harg12 arg13 harg13 v6751 v6758 v6765 v6772 v6779 v6786 v6793 v6800 v6807 v6814 v6821 v6828 v6835 v6842 v6849 v6856 v6859
  let ⟨v6931, v6938, v6940, v6942, v6946, v6950, v6954, v6958, v6962, v6966, v6968⟩ ← k0_part274 i arg2 harg2 arg3 harg3 arg4 harg4 arg5 harg5 arg6 harg6 arg7 harg7 arg8 harg8 arg9 harg9 arg10 harg10 arg11 harg11 arg12 harg12 arg13 harg13 v5679 v5773 v5780_6 v5780_7 v5896 v5898 v6873 v6917 v6918
  let ⟨v6970, v6974, v6978, v6982, v6986, v6990, v6994, v6998, v7002, v7006, v7013, v7020, v7021, c128_i32_2973⟩ ← k0_part275 i arg2 harg2 arg3 harg3 arg4 harg4 arg5 harg5 arg6 harg6 arg7 harg7 arg8 harg8 arg9 harg9 arg10 harg10 arg11 harg11 arg12 harg12 arg13 harg13 arg1 v5679 v5748 v6940 v6942 v6946 v6950 v6968
  let ⟨v7027, v7034, v7041, v7048, v7055, v7062, v7063, c128_i32_2991⟩ ← k0_part276 i arg2 harg2 arg3 harg3 arg4 harg4 arg5 harg5 arg6 harg6 arg7 harg7 arg8 harg8 arg9 harg9 arg10 harg10 arg11 harg11 arg12 harg12 arg13 harg13 arg1 v5748 v6940 v6954 v6958 v6962 v6966 v6970 v6974 v7021 c128_i32_2973
  let ⟨v7069, v7076, v7083, v7090, v7097, v7104, v7105, c128_i32_3009⟩ ← k0_part277 i arg2 harg2 arg3 harg3 arg4 harg4 arg5 harg5 arg6 harg6 arg7 harg7 arg8 harg8 arg9 harg9 arg10 harg10 arg11 harg11 arg12 harg12 arg13 harg13 arg1 v5748 v6940 v6978 v6982 v6986 v6990 v6994 v6998 v7063 c128_i32_2991
  let ⟨v7111, v7118, v7135, v7158, v7159⟩ ← k0_part278 i arg2 harg2 arg3 harg3 arg4 harg4 arg5 harg5 arg6 harg6 arg7 harg7 arg8 harg8 arg9 harg9 arg10 harg10 arg11 harg11 arg12 harg12 arg13 harg13 arg1 v5748 v6940 v7002 v7006 v7013 v7020 v7027 v7034 v7041 v7048 v7055 v7062 v7069 v7076 v7083 v7090 v7097 v7104 v7105 c128_i32_3009
  let ⟨v7193, v7200, v7202, v7206, v7210, v7211⟩ ← k0_part279 i arg2 harg2 arg3 harg3 arg4 harg4 arg5 harg5 arg6 harg6 arg7 harg7 arg8 harg8 arg9 harg9 arg10 harg10 arg11 harg11 arg12 harg12 arg13 harg13 v5686 v5896 v6151 v6158 v6940 v7076 v7083 v7090 v7097 v7104 v7111 v7118 v7135 v7158 v7159
  let ⟨v7214, v7218, v7222, v7226, v7230, v7234, v7238, v7242, v7246, v7250, v7254, v7258, v7262, v7266, v7269⟩ ← k0_part280 i arg2 harg2 arg3 harg3 arg4 harg4 arg5 harg5 arg6 harg6 arg7 harg7 arg8 harg8 arg9 harg9 arg10 harg10 arg11 harg11 arg12 harg12 arg13 harg13 arg1 v5686 v6940 v7202 v7211
  let ⟨v7273, v7280, v7287, v7294, v7301, v7308, v7311⟩ ← k0_part281 i arg2 harg2 arg3 harg3 arg4 harg4 arg5 harg5 arg6 harg6 arg7 harg7 arg8 harg8 arg9 harg9 arg10 harg10 arg11 harg11 arg12 harg12 arg13 harg13 arg1 v5748 v6940 v7206 v7210 v7214 v7218 v7222 v7226 v7269
  let ⟨v7315, v7322, v7329, v7336, v7343, v7350, v7353⟩ ← k0_part282 i arg2 harg2 arg3 harg3 arg4 harg4 arg5 harg5 arg6 harg6 arg7 harg7 arg8 harg8 arg9 harg9 arg10 harg10 arg11 harg11 arg12 harg12 arg13 harg13 arg1 v5748 v6940 v7230 v7234 v7238 v7242 v7246 v7250 v7311
  pure ⟨v5679, v5686, v5693, v5700, v5701, v5748, v5773, v5896, v6411, v6418, v6671, v6678, v6931, v6938, v6940, v7193, v7200, v7254, v7258, v7262, v7266, v7273, v7280, v7287, v7294, v7301, v7308, v7315, v7322, v7329, v7336, v7343, v7350, v7353⟩

/-- The printed rest up to the block results. -/
def last (arg1 : BitVec 32) : AfterChunk F → Prog (TpuEff nD τ sig (Elt F) Λ₀ .tc) (Σ' (v10165 : FVec F S1x128 .f32) (v10197 : FVec F S1x128 .f32) (v10229 : FVec F S1x128 .f32) (v10261 : FVec F S1x128 .f32), FVec F S1x4x8x1024 .f32) := fun ⟨v5679, v5686, v5693, v5700, v5701, v5748, v5773, v5896, v6411, v6418, v6671, v6678, v6931, v6938, v6940, v7193, v7200, v7254, v7258, v7262, v7266, v7273, v7280, v7287, v7294, v7301, v7308, v7315, v7322, v7329, v7336, v7343, v7350, v7353⟩ =>
  k0_part346 i arg2 harg2 arg3 harg3 arg4 harg4 arg5 harg5 arg6 harg6 arg7 harg7 arg8 harg8 arg9 harg9 arg10 harg10 arg11 harg11 arg12 harg12 arg13 harg13 arg1 v5679 v5686 v5693 v5700 v5701 v5748 v5773 v5896 v6411 v6418 v6671 v6678 v6931 v6938 v6940 v7193 v7200 v7254 v7258 v7262 v7266 v7273 v7280 v7287 v7294 v7301 v7308 v7315 v7322 v7329 v7336 v7343 v7350 v7353

/-- The commands before the loops. -/
def before (b : Fin 2) (i : Fin 128) : Cmd F (F .f32 × F .f32 × F .f32 × F .f32) :=
  (packK i).bind fun _ => packQ.bind fun _ =>
  (mult log2e b 0).bind fun m0 => (mult log2e b 1).bind fun m1 => (mult log2e b 2).bind fun m2 => (mult log2e b 3).bind fun m3 =>
  .ret (m0, m1, m2, m3)

/-- The loop below the diagonal. -/
def loop1 (mu : Fin 4 → F .f32) : Prog (TpuEff nD τ sig (Elt F) Λ₀ .tc) (Carry F) :=
  Scf.Loop.for (mainLoop (nFull (i 1))) (mainFull_ok (i 1)) (floorV, zeroV, floorV, zeroV, floorV, zeroV, floorV, zeroV)
    fun t cr => Cmd.prog (Cmd.env arg2 arg3 arg4 arg5 arg6 arg7 arg8 arg9 arg10 arg11 arg12 arg13) (chunk keep mu (Scf.iv 0#32 1#32 t.val) (mainFull_iv (i 1) t) cr)

/-- The loop of no trips after it. -/
def loop2 (mu : Fin 4 → F .f32) (cr : Carry F) : Prog (TpuEff nD τ sig (Elt F) Λ₀ .tc) (Carry F) :=
  Scf.Loop.for (restLoop (nFull (i 1))) (restFull_ok (i 1)) cr
    fun t cr => Cmd.prog (Cmd.env arg2 arg3 arg4 arg5 arg6 arg7 arg8 arg9 arg10 arg11 arg12 arg13) (chunk keep mu (Scf.iv (restLoop (nFull (i 1))).lb 1#32 t.val) (restFull_none (i 1) t).elim cr)

/-- The values the rest reads, from the carry. -/
def handOn (c : Carry F) : AfterLoops F :=
  ⟨rowGap, nFull (i 1), c.1, c.2.1, c.2.2.1, c.2.2.2.1, c.2.2.2.2.1, c.2.2.2.2.2.1, c.2.2.2.2.2.2.1, c.2.2.2.2.2.2.2,
    Scalar.muli (nFull (i 1)) 128#32⟩

/-- The printed body, bracketed as it is printed. -/
theorem printed_eq :
    Cert.KernelIdeal.cc0__body (F := F) i arg2 harg2 arg3 harg3 arg4 harg4 arg5 harg5 arg6 harg6 arg7 harg7 arg8 harg8 arg9 harg9 arg10 harg10 arg11 harg11 arg12 harg12 arg13 harg13 =
      Cmd.prog (Cmd.env arg2 arg3 arg4 arg5 arg6 arg7 arg8 arg9 arg10 arg11 arg12 arg13) (before (i 0) (i 1)) >>= fun m =>
        (loop1 i arg2 arg3 arg4 arg5 arg6 arg7 arg8 arg9 arg10 arg11 arg12 arg13 ![m.1, m.2.1, m.2.2.1, m.2.2.2] >>= fun c => loop2 i arg2 arg3 arg4 arg5 arg6 arg7 arg8 arg9 arg10 arg11 arg12 arg13 ![m.1, m.2.1, m.2.2.1, m.2.2.2] c >>= fun c => .ret (handOn i c))
          >>= (after i arg2 harg2 arg3 harg3 arg4 harg4 arg5 harg5 arg6 harg6 arg7 harg7 arg8 harg8 arg9 harg9 arg10 harg10 arg11 harg11 arg12 harg12 arg13 harg13 (idx32 (i 1)) m.1 m.2.1 m.2.2.1 m.2.2.2 lane)
          >>= fun s => last i arg2 harg2 arg3 harg3 arg4 harg4 arg5 harg5 arg6 harg6 arg7 harg7 arg8 harg8 arg9 harg9 arg10 harg10 arg11 harg11 arg12 harg12 arg13 harg13 (idx32 (i 1)) s >>= fun n =>
            Cmd.prog (Cmd.env arg2 arg3 arg4 arg5 arg6 arg7 arg8 arg9 arg10 arg11 arg12 arg13) (zeroB.bind fun _ => tiles (i 1) ![n.1, n.2.1, n.2.2.1, n.2.2.2.1]) := by
  sl_kernel_rfl

/-- The printed body is the commands' program. -/
theorem body_eq :
    Cert.KernelIdeal.cc0__body (F := F) i arg2 harg2 arg3 harg3 arg4 harg4 arg5 harg5 arg6 harg6 arg7 harg7 arg8 harg8 arg9 harg9 arg10 harg10 arg11 harg11 arg12 harg12 arg13 harg13 = Cmd.prog (Cmd.env arg2 arg3 arg4 arg5 arg6 arg7 arg8 arg9 arg10 arg11 arg12 arg13) (body log2e ln2 (i 0) (i 1)) := by
  rw [printed_eq]
  simp only [Prog.bind_assoc, Prog.bind_ret]
  sl_kernel_rfl

end

end K01.KernelIdeal
-- ==== Proof.FrameKernelIdeal.lean ====
/- The kernel's run at one grid point, and its frame: the program of the printed body is the command of
   `Proof/Body.lean` (`Proof/PrintedKernelIdeal.lean`), so it does what the command's `run` says. Here nothing
   is said of the two results or of the scratch arrays: the frame only. -/
module

public import proofs.«01_k».proof.Proof.CmdRule
public import proofs.«01_k».proof.Proof.Keeps
public import proofs.«01_k».proof.Proof.PrintedKernelIdeal
public import proofs.«01_k».proof.Proof.Gen.KernelIdeal.Frame
public import Idealize.ShloMosaic.Lib.Pipeline.Frame
public import Idealize.ShloMosaic.Lib.Tactic

@[expose] public section

noncomputable section

namespace K01.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The contents of the ten arrays, one by one. -/
def contents (q0 q1 : S1x4x1024x128.Idx → Elt F .i8) (k0 k1 : S1x1x1024x128.Idx → Elt F .i8)
    (blk : S1x4x8x1024.Idx → Elt F .f32) (lse : S1x4x128.Idx → Elt F .f32)
    (kp : S16x4096x128.Idx → Elt F .i32) (qp : S16x128x128.Idx → Elt F .i32)
    (p m : S4x1024x128.Idx → Elt F .f32) : Cmd.St F
  | .q0 => q0 | .q1 => q1 | .k0 => k0 | .k1 => k1 | .blk => blk | .lse => lse | .kp => kp | .qp => qp | .p => p | .m => m

/-- The references the body is handed at point `t`. -/
abbrev envAt (t : Fin cfg0.N) : Cmd.Env sig :=
  Cmd.env (st0_0 t) (st0_1 t) (st0_2 t) (st0_3 t) (st0_4 t) (st0_5 t) (st0_6 t) (st0_7 t)
    (Memref.whole cc0_scratch0) (Memref.whole cc0_scratch1) (Memref.whole cc0_scratch2) (Memref.whole cc0_scratch3)

/-- What the body does at point `t`. -/
def runAt (t : Fin cfg0.N) (qs : S2x4.Idx → F .f32) (ks : S2x1.Idx → F .f32) (s : Cmd.St F) : Cmd.St F :=
  (Cmd.run qs ks (body (log2e (F := F)) ln2 (grid0.coords t 0) (grid0.coords t 1)) s).2

/-- The body leaves its inputs as they were. -/
theorem runAt_keeps (t : Fin cfg0.N) (qs : S2x4.Idx → F .f32) (ks : S2x1.Idx → F .f32) (s : Cmd.St F) (n : Nm) (hn : n.isInput = true) :
    runAt t qs ks s n = s n := by
  unfold runAt; exact body_keeps qs ks _ _ _ _ s n hn

theorem arrays_eq (c : Dev nD) (t : Fin cfg0.N) (s : Cmd.St F) :
    (bigSep Finset.univ fun b => owns (c : Thread nD τ) ((envAt t).mem b) fullShare (s b) : sProp 𝕄)
      = iprop(owns (c : Thread nD τ) (st0_2 t) fullShare (s .q0) ∗ owns (c : Thread nD τ) (st0_3 t) fullShare (s .q1)
        ∗ owns (c : Thread nD τ) (st0_4 t) fullShare (s .k0) ∗ owns (c : Thread nD τ) (st0_5 t) fullShare (s .k1)
        ∗ owns (c : Thread nD τ) (st0_6 t) fullShare (s .blk) ∗ owns (c : Thread nD τ) (st0_7 t) fullShare (s .lse)
        ∗ owns (c : Thread nD τ) (Memref.whole cc0_scratch0) fullShare (s .kp) ∗ owns (c : Thread nD τ) (Memref.whole cc0_scratch1) fullShare (s .qp)
        ∗ owns (c : Thread nD τ) (Memref.whole cc0_scratch2) fullShare (s .p) ∗ owns (c : Thread nD τ) (Memref.whole cc0_scratch3) fullShare (s .m)) :=
  bigSep_univ_eq_bigSepL [Nm.q0, Nm.q1, Nm.k0, Nm.k1, Nm.blk, Nm.lse, Nm.kp, Nm.qp, Nm.p, Nm.m] (by decide) (by decide) _

/-- The body at point `t`: from the two tables and the ten arrays at contents `s`, to the arrays at `runAt`'s. -/
theorem body_runs (c : Dev nD) (t : Fin cfg0.N) (qs : S2x4.Idx → F .f32) (ks : S2x1.Idx → F .f32) (s : Cmd.St F)
    (Q : PUnit → sProp 𝕄) :
    iprop(Cmd.own c (envAt t) qs ks s ∗ (Cmd.own c (envAt t) qs ks (runAt t qs ks s) -∗ Q ⟨⟩))
      ⊢ wp frame (wpE (defs₀ (F := F)) Variants.none c none) Set.univ (bodyAt0 t) Q := by
  have e : bodyAt0 (F := F) t = Cmd.prog (envAt t) (body (log2e (F := F)) ln2 (grid0.coords t 0) (grid0.coords t 1)) :=
    body_eq (F := F) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _)
  unfold runAt
  rw [e]
  have h := Cmd.wp_prog (defs := defs₀ (F := F)) Variants.none c (envAt t) qs ks
    (body (log2e (F := F)) ln2 (grid0.coords t 0) (grid0.coords t 1)) s Q
  have u : ∀ a : Unit, Q a = Q ⟨⟩ := fun _ => rfl
  rw [u] at h
  with_reducible exact h

/-! ## One point -/

/-- What the arrays hold before the body runs at point `t`: the inputs' blocks, and the rest at anything. -/
def held (c : Dev nD) (t : Fin cfg0.N) (blk : S1x4x8x1024.Idx → Elt F .f32) (lse : S1x4x128.Idx → Elt F .f32)
    (kp : S16x4096x128.Idx → Elt F .i32) (qp : S16x128x128.Idx → Elt F .i32) (p pm : S4x1024x128.Idx → Elt F .f32) : Cmd.St F :=
  contents (iblk m c 2 t) (iblk m c 3 t) (iblk m c 4 t) (iblk m c 5 t) blk lse kp qp p pm

/-- What they hold after it. -/
def afterRun (c : Dev nD) (t : Fin cfg0.N) (blk : S1x4x8x1024.Idx → Elt F .f32) (lse : S1x4x128.Idx → Elt F .f32)
    (kp : S16x4096x128.Idx → Elt F .i32) (qp : S16x128x128.Idx → Elt F .i32) (p pm : S4x1024x128.Idx → Elt F .f32) : Cmd.St F :=
  runAt t (iblk m c 0 t) (iblk m c 1 t) (held m c t blk lse kp qp p pm)

/-- The body at point `t`, on the inputs' blocks and on the rest at anything: the inputs are left as they
    were, the rest at what the command's `run` says. -/
theorem body_point (c : Dev nD) (t : Fin cfg0.N) (blk : S1x4x8x1024.Idx → Elt F .f32) (lse : S1x4x128.Idx → Elt F .f32)
    (kp : S16x4096x128.Idx → Elt F .i32) (qp : S16x128x128.Idx → Elt F .i32) (p pm : S4x1024x128.Idx → Elt F .f32) (Q : PUnit → sProp 𝕄) :
    iprop(iprop(owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare (iblk m c 4 t) ∗ owns (c : Thread nD τ) (st0_5 t) fullShare (iblk m c 5 t)
        ∗ owns (c : Thread nD τ) (st0_6 t) fullShare blk ∗ owns (c : Thread nD τ) (st0_7 t) fullShare lse
        ∗ owns (c : Thread nD τ) (Memref.whole cc0_scratch0) fullShare kp ∗ owns (c : Thread nD τ) (Memref.whole cc0_scratch1) fullShare qp
        ∗ owns (c : Thread nD τ) (Memref.whole cc0_scratch2) fullShare p ∗ owns (c : Thread nD τ) (Memref.whole cc0_scratch3) fullShare pm)
        ∗ (iprop(owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare (iblk m c 4 t) ∗ owns (c : Thread nD τ) (st0_5 t) fullShare (iblk m c 5 t)
        ∗ owns (c : Thread nD τ) (st0_6 t) fullShare (afterRun m c t blk lse kp qp p pm .blk) ∗ owns (c : Thread nD τ) (st0_7 t) fullShare (afterRun m c t blk lse kp qp p pm .lse)
        ∗ owns (c : Thread nD τ) (Memref.whole cc0_scratch0) fullShare (afterRun m c t blk lse kp qp p pm .kp) ∗ owns (c : Thread nD τ) (Memref.whole cc0_scratch1) fullShare (afterRun m c t blk lse kp qp p pm .qp)
        ∗ owns (c : Thread nD τ) (Memref.whole cc0_scratch2) fullShare (afterRun m c t blk lse kp qp p pm .p) ∗ owns (c : Thread nD τ) (Memref.whole cc0_scratch3) fullShare (afterRun m c t blk lse kp qp p pm .m)) -∗ Q ⟨⟩))
      ⊢ wp frame (wpE (defs₀ (F := F)) Variants.none c none) Set.univ (bodyAt0 t) Q := by
  have h := body_runs c t (iblk m c 0 t) (iblk m c 1 t) (held m c t blk lse kp qp p pm) Q
  unfold Cmd.own at h
  rw [arrays_eq, arrays_eq] at h
  rw [runAt_keeps t _ _ _ .q0 rfl, runAt_keeps t _ _ _ .q1 rfl, runAt_keeps t _ _ _ .k0 rfl, runAt_keeps t _ _ _ .k1 rfl] at h
  exact h

/-- The invariant of the frame: the scratch arrays at some contents, the generator register at some state. -/
theorem PhiA_eq (c : Dev nD) :
    (Pipeline.ΦA spec0 c : sProp 𝕄)
      = iprop(((∃ f, owns (c : Thread nD τ) (Memref.whole cc0_scratch0) fullShare f) ∗ (∃ f, owns (c : Thread nD τ) (Memref.whole cc0_scratch1) fullShare f)
          ∗ (∃ f, owns (c : Thread nD τ) (Memref.whole cc0_scratch2) fullShare f) ∗ (∃ f, owns (c : Thread nD τ) (Memref.whole cc0_scratch3) fullShare f))
          ∗ ∃ r, prngReg c r) := by
  unfold Pipeline.ΦA; rw [scopedRest0_eq]; simp only [owns_whole]; try rfl

/-! ## The frame -/

/-- The two results are forgotten. -/
def forgets0 : Fin 8 → Bool := fun w => w == 6 || w == 7

/-- The proof data: inputs left as they are, results unnamed. -/
def dats (_ : Fin 1) (c : Dev nD) : Dat τ (Elt F) Unit ℕ (UR sig nD τ) ℕ cfg0 c where
  A w := V m c (Pipeline.arrRef spec0 w)
  after := fun w t => match w with
    | 0 => iblk m c 0 t | 1 => iblk m c 1 t | 2 => iblk m c 2 t | 3 => iblk m c 3 t | 4 => iblk m c 4 t | 5 => iblk m c 5 t
    | 6 => Pipeline.Dat.unnamed (cfg := cfg0) 6 t | 7 => Pipeline.Dat.unnamed (cfg := cfg0) 7 t
  Φ _ := Pipeline.ΦA spec0 c
  q w := Pipeline.shareOf spec0 w
  owed _ := 0

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ X, owns (c : Thread nD τ) (st0_6 t) fullShare X) ∗ (∃ X, owns (c : Thread nD τ) (st0_7 t) fullShare X))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t)
    ∗ owns (c : Thread nD τ) (st0_4 t) fullShare ((dats m 0 c).after 4 t) ∗ owns (c : Thread nD τ) (st0_5 t) fullShare ((dats m 0 c).after 5 t)
    ∗ (∃ X, owns (c : Thread nD τ) (st0_6 t) fullShare X) ∗ (∃ X, owns (c : Thread nD τ) (st0_7 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).owesAt () t.succ = (dats m 0 c).owesAt () t.castSucc from rfl,
    show (dats m 0 c).Φ t.succ = Pipeline.ΦA spec0 c from rfl,
    show (dats m 0 c).Φ t.castSucc = Pipeline.ΦA spec0 c from rfl, PhiA_eq]
  simp only [before0_0_of m (dats m 0 c) rfl (fun _ => rfl) t, before0_1_of m (dats m 0 c) rfl (fun _ => rfl) t,
    before0_2_of m (dats m 0 c) rfl (fun _ => rfl) t, before0_3_of m (dats m 0 c) rfl (fun _ => rfl) t,
    before0_4_of m (dats m 0 c) rfl (fun _ => rfl) t, before0_5_of m (dats m 0 c) rfl (fun _ => rfl) t]
  rw [show (dats m 0 c).after 0 t = iblk m c 0 t from rfl, show (dats m 0 c).after 1 t = iblk m c 1 t from rfl,
    show (dats m 0 c).after 2 t = iblk m c 2 t from rfl, show (dats m 0 c).after 3 t = iblk m c 3 t from rfl,
    show (dats m 0 c).after 4 t = iblk m c 4 t from rfl, show (dats m 0 c).after 5 t = iblk m c 5 t from rfl]
  iintro ⟨⟨⟨⟨%kp, S0⟩, ⟨%qp, S1⟩, ⟨%p, S2⟩, ⟨%pm, S3⟩⟩, Hg⟩, HO, ⟨%d0, H0⟩, ⟨%d1, H1⟩, ⟨%d2, H2⟩, ⟨%d3, H3⟩, ⟨%d4, H4⟩, ⟨%d5, H5⟩, ⟨%blk, H6⟩, ⟨%lse, H7⟩⟩
  iapply (body_point m c t blk lse kp qp p pm _)
  isplitl [H0 H1 H2 H3 H4 H5 H6 H7 S0 S1 S2 S3]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    isplitl [S2]; · iexact S2
    iexact S3
  iintro ⟨H0, H1, H2, H3, H4, H5, H6, H7, S0, S1, S2, S3⟩
  isplitl [S0 S1 S2 S3 Hg]
  · isplitr [Hg]; swap; · iexact Hg
    isplitl [S0]; · iexists _; iexact S0
    isplitl [S1]; · iexists _; iexact S1
    isplitl [S2]; · iexists _; iexact S2
    iexists _; iexact S3
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

/-- The body table's row at the point is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- From any memory with zero counters, every execution of the program ends, the argument arrays as they were and
    every semaphore counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := fun _ _ => rfl)
    (hΦ := fun _ _ => rfl)

/-- The frame claim's post. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨h.1.arr_in c 3 rfl, h.1.arr_in c 0 rfl, h.1.arr_in c 5 rfl, h.1.arr_in c 1 rfl⟩, h.2⟩) (run_main m ρ)

end K01.KernelIdeal

end
-- ==== Proof.Bits.lean ====
/- The bytes of the packed words: what the transposition of four words does to their bytes, and which
   code of a tile each byte of a stored word is. -/
module

public import proofs.«01_k».proof.Proof.Body
public import Idealize.ShloMosaic.Lib.Pointwise
public import Idealize.ShloMosaic.Lib.BitcastFour

@[expose] public section

set_option maxRecDepth 16384

namespace K01

open Idealize.ShloMosaic Idealize.ShloMosaic.Pointwise

/-- Byte `e` of a word. -/
def byte (w : BitVec 32) (e : Nat) : BitVec 8 := w.extractLsb' (8 * e) 8

theorem byte_getLsbD (w : BitVec 32) (e q : Nat) (hq : q < 8) : (byte w e).getLsbD q = w.getLsbD (8 * e + q) := by
  simp [byte, BitVec.getLsbD_extractLsb', hq]

/-- Bit `q` of the `b`-th of the transposed words is bit `8b + q % 8` of word `q / 8`. -/
theorem bytesT_word (x0 x1 x2 x3 : BitVec 32) (b : Fin 4) (e : Fin 4) :
    byte ((![((x0 &&& 16711935#32) ||| ((x1 &&& 16711935#32) <<< 8)) &&& 65535#32 ||| (((x2 &&& 16711935#32) ||| ((x3 &&& 16711935#32) <<< 8)) <<< 16),
      (((x0 >>> 8) &&& 16711935#32) ||| (x1 &&& 4278255360#32)) &&& 65535#32 ||| ((((x2 >>> 8) &&& 16711935#32) ||| (x3 &&& 4278255360#32)) <<< 16),
      ((x0 &&& 16711935#32) ||| ((x1 &&& 16711935#32) <<< 8)) >>> 16 ||| (((x2 &&& 16711935#32) ||| ((x3 &&& 16711935#32) <<< 8)) &&& 4294901760#32),
      (((x0 >>> 8) &&& 16711935#32) ||| (x1 &&& 4278255360#32)) >>> 16 ||| ((((x2 >>> 8) &&& 16711935#32) ||| (x3 &&& 4278255360#32)) &&& 4294901760#32)]
      : Fin 4 → BitVec 32) b) e.val = byte ((![x0, x1, x2, x3] : Fin 4 → BitVec 32) e) b.val := by
  apply BitVec.eq_of_getLsbD_eq
  intro q hq
  rw [byte_getLsbD _ _ _ hq, byte_getLsbD _ _ _ hq]
  fin_cases b <;> fin_cases e <;> interval_cases q <;> simp <;> rfl
/-- A place of a tile, by row and lane. -/
abbrev tileAt (r : Nat) (hr : r < 1024) (l : Fin 128) : S1x1x1024x128.Idx := ix4 0 0 ⟨r, hr⟩ l

theorem words_bit (x : S1x1x1024x128.Idx → BitVec 8) (n : Fin 128) (half : Fin 2) (l : Fin 128) (q : Nat) (hq : q < 32) :
    (words x (ix3 n half l)).getLsbD q
      = (x (tileAt (8 * n.val + 4 * half.val + q / 8) (by omega) l)).getLsbD (q % 8) := by
  have e : words x (ix3 n half l)
      = bitcast S256x128 32 (shapeCast S1024x128 x (by decide)) (by decide) (ix2 ⟨2 * n.val + half.val, by omega⟩ l) := by
    pointwise [words]
    congr 2
    apply Fin.ext
    show n.val * 2 + half.val = 2 * n.val + half.val
    omega
  rw [e]
  refine (bitcast_8_32_getLsbD_ix2 _ _ ⟨2 * n.val + half.val, by omega⟩ l q hq ⟨8 * n.val + 4 * half.val + q / 8, by omega⟩ ?_).trans ?_
  · show 8 * n.val + 4 * half.val + q / 8 = 4 * (2 * n.val + half.val) + q / 8
    omega
  · congr 1
    pointwise []

theorem src_bit (x : S1x1x1024x128.Idx → BitVec 8) (half a c0 : Fin 2) (k : Fin 4) (j : Fin 8) (l : Fin 128) :
    src (words x) half a c0 k (ix2 j l)
      = words x (ix3 ⟨16 * (4 * a.val + k.val) + 8 * c0.val + j.val, by omega⟩ half l) := by
  pointwise [src]

theorem bytesT_byte (x : Fin 4 → IVec S8x128 32) (b e : Fin 4) (i : S8x128.Idx) :
    byte (bytesT x b i) e.val = byte (x e i) b.val := by
  have h := bytesT_word (x 0 i) (x 1 i) (x 2 i) (x 3 i) b e
  have h2 : (![x 0 i, x 1 i, x 2 i, x 3 i] : Fin 4 → BitVec 32) e = x e i := by fin_cases e <;> rfl
  rw [h2] at h
  rw [← h]
  congr 1
  fin_cases b <;> rfl

/-- Byte `e` of the `b`-th transposed word is the code at row `8·(16·(4a+e) + 8c0 + j) + 4·half + b` of the tile. -/
theorem bytesT_src (x : S1x1x1024x128.Idx → BitVec 8) (half a c0 : Fin 2) (b : Fin 4) (j : Fin 8) (l : Fin 128) (e : Fin 4) :
    byte (bytesT (src (words x) half a c0) b (ix2 j l)) e.val
      = x (tileAt (8 * (16 * (4 * a.val + e.val) + 8 * c0.val + j.val) + 4 * half.val + b.val) (by omega) l) := by
  rw [bytesT_byte, src_bit]
  apply BitVec.eq_of_getLsbD_eq
  intro q hq
  rw [byte_getLsbD _ _ _ hq, words_bit _ _ _ _ _ (by omega)]
  have e1 : (8 * b.val + q) % 8 = q := by omega
  have e2 : (8 * b.val + q) / 8 = b.val := by omega
  rw [e1]
  congr 3
  simp only [e2]

/-- The code of row `r`, lane `l`, of 128 rows of words. -/
theorem bitcast_byte (y : S128x128.Idx → BitVec 32) (h : S128x128.Bitcasts 32 S512x128 8) (r : Fin 512) (l : Fin 128) :
    bitcast S512x128 8 y h (ix2 r l) = byte (y (ix2 ⟨r.val / 4, by omega⟩ l)) (r.val % 4) := by
  apply BitVec.eq_of_getLsbD_eq
  intro q hq
  rw [byte_getLsbD _ _ _ hq, bitcast_getLsbD y h (ix2 r l) q hq (by decide)]
  have er : S512x128.row (ix2 r l) = r.val := rfl
  have e2 : (S512x128.row (ix2 r l) * 8 + q) % 32 = 8 * (r.val % 4) + q := by rw [er]; omega
  rw [e2]
  congr 2
  funext c
  match c with
  | ⟨0, _⟩ =>
    refine Fin.ext ((h.srcIdx_row _ _ _ ⟨0, Nat.zero_lt_two⟩ rfl).trans ?_)
    show (S512x128.row (ix2 r l) * 8 + q) / 32 = r.val / 4
    rw [er]; omega
  | ⟨1, _⟩ => exact Fin.ext (h.srcIdx_other _ _ _ ⟨1, Nat.one_lt_two⟩ (by show ¬ 1 + 2 = 2; omega))

end K01
-- ==== Proof.Run.lean ====
/- What commands do to one array, place by place: `Sets` says that a command makes the places of a set
   good and spoils no good place. -/
module

public import proofs.«01_k».proof.Proof.Keeps

@[expose] public section

namespace K01

open Idealize.ShloMosaic Idealize.SL.Sem

variable {F : FTy → Type}

namespace Cmd

/-- The state after one command and then another. -/
theorem run_bind (qs : S2x4.Idx → F .f32) (ks : S2x1.Idx → F .f32) {α β : Type} (x : Cmd F α) (f : α → Cmd F β) :
    ∀ s : St F, run qs ks (bind x f) s = run qs ks (f (run qs ks x s).1) (run qs ks x s).2 := by
  induction x with
  | ret a => exact fun s => rfl
  | ld b r h k ih => exact fun s => ih _ f s
  | st b r w h hb k ih => exact fun s => ih f _
  | ldQ r h k ih => exact fun s => ih _ f s
  | ldK r h k ih => exact fun s => ih _ f s
  | loop l ok init body k ihb ih => exact fun s => ih _ f _

theorem run_each_nil (qs : S2x4.Idx → F .f32) (ks : S2x1.Idx → F .f32) {σ ι : Type} (f : ι → σ → Cmd F σ) (v : σ) (s : St F) :
    run qs ks (each f [] v) s = (v, s) := rfl

theorem run_each_cons (qs : S2x4.Idx → F .f32) (ks : S2x1.Idx → F .f32) {σ ι : Type} (f : ι → σ → Cmd F σ) (a : ι) (l : List ι)
    (v : σ) (s : St F) :
    run qs ks (each f (a :: l) v) s
      = run qs ks (each f l (run qs ks (f a v) s).1) (run qs ks (f a v) s).2 :=
  run_bind qs ks (f a v) (each f l) s

/-- Under `Pr`, which it keeps, the command makes the places of `C` in array `n` good, and leaves the good ones good. -/
def Sets (qs : S2x4.Idx → F .f32) (ks : S2x1.Idx → F .f32) (Pr : St F → Prop) (n : Nm) (Gd : n.shp.Idx → Elt F n.elt → Prop)
    {α : Type} (x : Cmd F α) (C : n.shp.Idx → Prop) : Prop :=
  ∀ s, Pr s → Pr (run qs ks x s).2 ∧ ∀ y, (C y ∨ Gd y (s n y)) → Gd y ((run qs ks x s).2 n y)

variable {qs : S2x4.Idx → F .f32} {ks : S2x1.Idx → F .f32} {Pr : St F → Prop} {n : Nm} {Gd : n.shp.Idx → Elt F n.elt → Prop}

theorem Sets.ret {α : Type} (a : α) : Sets qs ks Pr n Gd (Cmd.ret a) (fun _ => False) :=
  fun s h => ⟨h, fun y hy => hy.elim False.elim id⟩

theorem Sets.bind {α β : Type} {x : Cmd F α} {f : α → Cmd F β} {C D : n.shp.Idx → Prop}
    (hx : Sets qs ks Pr n Gd x C) (hf : ∀ a, Sets qs ks Pr n Gd (f a) D) : Sets qs ks Pr n Gd (x.bind f) (fun y => C y ∨ D y) := by
  intro s h
  rw [run_bind]
  have h1 := hx s h
  have h2 := hf (run qs ks x s).1 _ h1.1
  exact ⟨h2.1, fun y hy => h2.2 y (hy.elim (fun c => c.elim (fun c => .inr (h1.2 y (.inl c))) .inl) fun g => .inr (h1.2 y (.inr g)))⟩

theorem Sets.mono {α : Type} {x : Cmd F α} {C D : n.shp.Idx → Prop} (hx : Sets qs ks Pr n Gd x C) (h : ∀ y, D y → C y) :
    Sets qs ks Pr n Gd x D :=
  fun s hs => ⟨(hx s hs).1, fun y hy => (hx s hs).2 y (hy.imp_left (h y))⟩

theorem Sets.each {σ ι : Type} {f : ι → σ → Cmd F σ} {C : ι → n.shp.Idx → Prop}
    (hf : ∀ a v, Sets qs ks Pr n Gd (f a v) (C a)) (l : List ι) :
    ∀ v, Sets qs ks Pr n Gd (Cmd.each f l v) (fun y => ∃ a ∈ l, C a y) := by
  induction l with
  | nil => exact fun v => (Sets.ret v).mono (by rintro y ⟨a, ha, -⟩; exact absurd ha (List.not_mem_nil))
  | cons a l ih =>
    intro v
    refine (Sets.bind (hf a v) ih).mono ?_
    rintro y ⟨b, hb, hc⟩
    rcases List.mem_cons.1 hb with rfl | hb
    · exact .inl hc
    · exact .inr ⟨b, hb, hc⟩

/-- One store. -/
theorem Sets.st {α : Type} {r : Rect n.shp} {w : r.shape.Idx → Elt F n.elt} {h : 0 < r.shape.numel} {hb : n.elt.bits = 32} {a : α}
    (hPr : ∀ s v, Pr s → Pr (Function.update s n v)) (hw : ∀ j, Gd (r.emb j) (w j)) :
    Sets qs ks Pr n Gd (Cmd.st n r w h hb (.ret a)) (fun y => ∃ j, r.emb j = y) := by
  intro s hs
  refine ⟨hPr s _ hs, fun y hy => ?_⟩
  show Gd y (Function.update s n (put (s n) r w) n y)
  rw [Function.update_self]
  by_cases hj : ∃ j, r.emb j = y
  · obtain ⟨j, rfl⟩ := hj
    rw [put_emb]; exact hw j
  · rw [put_not _ _ _ _ (fun j e => hj ⟨j, e⟩)]
    exact hy.resolve_left hj

/-- A load, whose value is what the array holds under `Pr`. -/
theorem Sets.ld {α : Type} {b : Nm} {r : LoadRect b.shp} {h : 0 < r.shape.numel} {k : (r.shape.Idx → Elt F b.elt) → Cmd F α}
    {C : n.shp.Idx → Prop} (hk : ∀ s, Pr s → Sets qs ks Pr n Gd (k fun j => s b (r.idx j)) C) :
    Sets qs ks Pr n Gd (Cmd.ld b r h k) C :=
  fun s hs => hk s hs s hs

theorem Sets.ldEq {α : Type} {b : Nm} {r : LoadRect b.shp} {h : 0 < r.shape.numel} {k : (r.shape.Idx → Elt F b.elt) → Cmd F α}
    {C : n.shp.Idx → Prop} (x : r.shape.Idx → Elt F b.elt) (hx : ∀ s, Pr s → (fun j => s b (r.idx j)) = x)
    (hk : Sets qs ks Pr n Gd (k x) C) : Sets qs ks Pr n Gd (Cmd.ld b r h k) C :=
  Sets.ld fun s hs => by rw [hx s hs]; exact hk

theorem Sets.loop {α σ : Type} {l : Scf.Loop 32} {ok : l.OK} {init : σ} {body : Fin l.trips → σ → Cmd F σ} {k : σ → Cmd F α}
    {C : Fin l.trips → n.shp.Idx → Prop} {D : n.shp.Idx → Prop}
    (hb : ∀ t v, Sets qs ks Pr n Gd (body t v) (C t)) (hk : ∀ v, Sets qs ks Pr n Gd (k v) D) :
    Sets qs ks Pr n Gd (Cmd.loop l ok init body k) (fun y => (∃ t, C t y) ∨ D y) := by
  intro s hs
  have hl : ∀ (L : List (Fin l.trips)) (u : σ × St F), Pr u.2 →
      Pr (L.foldl (fun u t => run qs ks (body t u.1) u.2) u).2 ∧
      ∀ y, ((∃ t ∈ L, C t y) ∨ Gd y (u.2 n y)) → Gd y ((L.foldl (fun u t => run qs ks (body t u.1) u.2) u).2 n y) := by
    intro L
    induction L with
    | nil => exact fun u hu => ⟨hu, fun y hy => hy.elim (by rintro ⟨t, ht, -⟩; exact absurd ht (List.not_mem_nil)) id⟩
    | cons t L ih =>
      intro u hu
      have h1 := hb t u.1 u.2 hu
      have h2 := ih _ h1.1
      refine ⟨h2.1, fun y hy => h2.2 y ?_⟩
      rcases hy with ⟨t', ht', hc⟩ | hg
      · rcases List.mem_cons.1 ht' with rfl | ht'
        · exact .inr (h1.2 y (.inl hc))
        · exact .inl ⟨t', ht', hc⟩
      · exact .inr (h1.2 y (.inr hg))
  have h1 := hl (List.finRange l.trips) (init, s) hs
  have h2 := hk ((List.finRange l.trips).foldl (fun u t => run qs ks (body t u.1) u.2) (init, s)).1 _ h1.1
  refine ⟨h2.1, fun y hy => h2.2 y ?_⟩
  rcases hy with (⟨t, ht⟩ | hd) | hg
  · exact .inr (h1.2 y (.inl ⟨t, List.mem_finRange t, ht⟩))
  · exact .inl hd
  · exact .inr (h1.2 y (.inr hg))

end Cmd

open Cmd

variable [FloatOps F]

theorem Sets.forE {qs : S2x4.Idx → F .f32} {ks : S2x1.Idx → F .f32} {Pr : St F → Prop} {n : Nm} {Gd : n.shp.Idx → Elt F n.elt → Prop}
    {ι : Type} {f : ι → Cmd F Unit} {C : ι → n.shp.Idx → Prop} (hf : ∀ a, Sets qs ks Pr n Gd (f a) (C a)) (l : List ι) :
    Sets qs ks Pr n Gd (forE l f) (fun y => ∃ a ∈ l, C a y) :=
  Sets.each (fun a _ => hf a) l ()

end K01
-- ==== Proof.Pack.lean ====
/- What the two scratch arrays of words hold once a tile is packed: which code each byte of each word is. -/
module

public import proofs.«01_k».proof.Proof.Bits
public import proofs.«01_k».proof.Proof.Run

@[expose] public section

set_option maxRecDepth 16384

namespace K01

open Idealize.ShloMosaic Idealize.ShloMosaic.Pointwise Cmd

variable {F : FTy → Type} [FloatOps F]

attribute [local irreducible] words bytesT src

/-- Key column of byte `e` of word row `n`. -/
def kCol (n e : Nat) : Nat := 128 * (n / 32) + 16 * (4 * (n % 2) + e) + n % 32 / 2

/-- Row, within a head's tile, of byte `e` of word row `n`. -/
def qRow (n e : Nat) : Nat := 16 * (4 * (n % 2) + e) + n % 32 / 2

/-- Before point `i` has packed its keys, rows of earlier points are good; the point's own are made good. -/
def kGood (K : Nat → Nat → BitVec 8) (i : Nat) (y : S16x4096x128.Idx) (w : BitVec 32) : Prop :=
  (y 1).val < 32 * i → ∀ e : Fin 4, byte w e.val = K (kCol (y 1).val e.val) (128 * (y 0).val + (y 2).val)

def qGood (Q : Nat → Nat → Nat → BitVec 8) (y : S16x128x128.Idx) (w : BitVec 32) : Prop :=
  ∀ e : Fin 4, byte w e.val = Q ((y 1).val / 32) (qRow (y 1).val e.val) (128 * (y 0).val + (y 2).val)

theorem kGood_intro {K : Nat → Nat → BitVec 8} {i p n l : Nat} {y : S16x4096x128.Idx} {w : BitVec 32} (e0 : (y 0).val = p)
    (e1 : (y 1).val = n) (e2 : (y 2).val = l) (h : ∀ e : Fin 4, byte w e.val = K (kCol n e.val) (128 * p + l)) : kGood K i y w := by
  subst e0 e1 e2; exact fun _ => h

theorem qGood_intro {Q : Nat → Nat → Nat → BitVec 8} {p n l : Nat} {y : S16x128x128.Idx} {w : BitVec 32} (e0 : (y 0).val = p)
    (e1 : (y 1).val = n) (e2 : (y 2).val = l) (h : ∀ e : Fin 4, byte w e.val = Q (n / 32) (qRow n e.val) (128 * p + l)) :
    qGood Q y w := by
  subst e0 e1 e2; exact h

theorem lead_apply {α : Type} (y : S8x128.Idx → α) (j : S1x8x128.Idx) : lead y j = y (ix2 (j 1) (j 2)) := by
  pointwise [lead]

theorem kRect_emb (p : Nat) (hp : p < 16) (n : Nat) (hn : n + 14 < 4096) (j : S1x8x128.Idx) :
    ((kRect p hp n hn).emb j 0).val = p ∧ ((kRect p hp n hn).emb j 1).val = n + 2 * (j 1).val ∧ ((kRect p hp n hn).emb j 2).val = (j 2).val := by
  have h0 : (j 0).val = 0 := by have := (j 0).isLt; change _ < 1 at this; omega
  refine ⟨?_, ?_, ?_⟩
  · show p + 1 * (j 0).val = p; omega
  · show n + 2 * (j 1).val = _; omega
  · show 0 + 1 * (j 2).val = _; omega

theorem qRect_emb (p : Nat) (hp : p < 16) (n : Nat) (hn : n + 14 < 128) (j : S1x8x128.Idx) :
    ((qRect p hp n hn).emb j 0).val = p ∧ ((qRect p hp n hn).emb j 1).val = n + 2 * (j 1).val ∧ ((qRect p hp n hn).emb j 2).val = (j 2).val := by
  have h0 : (j 0).val = 0 := by have := (j 0).isLt; change _ < 1 at this; omega
  refine ⟨?_, ?_, ?_⟩
  · show p + 1 * (j 0).val = p; omega
  · show n + 2 * (j 1).val = _; omega
  · show 0 + 1 * (j 2).val = _; omega

theorem mem4 (b : Fin 4) : b ∈ ([0, 1, 2, 3] : List (Fin 4)) := by revert b; decide
theorem two_cases (b : Fin 2) : b = 0 ∨ b = 1 := by revert b; decide

/-- `bytesT_src` for one of two tiles. -/
theorem bytesT_pair (ws : Fin 2 → IVec S128x2x128 32) (lt : Fin 2) (x : S1x1x1024x128.Idx → BitVec 8) (hx : ws lt = words x)
    (half a c0 : Fin 2) (b : Fin 4) (j : Fin 8) (l : Fin 128) (e : Fin 4) :
    byte (bytesT (src (ws lt) half a c0) b (ix2 j l)) e.val
      = x (tileAt (8 * (16 * (4 * a.val + e.val) + 8 * c0.val + j.val) + 4 * half.val + b.val) (by omega) l) := by
  rw [hx]; exact bytesT_src x half a c0 b j l e

theorem mem2 (b : Fin 2) : b ∈ ([0, 1] : List (Fin 2)) := by revert b; decide

variable {qs : S2x4.Idx → F .f32} {ks : S2x1.Idx → F .f32}

/-- Head `h` of a query tile. -/
def qHead (h : Fin 4) (t : S1x4x1024x128.Idx → BitVec 8) : S1x1x1024x128.Idx → BitVec 8 := fun j => t ((qTile h).toLoadRect.idx j)

/-- All groups of a tile, over any array. -/
theorem Sets.packAll {Pr : St F → Prop} {n : Nm} {Gd : n.shp.Idx → Elt F n.elt → Prop}
    {f : Fin 2 → Fin 2 → Fin 2 → Fin 2 → Cmd F Unit} {C : Fin 2 → Fin 2 → Fin 2 → Fin 2 → n.shp.Idx → Prop}
    (hf : ∀ a b c d, Sets qs ks Pr n Gd (f a b c d) (C a b c d)) :
    Sets qs ks Pr n Gd (packAll f) (fun y => ∃ a b c d, C a b c d y) := by
  refine (Sets.forE (fun a => Sets.forE (fun b => Sets.forE (fun c => Sets.forE (fun d => hf a b c d) _) _) _) _).mono ?_
  rintro y ⟨a, b, c, d, h⟩
  exact ⟨a, mem2 a, b, mem2 b, c, mem2 c, d, mem2 d, h⟩

/-- The keys' scratch after the point's tile is packed. -/
theorem packK_sets (K : Nat → Nat → BitVec 8) (i : Fin 128) (t0 t1 : S1x1x1024x128.Idx → BitVec 8)
    (h0 : ∀ (r : Nat) (hr : r < 1024) (l : Fin 128), (t0 (tileAt r hr l) : BitVec 8) = K (128 * i.val + r / 8) (256 * (7 - r % 8) + l.val))
    (h1 : ∀ (r : Nat) (hr : r < 1024) (l : Fin 128), (t1 (tileAt r hr l) : BitVec 8) = K (128 * i.val + r / 8) (256 * (7 - r % 8) + 128 + l.val)) :
    Sets (F := F) qs ks (fun s => s .k0 = t0 ∧ s .k1 = t1) .kp (kGood K (i.val + 1)) (packK i) (fun y : S16x4096x128.Idx => (y 1).val / 32 = i.val) := by
  have id4 : ∀ (x : S1x1x1024x128.Idx → BitVec 8), (fun j => x (kTile.toLoadRect.idx j)) = x := by
    intro x; funext j
    congr 1
    funext a
    fin_cases a <;> exact Fin.ext (by show 0 + 1 * _ = _; omega)
  unfold packK
  refine Sets.ldEq t0 (fun s hs => (congrArg (fun (x : S1x1x1024x128.Idx → BitVec 8) j => x (kTile.toLoadRect.idx j)) hs.1).trans (id4 t0)) ?_
  refine Sets.ldEq t1 (fun s hs => (congrArg (fun (x : S1x1x1024x128.Idx → BitVec 8) j => x (kTile.toLoadRect.idx j)) hs.2).trans (id4 t1)) ?_
  refine (Sets.packAll (n := .kp) (C := fun half a c0 lt (y : S16x4096x128.Idx) => ∃ b ∈ ([0, 1, 2, 3] : List (Fin 4)), ∃ j : S1x8x128.Idx,
      (kRect (2 * (7 - (4 * half.val + b.val)) + lt.val) (by omega) (kRow i a c0) (by rw [kRow_eq]; omega)).emb j = y) ?_).mono ?_
  · intro half a c0 lt
    refine Sets.forE (fun b => ?_) _
    refine Sets.ld fun s hs => ?_
    refine Sets.st (fun s v h => ⟨?_, ?_⟩) fun (j : S1x8x128.Idx) => ?_
    · rw [Function.update_of_ne (by decide)]; exact h.1
    · rw [Function.update_of_ne (by decide)]; exact h.2
    · obtain ⟨e0, e1, e2⟩ := kRect_emb (2 * (7 - (4 * half.val + b.val)) + lt.val) (by omega) (kRow i a c0) (by rw [kRow_eq]; omega) j
      replace e1 := e1.trans (congrArg (· + 2 * (j 1).val) (kRow_eq i a c0))
      refine kGood_intro e0 e1 e2 fun e => ?_
      have j1 : (j 1).val < 8 := (j 1).isLt
      refine (congrArg (byte · e.val) (lead_apply _ j)).trans ?_
      have ha := a.isLt
      have hl := two_cases lt
      rcases hl with rfl | rfl
      · refine ((bytesT_pair ![words t0, words t1] 0 t0 rfl half a c0 b (j 1) (j 2) e).trans (h0 _ _ _)).trans ?_
        congr 1
        · unfold kCol; show _ = _; omega
        · show _ = 128 * (2 * (7 - (4 * half.val + b.val)) + 0) + _; omega
      · refine ((bytesT_pair ![words t0, words t1] 1 t1 rfl half a c0 b (j 1) (j 2) e).trans (h1 _ _ _)).trans ?_
        congr 1
        · unfold kCol; show _ = _; omega
        · show _ = 128 * (2 * (7 - (4 * half.val + b.val)) + 1) + _; omega
  · intro (y : S16x4096x128.Idx) (hy : (y 1).val / 32 = i.val)
    have y0 : (y 0).val < 16 := (y 0).isLt
    have y2 : (y 2).val < 128 := (y 2).isLt
    refine ⟨⟨(7 - (y 0).val / 2) / 4, by omega⟩, ⟨(y 1).val % 2, by omega⟩, ⟨(y 1).val % 32 / 16, by omega⟩, ⟨(y 0).val % 2, by omega⟩,
      ⟨(7 - (y 0).val / 2) % 4, by omega⟩, mem4 _, ix3 0 ⟨(y 1).val % 16 / 2, by omega⟩ (y 2), ?_⟩
    have hr := kRect_emb (2 * (7 - (4 * ((7 - (y 0).val / 2) / 4) + (7 - (y 0).val / 2) % 4)) + (y 0).val % 2) (by omega)
      (kRow i ⟨(y 1).val % 2, by omega⟩ ⟨(y 1).val % 32 / 16, by omega⟩) (by rw [kRow_eq]; simp only; omega)
      (ix3 0 ⟨(y 1).val % 16 / 2, by omega⟩ (y 2))
    funext a
    apply Fin.ext
    fin_cases a
    · refine hr.1.trans ?_; show _ = (y 0).val; omega
    · refine hr.2.1.trans ?_
      rw [kRow_eq]
      show 32 * i.val + 16 * ((y 1).val % 32 / 16) + (y 1).val % 2 + 2 * ((y 1).val % 16 / 2) = (y 1).val
      omega
    · exact hr.2.2

/-- The queries' scratch after the point's tile is packed. -/
theorem packQ_sets (Q : Nat → Nat → Nat → BitVec 8) (t0 t1 : S1x4x1024x128.Idx → BitVec 8)
    (h0 : ∀ (h : Fin 4) (r : Nat) (hr : r < 1024) (l : Fin 128), (t0 (ix4 0 h ⟨r, hr⟩ l) : BitVec 8) = Q h.val (r / 8) (256 * (r % 8) + l.val))
    (h1 : ∀ (h : Fin 4) (r : Nat) (hr : r < 1024) (l : Fin 128), (t1 (ix4 0 h ⟨r, hr⟩ l) : BitVec 8) = Q h.val (r / 8) (256 * (r % 8) + 128 + l.val)) :
    Sets (F := F) qs ks (fun s => s .q0 = t0 ∧ s .q1 = t1) .qp (qGood Q) packQ (fun _ => True) := by
  have id4 : ∀ (h : Fin 4) (x : S1x4x1024x128.Idx → BitVec 8) (r : Nat) (hr : r < 1024) (l : Fin 128),
      qHead h x (tileAt r hr l) = x (ix4 0 h ⟨r, hr⟩ l) := by
    intro h x r hr l
    show x _ = x _
    congr 1
    funext a
    apply Fin.ext
    fin_cases a
    · rfl
    · show h.val + 1 * 0 = h.val; omega
    · show 0 + 1 * r = r; omega
    · show 0 + 1 * l.val = l.val; omega
  unfold packQ
  refine (Sets.forE (n := .qp) (C := fun h (y : S16x128x128.Idx) => ∃ half a c0 lt : Fin 2, ∃ b ∈ ([0, 1, 2, 3] : List (Fin 4)), ∃ j : S1x8x128.Idx,
      (qRect (2 * (4 * half.val + b.val) + lt.val) (by omega) (32 * h.val + 16 * c0.val + a.val) (by omega)).emb j = y)
    (fun h => ?_) _).mono ?_
  · refine Sets.ldEq (qHead h t0) (fun s hs => congrArg (fun (x : S1x4x1024x128.Idx → BitVec 8) j => x ((qTile h).toLoadRect.idx j)) hs.1) ?_
    refine Sets.ldEq (qHead h t1) (fun s hs => congrArg (fun (x : S1x4x1024x128.Idx → BitVec 8) j => x ((qTile h).toLoadRect.idx j)) hs.2) ?_
    refine Sets.packAll fun half a c0 lt => ?_
    refine Sets.forE (fun b => ?_) _
    refine Sets.ld fun s hs => ?_
    refine Sets.st (fun s v h => ⟨?_, ?_⟩) fun (j : S1x8x128.Idx) => ?_
    · rw [Function.update_of_ne (by decide)]; exact h.1
    · rw [Function.update_of_ne (by decide)]; exact h.2
    · obtain ⟨e0, e1, e2⟩ := qRect_emb (2 * (4 * half.val + b.val) + lt.val) (by omega) (32 * h.val + 16 * c0.val + a.val) (by omega) j
      refine qGood_intro e0 e1 e2 fun e => ?_
      have j1 : (j 1).val < 8 := (j 1).isLt
      have hh : (32 * h.val + 16 * c0.val + a.val + 2 * (j 1).val) / 32 = h.val := by omega
      rw [hh]
      refine (congrArg (byte · e.val) (lead_apply _ j)).trans ?_
      have ha := a.isLt
      have hl := two_cases lt
      rcases hl with rfl | rfl
      · refine ((bytesT_pair ![words (qHead h t0), words (qHead h t1)] 0 (qHead h t0) rfl half a c0 b (j 1) (j 2) e).trans <| (id4 h t0 _ _ _).trans (h0 h _ _ _)).trans ?_
        congr 1
        · unfold qRow; show _ = _; omega
        · show _ = 128 * (2 * (4 * half.val + b.val) + 0) + _; omega
      · refine ((bytesT_pair ![words (qHead h t0), words (qHead h t1)] 1 (qHead h t1) rfl half a c0 b (j 1) (j 2) e).trans <| (id4 h t1 _ _ _).trans (h1 h _ _ _)).trans ?_
        congr 1
        · unfold qRow; show _ = _; omega
        · show _ = 128 * (2 * (4 * half.val + b.val) + 1) + _; omega
  · intro (y : S16x128x128.Idx) _
    have y0 : (y 0).val < 16 := (y 0).isLt
    have y1 : (y 1).val < 128 := (y 1).isLt
    refine ⟨⟨(y 1).val / 32, by omega⟩, mem4 _, ⟨(y 0).val / 2 / 4, by omega⟩, ⟨(y 1).val % 2, by omega⟩, ⟨(y 1).val % 32 / 16, by omega⟩,
      ⟨(y 0).val % 2, by omega⟩, ⟨(y 0).val / 2 % 4, by omega⟩, mem4 _, ix3 0 ⟨(y 1).val % 16 / 2, by omega⟩ (y 2), ?_⟩
    have hr := qRect_emb (2 * (4 * ((y 0).val / 2 / 4) + (y 0).val / 2 % 4) + (y 0).val % 2) (by omega)
      (32 * ((y 1).val / 32) + 16 * ((y 1).val % 32 / 16) + (y 1).val % 2) (by omega)
      (ix3 0 ⟨(y 1).val % 16 / 2, by omega⟩ (y 2))
    funext a
    apply Fin.ext
    fin_cases a
    · refine hr.1.trans ?_; show _ = (y 0).val; omega
    · refine hr.2.1.trans ?_
      show 32 * ((y 1).val / 32) + 16 * ((y 1).val % 32 / 16) + (y 1).val % 2 + 2 * ((y 1).val % 16 / 2) = (y 1).val
      omega
    · exact hr.2.2

end K01
-- ==== Proof.Vec.lean ====
/- The values a chunk computes, read at an index: the codes of a chunk side by side, their products,
   the scores of a cell, and the causal mask. -/
module

public import proofs.«01_k».proof.Proof.Pack
public import Idealize.ShloMosaic.Lib.Pipeline.Value

@[expose] public section

set_option maxRecDepth 16384

namespace K01

open Idealize.ShloMosaic Idealize.ShloMosaic.Pointwise Cmd

/-- The number an eight-bit code stands for. -/
noncomputable def val (c : BitVec 8) : EReal := FloatOps.ofBits (F := Ideal) .fp8e4m3 c

theorem codes_at (x : S1x128x128.Idx → BitVec 32) (r : Fin 512) (l : Fin 128) :
    codes (F := Ideal) x (ix2 r l) = val (byte (x (ix3 0 ⟨r.val / 4, by omega⟩ l)) (r.val % 4)) := by
  unfold codes
  rw [bitcastToFloat_apply]
  unfold val
  congr 1
  refine (bitcast_byte _ _ r l).trans ?_
  congr 1
  pointwise []

theorem planes_at (v : Fin 16 → FVec Ideal S512x128 .fp8e4m3) (r : Fin 512) (j : Fin 2048) :
    planes v (ix2 r j) = v ⟨j.val / 128, by omega⟩ (ix2 r ⟨j.val % 128, by omega⟩) := by
  have hc : Shape.Concatenates ((List.ofFn fun n : Fin 16 => (⟨S512x128, v n⟩ : (s : Shape) × (s.Idx → Ideal .fp8e4m3))).map (·.1)) S512x2048 1 := planes_cat
  show concatenate S512x2048 1 (List.ofFn fun n : Fin 16 => (⟨S512x128, v n⟩ : (s : Shape) × (s.Idx → Ideal .fp8e4m3))) hc (ix2 r j) = _
  refine concatenate_ofFn_apply 1 v hc rfl 128 rfl (ix2 r j) ⟨j.val / 128, by omega⟩ rfl (ix2 r ⟨j.val % 128, by omega⟩) rfl ?_
  intro b hb
  fin_cases b
  · rfl
  · exact absurd rfl hb

theorem dots_at (k q : FVec Ideal S512x2048 .fp8e4m3) (r c : Fin 512) :
    dots k q (ix2 r c) = ∑ j : Fin 2048, k (ix2 r j) * q (ix2 c j) := by
  pointwise [dots, rowsDot]

theorem cell_at (d : FVec Ideal S512x512 .f32) (g h : Fin 4) (c : Fin 16) (mu : Ideal .f32) (s : Fin 8) (l : Fin 128) :
    mulf (cell (cells d g h) c) (broadcast S8x128 mu) (ix2 s l)
      = d (ix2 ⟨128 * g.val + 8 * c.val + s.val, by omega⟩ ⟨128 * h.val + l.val, by omega⟩) * mu := by
  pointwise [cell, cells]
  congr 3
  apply Fin.ext
  show 128 * g.val + (c.val * 8 + s.val) = 128 * g.val + 8 * c.val + s.val
  omega

theorem rowGap_at : ∀ (s : Fin 8) (l : Fin 128),
    (rowGap (ix2 s l)).toInt = (l.val % 8 * 16 + l.val / 8 : Int) - 16 * s.val := by
  decide +kernel

theorem groupNo_eq (a : BitVec 32) (g : Fin 4) : groupNo a g = BitVec.ofNat 32 (4 * a.toNat + g.val) := by
  show a * 4#32 + BitVec.ofNat 32 g.val = _
  rw [BitVec.mul_comm]
  apply BitVec.eq_of_toNat_eq
  simp

theorem gap_toInt (c : Fin 16) (ga : Nat) (i : Fin 128) (hga : ga < 128) :
    (Scalar.addi (BitVec.ofNat 32 c.val) (Scalar.muli 128#32 (Scalar.subi (BitVec.ofNat 32 ga) (idx32 i)))).toInt
      = (c.val : Int) + 128 * ((ga : Int) - i.val) := by
  show (BitVec.ofNat 32 c.val + 128#32 * (BitVec.ofNat 32 ga - BitVec.ofNat 32 i.val)).toInt = _
  have e : BitVec.ofNat 32 c.val + 128#32 * (BitVec.ofNat 32 ga - BitVec.ofNat 32 i.val)
      = BitVec.ofInt 32 ((c.val : Int) + 128 * ((ga : Int) - i.val)) := by
    apply BitVec.eq_of_toInt_eq
    simp only [BitVec.toInt_add, BitVec.toInt_mul, BitVec.toInt_sub, BitVec.toInt_ofNat', BitVec.toInt_ofInt]
    simp
  rw [e, BitVec.toInt_ofInt]
  have := c.isLt
  have := i.isLt
  rw [Int.bmod_eq_of_le] <;> omega

/-- The mask keeps a score when its key column is not after its query row. -/
theorem causal_at (i : Fin 128) (ga : Nat) (hga : ga < 128) (c : Fin 16) (x : FVec Ideal S8x128 .f32) (s : Fin 8) (l : Fin 128) :
    causal i (BitVec.ofNat 32 ga) c x (ix2 s l)
      = if 128 * ga + 16 * s.val + c.val ≤ 128 * i.val + (l.val % 8 * 16 + l.val / 8) then x (ix2 s l) else (⊥ : EReal) := by
  have hb : (Scalar.ofBits (F := Ideal) .f32 0xFF800000#32 : EReal) = ⊥ := by
    show Ideal.ofBits .f32 0xFF800000#32 = ⊥
    simp [Ideal.ofBits, Ideal.ieee]
  have h1 := rowGap_at s l
  have h2 := gap_toInt c ga i hga
  show Scalar.select (IntOp.cmpi .sge (rowGap (ix2 s l)) _) (x (ix2 s l)) (Scalar.ofBits (F := Ideal) .f32 0xFF800000#32) = _
  rw [hb]
  have e : IntOp.cmpi .sge (rowGap (ix2 s l)) (Scalar.addi (BitVec.ofNat 32 c.val) (Scalar.muli 128#32 (Scalar.subi (BitVec.ofNat 32 ga) (idx32 i))))
      = BitVec.ofBool (decide (128 * ga + 16 * s.val + c.val ≤ 128 * i.val + (l.val % 8 * 16 + l.val / 8))) := by
    show BitVec.ofBool (BitVec.sle _ _) = _
    congr 1
    unfold BitVec.sle
    rw [h1, h2]
    apply decide_eq_decide.2
    constructor <;> intro h <;> omega
  refine (congrArg (fun b => Scalar.select b (x (ix2 s l)) ⊥) e).trans ?_
  by_cases h : 128 * ga + 16 * s.val + c.val ≤ 128 * i.val + (l.val % 8 * 16 + l.val / 8)
  · rw [if_pos h, decide_eq_true h]; rfl
  · rw [if_neg h, decide_eq_false h]; rfl

end K01
-- ==== Proof.Sums.lean ====
/- The running maxima and sums over the reals: a sum of exponentials does not depend on the shift it is
   kept under, so each running sum is the sum so far times a power of two, and a row's norm is the
   logarithm of its whole sum. -/
module

public import proofs.«01_k».proof.Proof.Body
public import Idealize.ShloMosaic.Lib.Pointwise

@[expose] public section

set_option maxRecDepth 16384

namespace K01

open Idealize.ShloMosaic Idealize.ShloMosaic.Pointwise

/-- The power of two, as a real: zero at `-∞`. -/
noncomputable def e2 (x : EReal) : ℝ := (Ideal.exp2 x).toReal

theorem exp2_real (r : ℝ) : Ideal.exp2 (r : EReal) = (((2 : ℝ) ^ r : ℝ) : EReal) := Ideal.exp2_coe r

theorem e2_bot : e2 ⊥ = 0 := by simp [e2]
theorem e2_real (r : ℝ) : e2 (r : EReal) = (2 : ℝ) ^ r := by rw [e2, exp2_real]; rfl
theorem e2_nonneg (x : EReal) (hx : x ≠ ⊤) : 0 ≤ e2 x := by
  induction x using EReal.rec with
  | bot => rw [e2_bot]
  | coe r => rw [e2_real]; positivity
  | top => exact absurd rfl hx

/-- A shifted exponential is the exponential times a power of two. -/
theorem exp2_shift (x : EReal) (hx : x ≠ ⊤) (m : ℝ) : Ideal.exp2 (x - (m : EReal)) = ((e2 x * (2 : ℝ) ^ (-m) : ℝ) : EReal) := by
  induction x using EReal.rec with
  | bot => rw [EReal.bot_sub, e2_bot]; simp
  | coe r =>
    rw [← EReal.coe_sub, exp2_real, e2_real, sub_eq_add_neg, Real.rpow_add (by norm_num)]
  | top => exact absurd rfl hx

/-- The least score. -/
noncomputable def lowest : EReal := Ideal.ofBits .f32 0xFF61B1E6#32

theorem lowest_real : ∃ r : ℝ, lowest = r := by
  have h : lowest ≠ ⊤ ∧ lowest ≠ ⊥ := by
    unfold lowest
    simp [Ideal.ofBits, Ideal.ieee, -EReal.coe_mul]
  exact ⟨lowest.toReal, (EReal.coe_toReal h.1 h.2).symm⟩

theorem chain_max_at (s : Fin 16 → FVec Ideal S8x128 .f32) (y : S8x128.Idx) :
    chain maximumf s y = ([1, 2, 3, 4, 5, 6, 7, 8, 9, 10, 11, 12, 13, 14, 15] : List (Fin 16)).foldl (fun (acc : EReal) c => max acc (s c y)) (s 0 y) := rfl

theorem chain_add_at (s : Fin 16 → FVec Ideal S8x128 .f32) (y : S8x128.Idx) :
    (chain addf s y : EReal) = ∑ c, (s c y : EReal) := by
  have h : (∑ c, (s c y : EReal)) = (List.ofFn fun c => (s c y : EReal)).foldl (· + ·) 0 := by
    rw [← List.sum_ofFn, List.sum_eq_foldl]
  rw [h]
  show _ = (0 : EReal) + (s 0 y : EReal) + s 1 y + s 2 y + s 3 y + s 4 y + s 5 y + s 6 y + s 7 y + s 8 y + s 9 y + s 10 y + s 11 y
    + s 12 y + s 13 y + s 14 y + s 15 y
  rw [zero_add]
  rfl

theorem maxOf_at (s : Fin 16 → FVec Ideal S8x128 .f32) (y : S8x128.Idx) (hs : ∀ c, (s c y : EReal) ≠ ⊤) :
    ∃ μ : ℝ, (maxOf s y : EReal) = μ := by
  have hl : ∀ (L : List (Fin 16)) (a : EReal), a ≠ ⊤ → L.foldl (fun (acc : EReal) c => max acc (s c y)) a ≠ ⊤ := by
    intro L
    induction L with
    | nil => exact fun a h => h
    | cons c L ih => exact fun a h => ih _ (by show max a (s c y : EReal) ≠ ⊤; rcases max_choice a (s c y : EReal) with e | e <;> rw [e]; exacts [h, hs c])
  obtain ⟨r, hr⟩ := lowest_real
  have e : (maxOf s y : EReal) = max (chain maximumf s y : EReal) lowest := rfl
  have h1 := hl [1, 2, 3, 4, 5, 6, 7, 8, 9, 10, 11, 12, 13, 14, 15] (s 0 y) (hs 0)
  rw [← chain_max_at] at h1
  have h2 : (maxOf s y : EReal) ≠ ⊤ := by
    rw [e, hr]
    rcases max_choice (chain maximumf s y : EReal) (r : EReal) with e | e <;> rw [e]
    exacts [h1, EReal.coe_ne_top r]
  have h3 : (maxOf s y : EReal) ≠ ⊥ := by
    intro h0
    have : lowest ≤ (maxOf s y : EReal) := by rw [e]; exact le_max_right _ _
    rw [h0, hr] at this
    exact absurd (le_bot_iff.1 this) (EReal.coe_ne_bot r)
  exact ⟨(maxOf s y : EReal).toReal, (EReal.coe_toReal h2 h3).symm⟩

/-- The sum over the cells of the exponentials. -/
noncomputable def wt (s : Fin 16 → FVec Ideal S8x128 .f32) (y : S8x128.Idx) : ℝ := ∑ c, e2 (s c y)

theorem sumOf_at (s : Fin 16 → FVec Ideal S8x128 .f32) (y : S8x128.Idx) (hs : ∀ c, (s c y : EReal) ≠ ⊤) (mg : FVec Ideal S8x128 .f32)
    (μ : ℝ) (hμ : (mg y : EReal) = μ) : (sumOf s mg y : EReal) = ((wt s y * (2 : ℝ) ^ (-μ) : ℝ) : EReal) := by
  unfold sumOf
  rw [chain_add_at]
  have h : ∀ c, (exp2 (subf (s c) mg) y : EReal) = ((e2 (s c y) * (2 : ℝ) ^ (-μ) : ℝ) : EReal) := by
    intro c
    have : (exp2 (subf (s c) mg) y : EReal) = Ideal.exp2 ((s c y : EReal) - (mg y : EReal)) := rfl
    rw [this, hμ, exp2_shift _ (hs c)]
  simp only [h]
  rw [wt, Finset.sum_mul]
  exact (map_sum (⟨⟨Real.toEReal, EReal.coe_zero⟩, EReal.coe_add⟩ : ℝ →+ EReal) _ _).symm

/-- The running maximum after `N` groups, from their scores. -/
noncomputable def cM (s : Nat → Fin 16 → FVec Ideal S8x128 .f32) : Nat → FVec Ideal S8x128 .f32
  | 0 => floorV
  | N + 1 => nextM (cM s N) (maxOf (s N))

/-- The running sum after `N` groups. -/
noncomputable def cL (s : Nat → Fin 16 → FVec Ideal S8x128 .f32) : Nat → FVec Ideal S8x128 .f32
  | 0 => zeroV
  | N + 1 => nextL (cM s N) (cL s N) (maxOf (s N)) (sumOf (s N) (maxOf (s N)))

theorem carry_at (s : Nat → Fin 16 → FVec Ideal S8x128 .f32) (y : S8x128.Idx) (hs : ∀ n c, (s n c y : EReal) ≠ ⊤) (N : Nat) :
    ∃ μ : ℝ, (cM s N y : EReal) = μ ∧ (cL s N y : EReal) = (((∑ n ∈ Finset.range N, wt (s n) y) * (2 : ℝ) ^ (-μ) : ℝ) : EReal) := by
  induction N with
  | zero =>
    obtain ⟨r, hr⟩ := lowest_real
    refine ⟨r, hr, ?_⟩
    have : (cL s 0 y : EReal) = Ideal.ofBits .f32 0x00000000#32 := rfl
    rw [this]
    simp [Ideal.ofBits, Ideal.ieee]
  | succ N ih =>
    obtain ⟨μ, hm, hl⟩ := ih
    obtain ⟨ν, hν⟩ := maxOf_at (s N) y (hs N)
    have hp := sumOf_at (s N) y (hs N) _ ν hν
    have e : (cM s (N + 1) y : EReal) = max (cM s N y : EReal) (maxOf (s N) y : EReal) := rfl
    rw [hm, hν, ← EReal.coe_strictMono.monotone.map_max] at e
    refine ⟨max μ ν, e, ?_⟩
    have e' : (cL s (N + 1) y : EReal)
        = (cL s N y : EReal) * Ideal.exp2 ((cM s N y : EReal) - (cM s (N + 1) y : EReal))
          + (sumOf (s N) (maxOf (s N)) y : EReal) * Ideal.exp2 ((maxOf (s N) y : EReal) - (cM s (N + 1) y : EReal)) := rfl
    rw [e', e, hm, hl, hν, hp, ← EReal.coe_sub, ← EReal.coe_sub, exp2_real, exp2_real, ← EReal.coe_mul, ← EReal.coe_mul, ← EReal.coe_add,
      Finset.sum_range_succ]
    congr 1
    have h2 : (0 : ℝ) < 2 := by norm_num
    rw [mul_assoc, mul_assoc, ← Real.rpow_add h2, ← Real.rpow_add h2]
    rw [show -μ + (μ - max μ ν) = -max μ ν by ring, show -ν + (ν - max μ ν) = -max μ ν by ring]
    ring

theorem e2_mul_log2e (x : ℝ) : e2 ((x : EReal) * (((Real.log 2)⁻¹ : ℝ) : EReal)) = Real.exp x := by
  rw [← EReal.coe_mul, e2_real, Real.rpow_def_of_pos (by norm_num)]
  congr 1
  have : Real.log 2 ≠ 0 := (Real.log_pos (by norm_num)).ne'
  field_simp

/-- A sum of reals, as an extended real. -/
theorem coe_sum {ι : Type} (t : Finset ι) (f : ι → ℝ) : (∑ i ∈ t, ((f i : ℝ) : EReal)) = ((∑ i ∈ t, f i : ℝ) : EReal) :=
  (map_sum (⟨⟨Real.toEReal, EReal.coe_zero⟩, EReal.coe_add⟩ : ℝ →+ EReal) _ _).symm

/-- A row's norm is the logarithm of its whole sum, in base two. -/
theorem rowNorm_at (m l : FVec Ideal S8x128 .f32) (q : Fin 128) (L μ : Fin 8 → ℝ) (hm : ∀ s, (m (ix2 s q) : EReal) = μ s)
    (hl : ∀ s, (l (ix2 s q) : EReal) = ((L s * (2 : ℝ) ^ (-μ s) : ℝ) : EReal)) (hS : 0 < ∑ s, L s) :
    (rowNorm (((Real.log 2)⁻¹ : ℝ) : EReal) m l (ix2 0 q) : EReal) = ((Real.log (∑ s, L s) / Real.log 2 : ℝ) : EReal) := by
  have h2 : (0 : ℝ) < 2 := by norm_num
  pointwise [rowNorm]
  have hb : Ideal.ofBits .f32 4286578688#32 = ⊥ := by simp [Ideal.ofBits, Ideal.ieee]
  obtain ⟨s₀, -, h₀⟩ := Finset.exists_mem_eq_sup (Finset.univ : Finset (Fin 8)) Finset.univ_nonempty (fun x => (m (ix2 x q) : EReal))
  have hM : Finset.fold max (Ideal.ofBits .f32 4286578688#32) (fun x => (m (ix2 x q) : EReal)) (Finset.univ : Finset (Fin 8)) = ((μ s₀ : ℝ) : EReal) := by
    rw [hb, ← hm s₀]; exact h₀
  have hs : (∑ x : Fin 8, (l (ix2 x q) : EReal) * Ideal.exp2 ((m (ix2 x q) : EReal) - ((μ s₀ : ℝ) : EReal)))
      = (((∑ s, L s) * (2 : ℝ) ^ (-μ s₀) : ℝ) : EReal) := by
    rw [Finset.sum_mul, ← coe_sum]
    refine Finset.sum_congr rfl fun x _ => ?_
    rw [hm, hl, ← EReal.coe_sub, exp2_real, ← EReal.coe_mul, mul_assoc, ← Real.rpow_add h2]
    congr 3
    ring
  have hp : 0 < (∑ s, L s) * (2 : ℝ) ^ (-μ s₀) := mul_pos hS (Real.rpow_pos_of_pos h2 _)
  refine (congrArg₂ (fun (a b : EReal) => a + Ideal.log b * (((Real.log 2)⁻¹ : ℝ) : EReal)) hM (?_ : _ = (((∑ s, L s) * (2 : ℝ) ^ (-μ s₀) : ℝ) : EReal))).trans ?_
  · rw [← hs]
    refine Finset.sum_congr rfl fun x _ => ?_
    rw [hM]; rfl
  · show _ + Ideal.log _ * _ = _
    rw [Ideal.log_coe, if_neg (not_le.2 hp), ← EReal.coe_mul, ← EReal.coe_add, Real.log_mul hS.ne' (Real.rpow_pos_of_pos h2 _).ne',
      Real.log_rpow h2]
    congr 1
    have : Real.log 2 ≠ 0 := (Real.log_pos (by norm_num)).ne'
    field_simp
    ring

theorem rowNo_at : ∀ (i : Fin 128) (s : Fin 8) (l : Fin 128),
    rowNo i (ix2 s l) = BitVec.ofNat 32 (128 * i.val) + rowNo 0 (ix2 s l) := by
  intro i s l
  have h : Scalar.muli (idx32 i) 128#32 = BitVec.ofNat 32 (128 * i.val) := by
    apply BitVec.eq_of_toNat_eq
    show (BitVec.ofNat 32 i.val * 128#32).toNat = _
    rw [BitVec.toNat_mul]; simp; omega
  show ((Scalar.muli (idx32 i) 128#32 + _) + _ : BitVec 32) = _ + ((Scalar.muli (idx32 0) 128#32 + _) + _)
  rw [h, show Scalar.muli (idx32 (0 : Fin 128)) 128#32 = 0#32 from by decide, BitVec.zero_add, BitVec.add_assoc]

theorem rowNo_zero : ∀ (s : Fin 8) (l : Fin 128), rowNo 0 (ix2 s l) = BitVec.ofNat 32 (l.val % 8 * 16 + l.val / 8) := by
  decide +kernel

theorem laneOf_at : ∀ l : Fin 128,
    (Scalar.select (IntOp.cmpi .slt (laneOf (ix2 0 l)) 0#32) (IntOp.addi (laneOf (ix2 0 l)) 128#32) (laneOf (ix2 0 l))).toNat % 128
      = l.val % 16 * 8 + l.val / 16 := by
  decide +kernel

/-- The row result, in the queries' order. -/
theorem rowOut_at (i : Fin 128) (norm : FVec Ideal S1x128 .f32) (j : Fin 128) (ν : ℝ)
    (h : (norm (ix2 0 ⟨j.val % 16 * 8 + j.val / 16, by omega⟩) : EReal) = ν) :
    (rowOut ((Real.log 2 : ℝ) : EReal) i norm (ix3 0 0 j) : EReal)
      = ((ν * Real.log 2 - Real.log ((128 * i.val + j.val : Nat) + 1) : ℝ) : EReal) := by
  have hj := laneOf_at j
  pointwise [rowOut]
  simp only [hj, h]
  have hr : FloatOps.sitofp (F := Ideal) .f32 (IntOp.addi (rowNo i (ix2 0 ⟨j.val % 16 * 8 + j.val / 16, by omega⟩)) 1#32)
      = ((((128 * i.val + j.val : Nat) : ℝ) + 1 : ℝ) : EReal) := by
    rw [rowNo_at, rowNo_zero]
    show (((BitVec.ofNat 32 (128 * i.val) + BitVec.ofNat 32 ((j.val % 16 * 8 + j.val / 16) % 8 * 16 + (j.val % 16 * 8 + j.val / 16) / 8) + 1#32 : BitVec 32).toInt : ℝ) : EReal) = _
    have e : BitVec.ofNat 32 (128 * i.val) + BitVec.ofNat 32 ((j.val % 16 * 8 + j.val / 16) % 8 * 16 + (j.val % 16 * 8 + j.val / 16) / 8) + 1#32
        = BitVec.ofNat 32 (128 * i.val + j.val + 1) := by
      rw [← BitVec.ofNat_add, ← BitVec.ofNat_add]
      congr 1
      omega
    rw [e]
    have e2 : (BitVec.ofNat 32 (128 * i.val + j.val + 1)).toInt = ((128 * i.val + j.val : Nat) : Int) + 1 := by
      rw [BitVec.toInt_ofNat', Int.bmod_eq_of_le] <;> omega
    rw [e2]
    push_cast
    rfl
  rw [hr, Ideal.log_coe, if_neg (not_le.2 (by positivity)), ← EReal.coe_mul, ← EReal.coe_sub]

/-- A block result of a tile, from its kept sums and maxima. -/
theorem tileOut_at (i : Fin 128) (t : BitVec 32) (ht : t.toNat < 8) (norm : FVec Ideal S1x128 .f32) (p m : S1x128x128.Idx → Ideal .f32)
    (s : Fin 8) (l : Fin 128) :
    (shapeCast S1x1x8x128 (chain addf (cell (tileOut i t norm p m))) (by decide) (ix4 0 0 s l) : EReal)
      = ∑ c : Fin 16, if t.toNat * 128 + l.val < 8 * (i.val + 1) then
          (p (ix3 0 l ⟨8 * c.val + s.val, by omega⟩) : EReal) * Ideal.exp2 ((m (ix3 0 l ⟨8 * c.val + s.val, by omega⟩) : EReal) - (norm (ix2 0 ⟨8 * c.val + s.val, by omega⟩) : EReal))
        else 0 := by
  have e : (shapeCast S1x1x8x128 (chain addf (cell (tileOut i t norm p m))) (by decide) (ix4 0 0 s l) : EReal)
      = chain addf (cell (tileOut i t norm p m)) (ix2 s l) := by
    pointwise []
  rw [e, chain_add_at]
  refine Finset.sum_congr rfl fun c _ => ?_
  pointwise [cell, tileOut, keyBlock]
  have hc : (⟨c.val * 8 + s.val, by omega⟩ : Fin 128) = ⟨8 * c.val + s.val, by omega⟩ := Fin.ext (by show _ * 8 + _ = 8 * _ + _; omega)
  rw [hc]
  have hi := i.isLt
  have hl := l.isLt
  have e1 : (IntOp.addi (BitVec.ofNat 32 l.val) (Scalar.muli t 128#32)).toInt = ((t.toNat * 128 + l.val : Nat) : Int) := by
    have : IntOp.addi (BitVec.ofNat 32 l.val) (Scalar.muli t 128#32) = BitVec.ofNat 32 (t.toNat * 128 + l.val) := by
      apply BitVec.eq_of_toNat_eq
      show (BitVec.ofNat 32 l.val + t * 128#32).toNat = _
      rw [BitVec.toNat_add, BitVec.toNat_mul]
      simp
      omega
    rw [this, BitVec.toInt_ofNat', Int.bmod_eq_of_le] <;> omega
  have e2 : (Scalar.muli (Scalar.addi (idx32 i) 1#32) 8#32).toInt = ((8 * (i.val + 1) : Nat) : Int) := by
    have : Scalar.muli (Scalar.addi (idx32 i) 1#32) 8#32 = BitVec.ofNat 32 (8 * (i.val + 1)) := by
      apply BitVec.eq_of_toNat_eq
      show ((BitVec.ofNat 32 i.val + 1#32) * 8#32).toNat = _
      rw [BitVec.toNat_mul, BitVec.toNat_add]
      simp
      omega
    rw [this, BitVec.toInt_ofNat', Int.bmod_eq_of_le] <;> omega
  have e : IntOp.cmpi .slt (IntOp.addi (BitVec.ofNat 32 l.val) (Scalar.muli t 128#32)) (Scalar.muli (Scalar.addi (idx32 i) 1#32) 8#32)
      = BitVec.ofBool (decide (t.toNat * 128 + l.val < 8 * (i.val + 1))) := by
    show BitVec.ofBool (BitVec.slt _ _) = _
    congr 1
    unfold BitVec.slt
    rw [e1, e2]
    apply decide_eq_decide.2
    constructor <;> intro h <;> omega
  rw [e]
  by_cases h : t.toNat * 128 + l.val < 8 * (i.val + 1)
  · rw [if_pos h, decide_eq_true h]; rfl
  · rw [if_neg h, decide_eq_false h]; rfl

end K01
-- ==== Proof.Chunk.lean ====
/- The chunks: each group's scores, what is kept of them, and the running maxima and sums after each. -/
module

public import proofs.«01_k».proof.Proof.Vec
public import proofs.«01_k».proof.Proof.Sums

@[expose] public section

set_option maxRecDepth 16384

namespace K01

open Idealize.ShloMosaic Idealize.ShloMosaic.Pointwise Cmd

variable (K : Nat → Nat → BitVec 8) (Q : Nat → Nat → Nat → BitVec 8) (mu : Fin 4 → EReal) (i : Fin 128)

/-- The query row, within the tile, of a lane. -/
abbrev laneRow (l : Nat) : Nat := l % 8 * 16 + l / 8

/-- The score of key column `kc` and query row `r` of the tile, `-∞` where the key is after the query. -/
noncomputable def scoreAt (h : Fin 4) (kc r : Nat) : EReal :=
  if kc ≤ 128 * i.val + r then (∑ j : Fin 2048, val (K kc j.val) * val (Q h.val r j.val)) * mu h else ⊥

/-- The scores of cell `c` of group `ga`. -/
noncomputable def sc (h : Fin 4) (ga : Nat) (c : Fin 16) : FVec Ideal S8x128 .f32 :=
  fun y => scoreAt K Q mu i h (128 * ga + 16 * (y 0).val + c.val) (laneRow (y 1).val)

section Load

variable {qs : S2x4.Idx → Ideal .f32} {ks : S2x1.Idx → Ideal .f32}

theorem run_collect {α : Type} (f : Fin 16 → Cmd Ideal α) (v : Fin 16 → α) (s : St Ideal) (hf : ∀ p, run qs ks (f p) s = (v p, s)) :
    run qs ks (collect f) s = (v, s) := by
  unfold collect
  simp only [run_bind, hf]
  refine Prod.ext ?_ rfl
  funext p
  fin_cases p <;> rfl

/-- The codes of chunk `a`, by rows and contraction index. -/
noncomputable def kMat (x : S16x4096x128.Idx → BitVec 32) (a : BitVec 32) (ha : a.toNat < 32) : FVec Ideal S512x2048 .fp8e4m3 :=
  planes fun p => codes fun j => x ((kChunk p a ha).toLoadRect.idx j)

noncomputable def qMat (x : S16x128x128.Idx → BitVec 32) : FVec Ideal S512x2048 .fp8e4m3 :=
  planes fun p => codes fun j => x ((qPlane p).toLoadRect.idx j)

theorem run_loadK (a : BitVec 32) (ha : a.toNat < 32) (s : St Ideal) :
    run qs ks (loadK a ha) s = (kMat (s .kp) a ha, s) := by
  unfold loadK
  rw [run_bind, run_collect _ (fun p => codes fun j => s .kp ((kChunk p a ha).toLoadRect.idx j)) s fun p => rfl]
  rfl

theorem run_loadQ (s : St Ideal) : run qs ks (loadQ) s = (qMat (s .qp), s) := by
  unfold loadQ
  rw [run_bind, run_collect _ (fun p => codes fun j => s .qp ((qPlane p).toLoadRect.idx j)) s fun p => rfl]
  rfl

theorem kMat_at (x : S16x4096x128.Idx → BitVec 32) (a : BitVec 32) (ha : a.toNat < 32) (r : Fin 512) (j : Fin 2048) :
    kMat x a ha (ix2 r j)
      = val (byte (x (ix3 ⟨j.val / 128, by omega⟩ ⟨128 * a.toNat + r.val / 4, by omega⟩ ⟨j.val % 128, by omega⟩)) (r.val % 4)) := by
  unfold kMat
  rw [planes_at, codes_at]
  congr 3
  funext b
  apply Fin.ext
  have h : (Scalar.indexCast (Scalar.muli a 128#32)).toNat = a.toNat * 128 := by
    show (a * 128#32).toNat = _
    rw [BitVec.toNat_mul]; simp; omega
  fin_cases b
  · show j.val / 128 + 1 * 0 = j.val / 128; omega
  · show (Scalar.indexCast (Scalar.muli a 128#32)).toNat + 1 * (r.val / 4) = 128 * a.toNat + r.val / 4
    rw [h]; omega
  · show 0 + 1 * (j.val % 128) = j.val % 128; omega

theorem qMat_at (x : S16x128x128.Idx → BitVec 32) (r : Fin 512) (j : Fin 2048) :
    qMat x (ix2 r j)
      = val (byte (x (ix3 ⟨j.val / 128, by omega⟩ ⟨r.val / 4, by omega⟩ ⟨j.val % 128, by omega⟩)) (r.val % 4)) := by
  unfold qMat
  rw [planes_at, codes_at]
  congr 3
  funext b
  apply Fin.ext
  fin_cases b
  · show j.val / 128 + 1 * 0 = j.val / 128; omega
  · show 0 + 1 * (r.val / 4) = r.val / 4; omega
  · show 0 + 1 * (j.val % 128) = j.val % 128; omega

end Load

variable {K Q mu i}

/-- The products of a chunk's groups that are not after the point. -/
theorem score_dot {x : S16x4096x128.Idx → BitVec 32} {z : S16x128x128.Idx → BitVec 32} (hx : ∀ y, kGood K (i.val + 1) y (x y))
    (hz : ∀ y, qGood Q y (z y)) (a : BitVec 32) (ha : a.toNat < 32) (g h : Fin 4) (c : Fin 16) (s : Fin 8) (l : Fin 128)
    (hg : 4 * a.toNat + g.val ≤ i.val) :
    dots (kMat x a ha) (qMat z) (ix2 ⟨128 * g.val + 8 * c.val + s.val, by omega⟩ ⟨128 * h.val + l.val, by omega⟩)
      = ∑ j : Fin 2048, val (K (128 * (4 * a.toNat + g.val) + 16 * s.val + c.val) j.val) * val (Q h.val (laneRow l.val) j.val) := by
  rw [dots_at]
  refine Finset.sum_congr rfl fun j _ => ?_
  rw [kMat_at, qMat_at]
  have h1 := hx (ix3 ⟨j.val / 128, by omega⟩ ⟨128 * a.toNat + (128 * g.val + 8 * c.val + s.val) / 4, by omega⟩ ⟨j.val % 128, by omega⟩)
    (by show 128 * a.toNat + (128 * g.val + 8 * c.val + s.val) / 4 < 32 * (i.val + 1); omega) ⟨(128 * g.val + 8 * c.val + s.val) % 4, by omega⟩
  have h2 := hz (ix3 ⟨j.val / 128, by omega⟩ ⟨(128 * h.val + l.val) / 4, by omega⟩ ⟨j.val % 128, by omega⟩)
    ⟨(128 * h.val + l.val) % 4, by omega⟩
  refine congrArg₂ (fun a b => val a * val b) (h1.trans ?_) (h2.trans ?_)
  · show K (kCol (128 * a.toNat + (128 * g.val + 8 * c.val + s.val) / 4) ((128 * g.val + 8 * c.val + s.val) % 4)) (128 * (j.val / 128) + j.val % 128) = _
    have e1 : kCol (128 * a.toNat + (128 * g.val + 8 * c.val + s.val) / 4) ((128 * g.val + 8 * c.val + s.val) % 4)
        = 128 * (4 * a.toNat + g.val) + 16 * s.val + c.val := by unfold kCol; omega
    rw [e1, Nat.div_add_mod]
  · show Q ((128 * h.val + l.val) / 4 / 32) (qRow ((128 * h.val + l.val) / 4) ((128 * h.val + l.val) % 4)) (128 * (j.val / 128) + j.val % 128) = _
    have e1 : qRow ((128 * h.val + l.val) / 4) ((128 * h.val + l.val) % 4) = laneRow l.val := by
      show _ = l.val % 8 * 16 + l.val / 8
      unfold qRow; omega
    have e2 : (128 * h.val + l.val) / 4 / 32 = h.val := by omega
    rw [e1, e2, Nat.div_add_mod]

/-- A chunk below the diagonal: every score is visible. -/
theorem scores_keep {x : S16x4096x128.Idx → BitVec 32} {z : S16x128x128.Idx → BitVec 32} (hx : ∀ y, kGood K (i.val + 1) y (x y))
    (hz : ∀ y, qGood Q y (z y)) (a : BitVec 32) (ha : a.toNat < 32) (g h : Fin 4) (hg : 4 * a.toNat + g.val < i.val) :
    scores (F := Ideal) keep (mu h) (dots (kMat x a ha) (qMat z)) a g h = sc K Q mu i h (4 * a.toNat + g.val) := by
  funext c y
  obtain ⟨s, l, rfl⟩ : ∃ (s : Fin 8) (l : Fin 128), y = ix2 s l := ⟨y 0, y 1, eq_ix2 y⟩
  refine (cell_at _ g h c (mu h) s l).trans ?_
  rw [score_dot hx hz a ha g h c s l (by omega)]
  exact (if_pos (by show _ ≤ 128 * i.val + (l.val % 8 * 16 + l.val / 8); show 128 * _ + 16 * s.val + _ ≤ _; omega)).symm

/-- The last chunk: the mask decides. -/
theorem scores_causal {x : S16x4096x128.Idx → BitVec 32} {z : S16x128x128.Idx → BitVec 32} (hx : ∀ y, kGood K (i.val + 1) y (x y))
    (hz : ∀ y, qGood Q y (z y)) (a : BitVec 32) (ha : a.toNat < 32) (g h : Fin 4) :
    scores (F := Ideal) (causal i) (mu h) (dots (kMat x a ha) (qMat z)) a g h = sc K Q mu i h (4 * a.toNat + g.val) := by
  funext c y
  obtain ⟨s, l, rfl⟩ : ∃ (s : Fin 8) (l : Fin 128), y = ix2 s l := ⟨y 0, y 1, eq_ix2 y⟩
  unfold scores
  rw [groupNo_eq, causal_at i _ (by omega), cell_at]
  show _ = scoreAt K Q mu i h (128 * (4 * a.toNat + g.val) + 16 * s.val + c.val) (laneRow l.val)
  unfold scoreAt
  by_cases hv : 128 * (4 * a.toNat + g.val) + 16 * s.val + c.val ≤ 128 * i.val + laneRow l.val
  · rw [if_pos hv, if_pos hv, score_dot hx hz a ha g h c s l (by simp only [laneRow] at hv; omega)]
  · rw [if_neg hv, if_neg hv]

variable (K Q mu i)

/-- The arrays while the chunks run: the packed words, and what is kept of the first `d` pairs of a group and a head. -/
structure Kept (d : Nat) (s : St Ideal) : Prop where
  kp : ∀ y, kGood K (i.val + 1) y (s .kp y)
  qp : ∀ y, qGood Q y (s .qp y)
  p : ∀ (h : Fin 4) (ga : Nat) (hga : ga < 128) (t : Fin 8) (l : Fin 128), 4 * ga + h.val < d →
    (s .p (ix3 h ⟨8 * ga + t.val, by omega⟩ l) : EReal) = sumOf (sc K Q mu i h ga) (maxOf (sc K Q mu i h ga)) (ix2 t l)
  m : ∀ (h : Fin 4) (ga : Nat) (hga : ga < 128) (t : Fin 8) (l : Fin 128), 4 * ga + h.val < d →
    (s .m (ix3 h ⟨8 * ga + t.val, by omega⟩ l) : EReal) = maxOf (sc K Q mu i h ga) (ix2 t l)

/-- The carry after `N` groups. -/
noncomputable def crAt (N : Nat) : Carry Ideal :=
  (cM (sc K Q mu i 0) N, cL (sc K Q mu i 0) N, cM (sc K Q mu i 1) N, cL (sc K Q mu i 1) N,
    cM (sc K Q mu i 2) N, cL (sc K Q mu i 2) N, cM (sc K Q mu i 3) N, cL (sc K Q mu i 3) N)

variable {K Q mu i}
variable {qs : S2x4.Idx → Ideal .f32} {ks : S2x1.Idx → Ideal .f32}

theorem gRect_emb (a : BitVec 32) (ha : a.toNat < 32) (g h : Fin 4) (j : S1x8x128.Idx) :
    ((gRect a ha g h).emb j 0).val = h.val ∧ ((gRect a ha g h).emb j 1).val = 8 * (4 * a.toNat + g.val) + (j 1).val
      ∧ ((gRect a ha g h).emb j 2).val = (j 2).val := by
  have h0 : (j 0).val = 0 := by have := (j 0).isLt; change _ < 1 at this; omega
  have h1 : (Scalar.indexCast (Scalar.muli (groupNo a g) 8#32)).toNat = (a.toNat * 4 + g.val) * 8 := by
    show ((a * 4#32 + BitVec.ofNat 32 g.val) * 8#32).toNat = _
    rw [BitVec.toNat_mul, BitVec.toNat_add, BitVec.toNat_mul]; simp; omega
  refine ⟨?_, ?_, ?_⟩
  · show h.val + 1 * (j 0).val = _; omega
  · show (Scalar.indexCast (Scalar.muli (groupNo a g) 8#32)).toNat + 1 * (j 1).val = _; rw [h1]; omega
  · show 0 + 1 * (j 2).val = _; omega

/-- A group's rows, written. -/
theorem put_gRect (x : S4x1024x128.Idx → EReal) (a : BitVec 32) (ha : a.toNat < 32) (g h : Fin 4) (w : S8x128.Idx → EReal)
    (h' : Fin 4) (ga : Nat) (hga : ga < 128) (t : Fin 8) (l : Fin 128) :
    put x (gRect a ha g h) (lead w) (ix3 h' ⟨8 * ga + t.val, by omega⟩ l)
      = if h' = h ∧ ga = 4 * a.toNat + g.val then w (ix2 t l) else x (ix3 h' ⟨8 * ga + t.val, by omega⟩ l) := by
  by_cases hc : h' = h ∧ ga = 4 * a.toNat + g.val
  · rw [if_pos hc]
    obtain ⟨rfl, rfl⟩ := hc
    have e : (gRect a ha g h').emb (ix3 0 t l) = ix3 h' ⟨8 * (4 * a.toNat + g.val) + t.val, by omega⟩ l := by
      obtain ⟨e0, e1, e2⟩ := gRect_emb a ha g h' (ix3 0 t l)
      funext b
      apply Fin.ext
      fin_cases b
      exacts [e0, e1, e2]
    refine (congrArg _ e.symm).trans ((put_emb x (gRect a ha g h') (lead w) (ix3 0 t l)).trans ?_)
    exact lead_apply w (ix3 0 t l)
  · rw [if_neg hc]
    refine put_not _ _ _ _ fun j e => hc ?_
    obtain ⟨e0, e1, e2⟩ := gRect_emb a ha g h j
    rw [e] at e0 e1
    have j1 : (j 1).val < 8 := (j 1).isLt
    have e0' : h'.val = h.val := e0
    have e1' : 8 * ga + t.val = 8 * (4 * a.toNat + g.val) + (j 1).val := e1
    exact ⟨Fin.ext e0', by omega⟩

attribute [local irreducible] sumOf maxOf

/-- One head's step. -/
theorem run_headStep (a : BitVec 32) (ha : a.toNat < 32) (g h : Fin 4) (sv : Fin 16 → FVec Ideal S8x128 .f32)
    (mv lv : FVec Ideal S8x128 .f32) (s : St Ideal) :
    ∃ s' : St Ideal, run qs ks (headStep a ha g h sv mv lv) s = ((nextM mv (maxOf sv), nextL mv lv (maxOf sv) (sumOf sv (maxOf sv))), s')
      ∧ s' .p = put (s .p) (gRect a ha g h) (lead (sumOf sv (maxOf sv))) ∧ s' .m = put (s .m) (gRect a ha g h) (lead (maxOf sv))
      ∧ s' .kp = s .kp ∧ s' .qp = s .qp := by
  refine ⟨Function.update (Function.update s .p (put (s .p) (gRect a ha g h) (lead (sumOf sv (maxOf sv))))) .m
        (put (s .m) (gRect a ha g h) (lead (maxOf sv))), ?_, ?_, ?_, ?_, ?_⟩
  · unfold headStep
    rw [run_bind, run_bind]
    rfl
  · rw [Function.update_of_ne (by decide), Function.update_self]
  · rw [Function.update_self]
  · rw [Function.update_of_ne (by decide), Function.update_of_ne (by decide)]
  · rw [Function.update_of_ne (by decide), Function.update_of_ne (by decide)]

theorem headStep_run (a : BitVec 32) (ha : a.toNat < 32) (g h : Fin 4) (N d : Nat) (hN : N = 4 * a.toNat + g.val) (hd : d = 4 * N + h.val)
    (s : St Ideal) (hs : Kept K Q mu i d s) (sv : Fin 16 → FVec Ideal S8x128 .f32) (hsv : sv = sc K Q mu i h N)
    (mv lv : FVec Ideal S8x128 .f32) (hm : mv = cM (sc K Q mu i h) N) (hl : lv = cL (sc K Q mu i h) N) :
    ∃ s', run qs ks (headStep a ha g h sv mv lv) s = ((cM (sc K Q mu i h) (N + 1), cL (sc K Q mu i h) (N + 1)), s')
      ∧ Kept K Q mu i (d + 1) s' := by
  subst hsv hm hl
  obtain ⟨s', e, ep, em, ek, eq⟩ := run_headStep (qs := qs) (ks := ks) a ha g h (sc K Q mu i h N) (cM (sc K Q mu i h) N) (cL (sc K Q mu i h) N) s
  refine ⟨s', e, ?_, ?_, ?_, ?_⟩
  · rw [ek]; exact hs.kp
  · rw [eq]; exact hs.qp
  · intro h' ga hga t l hlt
    refine (congrFun ep _).trans ((put_gRect (s .p) a ha g h (sumOf (sc K Q mu i h N) (maxOf (sc K Q mu i h N))) h' ga hga t l).trans ?_)
    by_cases hc : h' = h ∧ ga = 4 * a.toNat + g.val
    · exact (if_pos hc).trans (by rw [hc.1, hc.2, hN])
    · refine (if_neg hc).trans ?_
      refine hs.p h' ga hga t l ?_
      by_contra hn
      exact hc ⟨Fin.ext (by omega), by omega⟩
  · intro h' ga hga t l hlt
    refine (congrFun em _).trans ((put_gRect (s .m) a ha g h (maxOf (sc K Q mu i h N)) h' ga hga t l).trans ?_)
    by_cases hc : h' = h ∧ ga = 4 * a.toNat + g.val
    · exact (if_pos hc).trans (by rw [hc.1, hc.2, hN])
    · refine (if_neg hc).trans ?_
      refine hs.m h' ga hga t l ?_
      by_contra hn
      exact hc ⟨Fin.ext (by omega), by omega⟩

/-- One chunk. -/
theorem chunk_run (msk : BitVec 32 → Fin 16 → FVec Ideal S8x128 .f32 → FVec Ideal S8x128 .f32) (a : BitVec 32) (ha : a.toNat < 32)
    (s : St Ideal) (hs : Kept K Q mu i (16 * a.toNat) s) (mu' : Fin 4 → Ideal .f32)
    (hm : ∀ g h, scores (F := Ideal) msk (mu' h) (dots (kMat (s .kp) a ha) (qMat (s .qp))) a g h = sc K Q mu i h (4 * a.toNat + g.val))
    (cr : Carry Ideal) (hcr : cr = crAt K Q mu i (4 * a.toNat)) :
    ∃ s', run qs ks (chunk (F := Ideal) msk mu' a ha cr) s = (crAt K Q mu i (4 * (a.toNat + 1)), s') ∧ Kept K Q mu i (16 * (a.toNat + 1)) s' := by
  subst hcr
  have step : ∀ (g : Fin 4) (N : Nat), N = 4 * a.toNat + g.val → ∀ (s1 : St Ideal), Kept K Q mu i (4 * N) s1 → ∃ s2,
      run qs ks ((fun (g : Fin 4) (cr : Carry Ideal) =>
      (headStep a ha g 0 (scores msk (mu' 0) (dots (kMat (s .kp) a ha) (qMat (s .qp))) a g 0) cr.1 cr.2.1).bind fun r0 =>
      (headStep a ha g 1 (scores msk (mu' 1) (dots (kMat (s .kp) a ha) (qMat (s .qp))) a g 1) cr.2.2.1 cr.2.2.2.1).bind fun r1 =>
      (headStep a ha g 2 (scores msk (mu' 2) (dots (kMat (s .kp) a ha) (qMat (s .qp))) a g 2) cr.2.2.2.2.1 cr.2.2.2.2.2.1).bind fun r2 =>
      (headStep a ha g 3 (scores msk (mu' 3) (dots (kMat (s .kp) a ha) (qMat (s .qp))) a g 3) cr.2.2.2.2.2.2.1 cr.2.2.2.2.2.2.2).bind fun r3 =>
      .ret (r0.1, r0.2, r1.1, r1.2, r2.1, r2.2, r3.1, r3.2)) g (crAt K Q mu i N)) s1 = (crAt K Q mu i (N + 1), s2)
        ∧ Kept K Q mu i (4 * (N + 1)) s2 := by
    intro g N hN s1 h1
    obtain ⟨s2, e2, h2⟩ := headStep_run (qs := qs) (ks := ks) a ha g 0 N (4 * N) hN (by simp) s1 h1 _ ((hm g 0).trans (by rw [hN])) (crAt K Q mu i N).1 (crAt K Q mu i N).2.1 rfl rfl
    obtain ⟨s3, e3, h3⟩ := headStep_run (qs := qs) (ks := ks) a ha g 1 N (4 * N + 1) hN (by simp) s2 h2 _ ((hm g 1).trans (by rw [hN])) (crAt K Q mu i N).2.2.1 (crAt K Q mu i N).2.2.2.1 rfl rfl
    obtain ⟨s4, e4, h4⟩ := headStep_run (qs := qs) (ks := ks) a ha g 2 N (4 * N + 2) hN (by simp) s3 h3 _ ((hm g 2).trans (by rw [hN])) (crAt K Q mu i N).2.2.2.2.1 (crAt K Q mu i N).2.2.2.2.2.1 rfl rfl
    obtain ⟨s5, e5, h5⟩ := headStep_run (qs := qs) (ks := ks) a ha g 3 N (4 * N + 3) hN (by simp) s4 h4 _ ((hm g 3).trans (by rw [hN])) (crAt K Q mu i N).2.2.2.2.2.2.1 (crAt K Q mu i N).2.2.2.2.2.2.2 rfl rfl
    refine ⟨s5, ?_, h5⟩
    simp only [run_bind, e2, e3, e4, e5]
    rfl
  obtain ⟨s1, e1, h1⟩ := step 0 (4 * a.toNat) rfl s (by convert hs using 1; omega)
  obtain ⟨s2, e2, h2⟩ := step 1 (4 * a.toNat + 1) rfl s1 h1
  obtain ⟨s3, e3, h3⟩ := step 2 (4 * a.toNat + 1 + 1) rfl s2 h2
  obtain ⟨s4, e4, h4⟩ := step 3 (4 * a.toNat + 1 + 1 + 1) rfl s3 h3
  refine ⟨s4, ?_, by convert h4 using 1; omega⟩
  unfold chunk
  rw [run_bind, run_loadK, run_bind, run_loadQ, run_each_cons, e1, run_each_cons, e2, run_each_cons, e3, run_each_cons, e4, run_each_nil]
  rfl

theorem fold_finRange {β : Type*} (n : Nat) (P : Nat → β → Prop) (f : β → Fin n → β) (b : β) (h0 : P 0 b)
    (hk : ∀ (t : Fin n) b, P t.val b → P (t.val + 1) (f b t)) : P n ((List.finRange n).foldl f b) := by
  induction n with
  | zero => exact h0
  | succ n ih =>
    rw [List.finRange_succ_last, List.foldl_append, List.foldl_map]
    exact hk (Fin.last n) _ (ih (fun b t => f b t.castSucc) fun t b hb => hk t.castSucc b hb)

/-- A loop with an invariant. -/
theorem run_loop {α σ : Type} {l : Scf.Loop 32} {ok : l.OK} {init : σ} {b : Fin l.trips → σ → Cmd Ideal σ} {k : σ → Cmd Ideal α} {s : St Ideal}
    (P : Nat → σ → St Ideal → Prop) (h0 : P 0 init s)
    (hk : ∀ (t : Fin l.trips) v u, P t.val v u → P (t.val + 1) (run qs ks (b t v) u).1 (run qs ks (b t v) u).2) :
    ∃ v u, P l.trips v u ∧ run qs ks (.loop l ok init b k) s = run qs ks (k v) u :=
  ⟨_, _, fold_finRange l.trips (fun n (x : σ × St Ideal) => P n x.1 x.2) (fun x t => run qs ks (b t x.1) x.2) (init, s) h0
    fun t x hx => hk t x.1 x.2 hx, rfl⟩

/-- Every chunk. -/
theorem chunks_run (mu' : Fin 4 → Ideal .f32) (hmu : ∀ h, mu' h = mu h) (s : St Ideal) (hs : Kept K Q mu i 0 s) :
    ∃ s', run qs ks (chunks (F := Ideal) i mu') s = (crAt K Q mu i (4 * (i.val / 4 + 1)), s') ∧ Kept K Q mu i (16 * (i.val / 4 + 1)) s' := by
  obtain rfl : mu' = mu := funext hmu
  unfold chunks
  obtain ⟨v, u, ⟨h1, h2⟩, e⟩ := run_loop (qs := qs) (ks := ks) (s := s) (ok := mainFull_ok i) (l := mainLoop (nFull i))
    (b := fun t cr => chunk keep mu' (Scf.iv 0#32 1#32 t.val) (mainFull_iv i t) cr)
    (k := fun cr => .loop (restLoop (nFull i)) (restFull_ok i) cr
      (fun t cr => chunk keep mu' (Scf.iv (restLoop (nFull i)).lb 1#32 t.val) (restFull_none i t).elim cr) fun cr =>
      chunk (causal i) mu' (nFull i) (by rw [nFull_toNat]; omega) cr)
    (init := ((floorV, zeroV, floorV, zeroV, floorV, zeroV, floorV, zeroV) : Carry Ideal))
    (fun n cr st => cr = crAt K Q mu' i (4 * n) ∧ Kept K Q mu' i (16 * n) st) ⟨rfl, hs⟩ (by
      intro t v u hx
      have ht : t.val < i.val / 4 := t.isLt.trans_eq (mainFull_trips i)
      have hiv : (Scf.iv 0#32 1#32 t.val).toNat = t.val := by
        show (0#32 + BitVec.ofNat 32 t.val * 1#32).toNat = _
        rw [BitVec.toNat_add, BitVec.toNat_mul]; simp; omega
      obtain ⟨s', e, h⟩ := chunk_run (qs := qs) (ks := ks) keep (Scf.iv 0#32 1#32 t.val) (mainFull_iv i t) u (by rw [hiv]; exact hx.2) mu'
        (fun g h => scores_keep hx.2.kp hx.2.qp _ _ g h (by rw [hiv]; omega)) v (by rw [hiv]; exact hx.1)
      rw [hiv] at h e
      exact ⟨congrArg Prod.fst e, by rw [e]; exact h⟩)
  rw [mainFull_trips] at h1 h2
  obtain ⟨v', u', ⟨h3, h4⟩, e'⟩ := run_loop (qs := qs) (ks := ks) (s := u) (ok := restFull_ok i) (l := restLoop (nFull i))
    (b := fun t cr => chunk keep mu' (Scf.iv (restLoop (nFull i)).lb 1#32 t.val) (restFull_none i t).elim cr)
    (k := fun cr => chunk (causal i) mu' (nFull i) (by rw [nFull_toNat]; omega) cr) (init := v)
    (fun _ cr st => cr = crAt K Q mu' i (4 * (i.val / 4)) ∧ Kept K Q mu' i (16 * (i.val / 4)) st) ⟨h1, h2⟩ (fun t => (restFull_none i t).elim)
  have hn := nFull_toNat i
  obtain ⟨s', e2, h⟩ := chunk_run (qs := qs) (ks := ks) (causal i) (nFull i) (by rw [nFull_toNat]; omega) u' (by rw [hn]; exact h4) mu'
    (fun g h => scores_causal h4.kp h4.qp _ _ g h) v' (by rw [hn]; exact h3)
  rw [hn] at h
  exact ⟨s', (e.trans e').trans (e2.trans (by rw [hn])), h⟩

end K01
-- ==== Proof.Results.lean ====
/- What the last part of the body leaves in the two result arrays, from the norms and what was kept of each group. -/
module

public import proofs.«01_k».proof.Proof.Run
public import proofs.«01_k».proof.Proof.Vec
public import proofs.«01_k».proof.Proof.Sums

@[expose] public section

set_option maxRecDepth 16384

namespace K01

open Idealize.ShloMosaic Idealize.ShloMosaic.Pointwise Cmd

variable {qs : S2x4.Idx → Ideal .f32} {ks : S2x1.Idx → Ideal .f32} (i : Fin 128)

local notation "l2e" => (((Real.log 2)⁻¹ : ℝ) : EReal)
local notation "ln2" => ((Real.log 2 : ℝ) : EReal)

theorem head4 (b : Fin 4) : b ∈ ([0, 1, 2, 3] : List (Fin 4)) := by revert b; decide

/-- A row result. -/
noncomputable def lseVal (ν : Fin 4 → Fin 128 → ℝ) (h : Fin 4) (j : Fin 128) : EReal :=
  ((ν h ⟨j.val % 16 * 8 + j.val / 16, by omega⟩ * Real.log 2 - Real.log ((128 * i.val + j.val : Nat) + 1) : ℝ) : EReal)

theorem lRect_emb (a : Fin 4) (k : Fin 128) : (lRect a).emb (ix3 0 0 k) = ix3 0 a k := by
  funext b; apply Fin.ext; fin_cases b
  · rfl
  · exact (by omega : a.val + 1 * 0 = a.val)
  · exact (by omega : 0 + 1 * k.val = k.val)

/-- The row results. -/
theorem results_lse (cr : Carry Ideal) (ν : Fin 4 → Fin 128 → ℝ) (hν : ∀ h q, (norms l2e cr h (ix2 0 q) : EReal) = ν h q)
    (s : St Ideal) (h : Fin 4) (j : Fin 128) :
    ((run qs ks (results (F := Ideal) l2e ln2 i cr) s).2 .lse (ix3 0 h j) : EReal) = lseVal i ν h j := by
  have h1 : Sets (F := Ideal) qs ks (fun _ => True) .lse
      (fun (y : S1x4x128.Idx) (w : EReal) => w = lseVal i ν (y 1) (y 2))
      (forE [0, 1, 2, 3] fun h : Fin 4 => setL h (rowOut ln2 i (norms l2e cr h)))
      (fun y : S1x4x128.Idx => ∃ a ∈ ([0, 1, 2, 3] : List (Fin 4)), ∃ j, (lRect a).emb j = y) := by
    refine Sets.forE (fun a => ?_) _
    refine Sets.ld fun s' _ => Sets.st (fun _ _ _ => trivial) fun (j : S1x1x128.Idx) => ?_
    obtain ⟨k, rfl⟩ : ∃ k : Fin 128, j = ix3 0 0 k := by
      refine ⟨j 2, (eq_ix3 j).trans ?_⟩
      rw [Subsingleton.elim (α := Fin 1) (j 0) 0, Subsingleton.elim (α := Fin 1) (j 1) 0]
    refine (rowOut_at i (norms l2e cr a) k _ (hν a _)).trans ?_
    exact (congrArg (fun y : S1x4x128.Idx => lseVal i ν (y 1) (y 2)) (lRect_emb a k)).symm
  unfold results
  rw [run_bind]
  have h2 := (h1 s trivial).2 (ix3 0 h j) (.inl ⟨h, head4 h, ix3 0 0 j, lRect_emb h j⟩)
  refine (congrFun (run_keeps (fun b => b = .blk) qs ks (zeroB.bind fun _ => tiles i (norms l2e cr)) .lse (by decide) _ ?_) _).trans h2
  exact writes_bind _ _ _ (fun _ => ⟨rfl, trivial⟩) fun _ => writes_tiles _ _

/-- A block result. -/
noncomputable def blkVal (nm : Fin 4 → FVec Ideal S1x128 .f32) (p m : S4x1024x128.Idx → EReal) (h : Fin 4) (s : Fin 8) (kb : Fin 1024) : EReal :=
  if kb.val < 8 * (i.val + 1) then
    ∑ c : Fin 16, p (ix3 h kb ⟨8 * c.val + s.val, by omega⟩) * Ideal.exp2 (m (ix3 h kb ⟨8 * c.val + s.val, by omega⟩) - (nm h (ix2 0 ⟨8 * c.val + s.val, by omega⟩) : EReal))
  else 0

theorem tile_toNat (t : BitVec 32) (ht : t.toNat < 8) : (Scalar.indexCast (Scalar.muli t 128#32)).toNat = t.toNat * 128 := by
  show (t * 128#32).toNat = _
  rw [BitVec.toNat_mul]; simp; omega

theorem bRect_emb (t : BitVec 32) (ht : t.toNat < 8) (h : Fin 4) (s : Fin 8) (l : Fin 128) :
    (bRect t ht h).emb (ix4 0 0 s l) = ix4 0 h s ⟨t.toNat * 128 + l.val, by omega⟩ := by
  funext b
  apply Fin.ext
  fin_cases b
  · rfl
  · exact (by omega : h.val + 1 * 0 = h.val)
  · exact (by omega : 0 + 1 * s.val = s.val)
  · show (Scalar.indexCast (Scalar.muli t 128#32)).toNat + 1 * l.val = _; rw [tile_toNat t ht]; exact (by omega : t.toNat * 128 + 1 * l.val = t.toNat * 128 + l.val)

theorem tRect_idx (t : BitVec 32) (ht : t.toNat < 8) (h : Fin 4) (l : Fin 128) (q : Fin 128) :
    (tRect t ht h).toLoadRect.idx (ix3 0 l q) = ix3 h ⟨t.toNat * 128 + l.val, by omega⟩ q := by
  funext b
  apply Fin.ext
  fin_cases b
  · exact (by omega : h.val + 1 * 0 = h.val)
  · show (Scalar.indexCast (Scalar.muli t 128#32)).toNat + 1 * l.val = _; rw [tile_toNat t ht]; exact (by omega : t.toNat * 128 + 1 * l.val = t.toNat * 128 + l.val)
  · exact (by omega : 0 + 1 * q.val = q.val)

variable (nm : Fin 4 → FVec Ideal S1x128 .f32) (p m : S4x1024x128.Idx → EReal)

/-- Good contents of the block results. -/
def bGood (y : S1x4x8x1024.Idx) (w : EReal) : Prop := w = blkVal i nm p m (y 1) (y 2) (y 3)

theorem tileHead_sets (t : BitVec 32) (ht : t.toNat < 8) (h : Fin 4) :
    Sets (F := Ideal) qs ks (fun s => s .p = p ∧ s .m = m) .blk (bGood i nm p m) (tileHead (F := Ideal) i t ht h (nm h))
      (fun y : S1x4x8x1024.Idx => ∃ (s : Fin 8) (l : Fin 128), y = ix4 0 h s ⟨t.toNat * 128 + l.val, by omega⟩) := by
  unfold tileHead
  refine Sets.mono (n := .blk) (C := fun y => ∃ j, (bRect t ht h).emb j = y) ?_ (by rintro y ⟨s, l, rfl⟩; exact ⟨_, bRect_emb t ht h s l⟩)
  refine Sets.ldEq (fun j => p ((tRect t ht h).toLoadRect.idx j)) (fun s hs => by rw [hs.1]; rfl) ?_
  refine Sets.ldEq (fun j => m ((tRect t ht h).toLoadRect.idx j)) (fun s hs => by rw [hs.2]; rfl) ?_
  refine Sets.ld fun s' _ => Sets.st (fun s v hs => ?_) fun (j : S1x1x8x128.Idx) => ?_
  · exact ⟨by rw [Function.update_of_ne (by decide)]; exact hs.1, by rw [Function.update_of_ne (by decide)]; exact hs.2⟩
  obtain ⟨s, l, rfl⟩ : ∃ (s : Fin 8) (l : Fin 128), j = ix4 0 0 s l := by
    refine ⟨j 2, j 3, (eq_ix4 j).trans ?_⟩
    rw [Subsingleton.elim (α := Fin 1) (j 0) 0, Subsingleton.elim (α := Fin 1) (j 1) 0]
  refine (tileOut_at i t ht _ _ _ s l).trans ?_
  refine Eq.trans ?_ (congrArg (fun y : S1x4x8x1024.Idx => blkVal i nm p m (y 1) (y 2) (y 3)) (bRect_emb t ht h s l)).symm
  show _ = blkVal i nm p m h s ⟨t.toNat * 128 + l.val, by omega⟩
  unfold blkVal
  by_cases hk : t.toNat * 128 + l.val < 8 * (i.val + 1)
  · simp only [if_pos hk, tRect_idx]
  · simp only [if_neg hk, Finset.sum_const_zero]

theorem tiles_sets :
    Sets (F := Ideal) qs ks (fun s => s .p = p ∧ s .m = m) .blk (bGood i nm p m) (tiles (F := Ideal) i nm)
      (fun y : S1x4x8x1024.Idx => (y 3).val < 8 * (i.val + 1)) := by
  unfold tiles
  refine Sets.mono (Sets.loop (l := mainLoop (nTiles i)) (n := .blk)
      (C := fun t (y : S1x4x8x1024.Idx) => ∃ h s, ∃ l : Fin 128, y = ix4 0 h s ⟨t.val * 128 + l.val, by
        have := t.isLt.trans_eq (mainTiles_trips i); omega⟩) (fun t v => ?_) fun v =>
    Sets.loop (C := fun _ _ => False) (fun t v => (restTiles_none i t).elim) fun v => Sets.ret _) ?_
  · have ht : (Scf.iv 0#32 1#32 t.val).toNat = t.val := by
      have := t.isLt.trans_eq (mainTiles_trips i)
      show (0#32 + BitVec.ofNat 32 t.val * 1#32).toNat = _
      rw [BitVec.toNat_add, BitVec.toNat_mul]; simp; omega
    refine ((Sets.forE (fun h => tileHead_sets i nm p m _ (mainTiles_iv i t) h) _).bind fun _ => Sets.ret _).mono ?_
    rintro y ⟨h, s, l, rfl⟩
    exact .inl ⟨h, head4 h, s, l, by simp only [ht]⟩
  · intro (y : S1x4x8x1024.Idx) hy
    have h3 : (y 3).val < 1024 := (y 3).isLt
    refine .inl ⟨⟨(y 3).val / 128, by rw [mainTiles_trips]; omega⟩, y 1, y 2, ⟨(y 3).val % 128, by omega⟩, ?_⟩
    refine (eq_ix4 y).trans ?_
    rw [Subsingleton.elim (α := Fin 1) (y 0) 0]
    congr 1
    exact Fin.ext (by show (y 3).val = (y 3).val / 128 * 128 + (y 3).val % 128; omega)

/-- The block results. -/
theorem results_blk (cr : Carry Ideal) (s : St Ideal) (h : Fin 4) (t : Fin 8) (kb : Fin 1024) :
    ((run qs ks (results (F := Ideal) l2e ln2 i cr) s).2 .blk (ix4 0 h t kb) : EReal)
      = blkVal i (norms l2e cr) (s .p) (s .m) h t kb := by
  unfold results
  rw [run_bind, run_bind]
  have hw : writes (F := Ideal) (fun b => b = .lse) (forE [0, 1, 2, 3] fun h : Fin 4 => setL h (rowOut ln2 i (norms l2e cr h))) :=
    writes_forE _ _ _ fun _ _ => ⟨rfl, trivial⟩
  have hw2 : writes (F := Ideal) (fun b => b = .blk) (zeroB (F := Ideal)) := fun _ => ⟨rfl, trivial⟩
  have e1 := run_keeps (fun b => b = .lse) qs ks _ .p (by decide) s hw
  have e2 := run_keeps (fun b => b = .lse) qs ks _ .m (by decide) s hw
  generalize (run qs ks (forE [0, 1, 2, 3] fun h : Fin 4 => setL h (rowOut ln2 i (norms l2e cr h))) s).2 = s1 at *
  have e3 := run_keeps (fun b => b = .blk) qs ks _ .p (by decide) s1 hw2
  have e4 := run_keeps (fun b => b = .blk) qs ks _ .m (by decide) s1 hw2
  have hz : ∀ y : S1x4x8x1024.Idx, ((run qs ks (zeroB (F := Ideal)) s1).2 .blk y : EReal) = (0 : EReal) := by
    intro y
    have e : (run qs ks (zeroB (F := Ideal)) s1).2 .blk
        = put (s1 .blk) bWhole (broadcast S1x4x8x1024 (Scalar.ofBits (F := Ideal) .f32 0x00000000#32)) := by
      exact Function.update_self (β := fun b : Nm => b.shp.Idx → Elt Ideal b.elt) .blk _ s1
    have ey : bWhole.emb y = y := by
      funext b; apply Fin.ext
      fin_cases b
      · exact (by omega : 0 + 1 * (y 0).val = (y 0).val)
      · exact (by omega : 0 + 1 * (y 1).val = (y 1).val)
      · exact (by omega : 0 + 1 * (y 2).val = (y 2).val)
      · exact (by omega : 0 + 1 * (y 3).val = (y 3).val)
    have e5 : Ideal.ofBits .f32 0x00000000#32 = 0 := by simp [Ideal.ofBits, Ideal.ieee]
    refine ((congrFun e y).trans (congrArg _ ey.symm)).trans ((put_emb _ bWhole _ y).trans e5)
  have h1 := (tiles_sets (qs := qs) (ks := ks) i (norms l2e cr) (s .p) (s .m) (run qs ks (zeroB (F := Ideal)) s1).2
    ⟨e3.trans e1, e4.trans e2⟩).2 (ix4 0 h t kb) ?_
  · exact h1
  · by_cases hk : kb.val < 8 * (i.val + 1)
    · exact .inl hk
    · exact .inr ((hz _).trans (if_neg hk).symm)

end K01
-- ==== Proof.BodyValue.lean ====
/- What the body computes at one point, in closed form: softmax sums over the keys up to each query. -/
module

public import proofs.«01_k».proof.Proof.Pack
public import proofs.«01_k».proof.Proof.Chunk
public import proofs.«01_k».proof.Proof.Results

@[expose] public section

set_option maxRecDepth 16384

namespace K01

open Idealize.ShloMosaic Idealize.ShloMosaic.Pointwise Cmd

local notation "l2e" => (((Real.log 2)⁻¹ : ℝ) : EReal)
local notation "ln2" => ((Real.log 2 : ℝ) : EReal)

/-- The exponential of the score `X kc r` of key `kc` and query `r` of group `i`, zero where the key is after the query. -/
noncomputable def expAt (X : Nat → Nat → ℝ) (i kc r : Nat) : ℝ := if kc ≤ 128 * i + r then Real.exp (X kc r) else 0

/-- The sum over a block of sixteen keys. -/
noncomputable def blkSum (X : Nat → Nat → ℝ) (i kb r : Nat) : ℝ := ∑ c ∈ Finset.range 16, expAt X i (16 * kb + c) r

/-- The sum over all keys. -/
noncomputable def rowSum (X : Nat → Nat → ℝ) (i r : Nat) : ℝ := ∑ kc ∈ Finset.range 16384, expAt X i kc r

/-- A sum over a product range, by rows. -/
theorem sum_range_rows (f : Nat → ℝ) (a b : Nat) : ∑ k ∈ Finset.range (a * b), f k = ∑ x ∈ Finset.range a, ∑ y ∈ Finset.range b, f (b * x + y) := by
  induction a with
  | zero => simp
  | succ a ih =>
    rw [Nat.succ_mul, Finset.sum_range_add, ih, Finset.sum_range_succ]
    congr 1
    exact Finset.sum_congr rfl fun y _ => by rw [Nat.mul_comm]

theorem expAt_nonneg (X : Nat → Nat → ℝ) (i kc r : Nat) : 0 ≤ expAt X i kc r := by
  unfold expAt; split_ifs
  · exact (Real.exp_pos _).le
  · exact le_rfl

theorem rowSum_pos (X : Nat → Nat → ℝ) (i r : Nat) : 0 < rowSum X i r := by
  refine Finset.sum_pos' (fun kc _ => expAt_nonneg X i kc r) ⟨0, by simp, ?_⟩
  unfold expAt
  rw [if_pos (Nat.zero_le _)]
  exact Real.exp_pos _

theorem rowSum_blocks (X : Nat → Nat → ℝ) (i r : Nat) : rowSum X i r = ∑ kb ∈ Finset.range 1024, blkSum X i kb r :=
  sum_range_rows _ 1024 16

theorem blkSum_zero (X : Nat → Nat → ℝ) (i kb r : Nat) (h : 128 * i + r < 16 * kb) : blkSum X i kb r = 0 :=
  Finset.sum_eq_zero fun c _ => if_neg (by omega)

/-- The row's sum, from the groups that matter. -/
theorem rowSum_groups (X : Nat → Nat → ℝ) (i r G : Nat) (hr : r < 128) (hG : i < G) (hG' : G ≤ 128) :
    rowSum X i r = ∑ s : Fin 8, ∑ ga ∈ Finset.range G, blkSum X i (8 * ga + s.val) r := by
  rw [rowSum_blocks, show (1024 : Nat) = 128 * 8 from rfl, sum_range_rows, Finset.sum_comm (s := Finset.univ),
    ← Finset.sum_subset (Finset.range_mono hG')]
  · exact Finset.sum_congr rfl fun ga _ => Finset.sum_range _
  · intro ga _ hga
    refine Finset.sum_eq_zero fun s _ => blkSum_zero X i _ r ?_
    have := Finset.mem_range.not.1 hga
    omega

section Point

variable {K : Nat → Nat → BitVec 8} {Q : Nat → Nat → Nat → BitVec 8} {mu : Fin 4 → EReal} {i : Fin 128} {X : Fin 4 → Nat → Nat → ℝ}
  (hX : ∀ h kc r, (∑ j : Fin 2048, val (K kc j.val) * val (Q h.val r j.val)) * mu h = (X h kc r : EReal) * l2e)

include hX

theorem scoreAt_ne_top (h : Fin 4) (kc r : Nat) : scoreAt K Q mu i h kc r ≠ ⊤ := by
  unfold scoreAt
  split_ifs
  · rw [hX, ← EReal.coe_mul]; exact EReal.coe_ne_top _
  · exact bot_ne_top

theorem e2_scoreAt (h : Fin 4) (kc r : Nat) : e2 (scoreAt K Q mu i h kc r) = expAt (X h) i.val kc r := by
  unfold scoreAt expAt
  split_ifs
  · rw [hX]; exact e2_mul_log2e _
  · exact e2_bot

theorem wt_sc (h : Fin 4) (ga : Nat) (s : Fin 8) (l : Fin 128) :
    wt (sc K Q mu i h ga) (ix2 s l) = blkSum (X h) i.val (8 * ga + s.val) (laneRow l.val) := by
  unfold wt blkSum
  rw [Finset.sum_range]
  refine Finset.sum_congr rfl fun c _ => ?_
  refine (e2_scoreAt hX h _ _).trans ?_
  congr 1
  show 128 * ga + 16 * s.val + c.val = _
  omega

/-- The norms are the logarithms of the rows' sums. -/
theorem norm_at (h : Fin 4) (q : Fin 128) :
    (rowNorm l2e (cM (sc K Q mu i h) (4 * (i.val / 4 + 1))) (cL (sc K Q mu i h) (4 * (i.val / 4 + 1))) (ix2 0 q) : EReal)
      = ((Real.log (rowSum (X h) i.val (laneRow q.val)) / Real.log 2 : ℝ) : EReal) := by
  have hc := fun s : Fin 8 => carry_at (sc K Q mu i h) (ix2 s q) (fun n c => scoreAt_ne_top hX h _ _) (4 * (i.val / 4 + 1))
  choose μ hm hl using hc
  have hr : laneRow q.val < 128 := by unfold laneRow; omega
  have e : rowSum (X h) i.val (laneRow q.val) = ∑ s : Fin 8, ∑ n ∈ Finset.range (4 * (i.val / 4 + 1)), wt (sc K Q mu i h n) (ix2 s q) := by
    rw [rowSum_groups (X h) i.val (laneRow q.val) (4 * (i.val / 4 + 1)) hr (by omega) (by omega)]
    exact Finset.sum_congr rfl fun s _ => Finset.sum_congr rfl fun n _ => (wt_sc hX h n s q).symm
  rw [e]
  refine rowNorm_at _ _ q (fun s => ∑ n ∈ Finset.range (4 * (i.val / 4 + 1)), wt (sc K Q mu i h n) (ix2 s q)) μ hm hl ?_
  rw [← e]
  exact rowSum_pos _ _ _

theorem norms_at (h : Fin 4) (q : Fin 128) :
    (norms l2e (crAt K Q mu i (4 * (i.val / 4 + 1))) h (ix2 0 q) : EReal)
      = ((Real.log (rowSum (X h) i.val (laneRow q.val)) / Real.log 2 : ℝ) : EReal) := by
  rw [← norm_at hX h q]
  fin_cases h <;> rfl

/-- A block result. -/
theorem blk_at (s : St Ideal) (hs : Kept K Q mu i (16 * (i.val / 4 + 1)) s) (h : Fin 4) (t : Fin 8) (kb : Fin 1024) :
    blkVal i (norms l2e (crAt K Q mu i (4 * (i.val / 4 + 1)))) (s .p) (s .m) h t kb
      = ((∑ c ∈ Finset.range 16, blkSum (X h) i.val kb.val (16 * t.val + c) / rowSum (X h) i.val (16 * t.val + c) : ℝ) : EReal) := by
  unfold blkVal
  rw [Finset.sum_range]
  by_cases hk : kb.val < 8 * (i.val + 1)
  · rw [if_pos hk, ← coe_sum]
    refine Finset.sum_congr rfl fun c _ => ?_
    have hrow : laneRow (8 * c.val + t.val) = 16 * t.val + c.val := by
      show (8 * c.val + t.val) % 8 * 16 + (8 * c.val + t.val) / 8 = _; omega
    have hp := hs.p h (kb.val / 8) (by omega) ⟨kb.val % 8, by omega⟩ ⟨8 * c.val + t.val, by omega⟩ (by omega)
    have hm := hs.m h (kb.val / 8) (by omega) ⟨kb.val % 8, by omega⟩ ⟨8 * c.val + t.val, by omega⟩ (by omega)
    have ekb : (⟨8 * (kb.val / 8) + kb.val % 8, by omega⟩ : Fin 1024) = kb := Fin.ext (by show 8 * (kb.val / 8) + kb.val % 8 = _; omega)
    simp only [ekb] at hp hm
    obtain ⟨μ, hμ⟩ := maxOf_at (sc K Q mu i h (kb.val / 8)) (ix2 ⟨kb.val % 8, by omega⟩ ⟨8 * c.val + t.val, by omega⟩) (fun c => scoreAt_ne_top hX h _ _)
    have hsum := sumOf_at (sc K Q mu i h (kb.val / 8)) (ix2 ⟨kb.val % 8, by omega⟩ ⟨8 * c.val + t.val, by omega⟩) (fun c => scoreAt_ne_top hX h _ _) _ μ hμ
    rw [wt_sc hX] at hsum
    have hS := rowSum_pos (X h) i.val (16 * t.val + c.val)
    refine (congrArg₂ (fun a b : EReal => a * Ideal.exp2 (b - _)) (hp.trans hsum) (hm.trans hμ)).trans ?_
    refine (congrArg (fun n : EReal => _ * Ideal.exp2 (_ - n)) (norms_at hX h ⟨8 * c.val + t.val, by omega⟩)).trans ?_
    show _ * Ideal.exp2 ((μ : EReal) - ((Real.log (rowSum (X h) i.val (laneRow (8 * c.val + t.val))) / Real.log 2 : ℝ) : EReal)) = _
    rw [hrow, ← EReal.coe_sub, Ideal.exp2_coe, ← EReal.coe_mul]
    congr 1
    have h2 : Real.log 2 ≠ 0 := (Real.log_pos (by norm_num)).ne'
    have e1 : (2 : ℝ) ^ (μ - Real.log (rowSum (X h) i.val (16 * t.val + c.val)) / Real.log 2)
        = (2 : ℝ) ^ μ / rowSum (X h) i.val (16 * t.val + c.val) := by
      rw [Real.rpow_sub (by norm_num), Real.rpow_def_of_pos (by norm_num) (Real.log _ / Real.log 2), mul_div_cancel₀ _ h2, Real.exp_log hS]
    show _ * ((2 : ℝ) ^ (μ - Real.log (rowSum (X h) i.val (16 * t.val + c.val)) / Real.log 2)) = _
    rw [e1]
    have e3 : (8 * (kb.val / 8) + (⟨kb.val % 8, by omega⟩ : Fin 8).val) = kb.val := by show 8 * (kb.val / 8) + kb.val % 8 = _; omega
    rw [e3, Real.rpow_neg (by norm_num)]
    have h4 : (2 : ℝ) ^ μ ≠ 0 := (Real.rpow_pos_of_pos (by norm_num) μ).ne'
    field_simp
  · rw [if_neg hk]
    have : ∑ c : Fin 16, blkSum (X h) i.val kb.val (16 * t.val + c.val) / rowSum (X h) i.val (16 * t.val + c.val) = 0 :=
      Finset.sum_eq_zero fun c _ => by rw [blkSum_zero _ _ _ _ (by omega), zero_div]
    rw [this]; rfl

end Point

theorem qsRect_emb (b : Fin 2) (h : Fin 4) (j : S1x1.Idx) : (qsRect b h).emb j = ix2 b h := by
  have h0 : (j 0).val = 0 := by have := (j 0).isLt; change _ < 1 at this; omega
  have h1 : (j 1).val = 0 := by have := (j 1).isLt; change _ < 1 at this; omega
  have hb : (Scalar.indexCast (idx32 b)).toNat = b.val := by revert b; decide
  funext x; apply Fin.ext; fin_cases x
  · show (Scalar.indexCast (idx32 b)).toNat + 1 * (j 0).val = b.val; omega
  · show h.val + 1 * (j 1).val = h.val; omega

theorem ksRect_emb (b : Fin 2) (j : S1x1.Idx) : (ksRect b).emb j = ix2 b 0 := by
  have h0 : (j 0).val = 0 := by have := (j 0).isLt; change _ < 1 at this; omega
  have h1 : (j 1).val = 0 := by have := (j 1).isLt; change _ < 1 at this; omega
  have hb : (Scalar.indexCast (idx32 b)).toNat = b.val := by revert b; decide
  funext x; apply Fin.ext; fin_cases x
  · show (Scalar.indexCast (idx32 b)).toNat + 1 * (j 0).val = b.val; omega
  · show 0 + 1 * (j 1).val = 0; omega

/-- The factor of head `h`'s products. -/
noncomputable def muAt (qs : S2x4.Idx → EReal) (ks : S2x1.Idx → EReal) (b : Fin 2) (h : Fin 4) : EReal :=
  (qs (ix2 b h) * ks (ix2 b 0)) * Ideal.ofBits .f32 0x3C000000#32 * l2e

theorem run_mult (qs : S2x4.Idx → Ideal .f32) (ks : S2x1.Idx → Ideal .f32) (b : Fin 2) (h : Fin 4) (s : St Ideal) :
    run qs ks (mult (F := Ideal) l2e b h) s
      = (muAt qs ks b h, s) := by
  refine Prod.ext ?_ rfl
  exact congrArg₂ (fun x y : EReal => x * y * Ideal.ofBits .f32 0x3C000000#32 * l2e) (congrArg qs (qsRect_emb b h _)) (congrArg ks (ksRect_emb b _))

/-- The body at one point. -/
theorem body_value (qs : S2x4.Idx → Ideal .f32) (ks : S2x1.Idx → Ideal .f32) (b : Fin 2) (i : Fin 128)
    (K : Nat → Nat → BitVec 8) (Q : Nat → Nat → Nat → BitVec 8) (X : Fin 4 → Nat → Nat → ℝ)
    (hX : ∀ h kc r, (∑ j : Fin 2048, val (K kc j.val) * val (Q h.val r j.val))
      * muAt qs ks b h = (X h kc r : EReal) * l2e)
    (s : St Ideal) (hkp : ∀ y, kGood K i.val y (s .kp y))
    (hk0 : ∀ (r : Nat) (hr : r < 1024) (l : Fin 128), (s .k0 (tileAt r hr l) : BitVec 8) = K (128 * i.val + r / 8) (256 * (7 - r % 8) + l.val))
    (hk1 : ∀ (r : Nat) (hr : r < 1024) (l : Fin 128), (s .k1 (tileAt r hr l) : BitVec 8) = K (128 * i.val + r / 8) (256 * (7 - r % 8) + 128 + l.val))
    (hq0 : ∀ (h : Fin 4) (r : Nat) (hr : r < 1024) (l : Fin 128), (s .q0 (ix4 0 h ⟨r, hr⟩ l) : BitVec 8) = Q h.val (r / 8) (256 * (r % 8) + l.val))
    (hq1 : ∀ (h : Fin 4) (r : Nat) (hr : r < 1024) (l : Fin 128), (s .q1 (ix4 0 h ⟨r, hr⟩ l) : BitVec 8) = Q h.val (r / 8) (256 * (r % 8) + 128 + l.val)) :
    (∀ y, kGood K (i.val + 1) y ((run qs ks (body (F := Ideal) l2e ln2 b i) s).2 .kp y))
      ∧ (∀ (h : Fin 4) (j : Fin 128), ((run qs ks (body (F := Ideal) l2e ln2 b i) s).2 .lse (ix3 0 h j) : EReal)
          = ((Real.log (rowSum (X h) i.val j.val) - Real.log ((128 * i.val + j.val : Nat) + 1) : ℝ) : EReal))
      ∧ ∀ (h : Fin 4) (t : Fin 8) (kb : Fin 1024), ((run qs ks (body (F := Ideal) l2e ln2 b i) s).2 .blk (ix4 0 h t kb) : EReal)
          = ((∑ c ∈ Finset.range 16, blkSum (X h) i.val kb.val (16 * t.val + c) / rowSum (X h) i.val (16 * t.val + c) : ℝ) : EReal) := by
  have hK := (packK_sets (qs := qs) (ks := ks) K i (s .k0) (s .k1) hk0 hk1 s ⟨rfl, rfl⟩).2
  have kq0 := run_keeps _ qs ks (packK (F := Ideal) i) .q0 (by decide) s (writes_packK i)
  have kq1 := run_keeps _ qs ks (packK (F := Ideal) i) .q1 (by decide) s (writes_packK i)
  unfold body
  rw [run_bind]
  generalize (run qs ks (packK (F := Ideal) i) s).2 = s1 at *
  have hQ := (packQ_sets (qs := qs) (ks := ks) Q (s .q0) (s .q1) hq0 hq1 s1 ⟨kq0, kq1⟩).2
  have kkp := run_keeps _ qs ks (packQ (F := Ideal)) .kp (by decide) s1 writes_packQ
  rw [run_bind]
  generalize (run qs ks (packQ (F := Ideal)) s1).2 = s2 at *
  rw [run_bind, run_mult, run_bind, run_mult, run_bind, run_mult, run_bind, run_mult, run_bind]
  have hkept : Kept K Q (muAt qs ks b) i 0 s2 := by
    refine ⟨fun y => ?_, fun y => hQ y (.inl trivial), fun _ _ _ _ _ hlt => absurd hlt (by omega), fun _ _ _ _ _ hlt => absurd hlt (by omega)⟩
    rw [kkp]
    by_cases hy : (y 1).val / 32 = i.val
    · exact hK y (.inl hy)
    · refine hK y (.inr fun hlt => hkp y ?_)
      omega
  obtain ⟨s3, e3, h3⟩ := chunks_run (qs := qs) (ks := ks) ![muAt qs ks b 0, muAt qs ks b 1, muAt qs ks b 2, muAt qs ks b 3]
    (fun h => by fin_cases h <;> rfl) s2 hkept
  rw [e3]
  refine ⟨fun y => ?_, fun h j => ?_, fun h t kb => ?_⟩
  · have e4 := run_keeps _ qs ks (results (F := Ideal) l2e ln2 i (crAt K Q (muAt qs ks b) i (4 * (i.val / 4 + 1)))) .kp (by decide) s3 (writes_results _ _ _ _)
    rw [e4]
    exact h3.kp y
  · refine (results_lse i _ _ (norms_at hX) s3 h j).trans ?_
    unfold lseVal
    have h2 : Real.log 2 ≠ 0 := (Real.log_pos (by norm_num)).ne'
    have hr : laneRow (j.val % 16 * 8 + j.val / 16) = j.val := by
      show (j.val % 16 * 8 + j.val / 16) % 8 * 16 + (j.val % 16 * 8 + j.val / 16) / 8 = _; omega
    simp only [hr]
    rw [div_mul_cancel₀ _ h2]
  · exact (results_blk i _ s3 h t kb).trans (blk_at hX s3 h3 h t kb)

end K01
-- ==== Proof.Spec.lean ====
/- The two results as plain formulas in the four arguments: which code each key and each query is made of, the
   score of a key and a query, the softmax over the keys up to the query, and its sums over blocks of sixteen keys
   and sixteen queries. -/
module

public import proofs.«01_k».proof.Proof.BodyValue

@[expose] public section

set_option maxRecDepth 16384

namespace K01

open Idealize.ShloMosaic Idealize.ShloMosaic.Pointwise Cmd

local notation "l2e" => (((Real.log 2)⁻¹ : ℝ) : EReal)

/-- The four arguments. -/
structure Args where
  /-- The queries' codes. -/
  q : (⟨4, ![2, 4, 131072, 256]⟩ : Shape).Idx → BitVec 8
  /-- The queries' scales. -/
  qs : (⟨2, ![2, 4]⟩ : Shape).Idx → EReal
  /-- The keys' codes. -/
  k : (⟨4, ![2, 1, 131072, 256]⟩ : Shape).Idx → BitVec 8
  /-- The keys' scales. -/
  ks : (⟨2, ![2, 1]⟩ : Shape).Idx → EReal

/-- No code is a NaN, and the scales are real numbers. -/
structure Args.Good (A : Args) : Prop where
  q : ∀ y, A.q y ≠ 127#8 ∧ A.q y ≠ 255#8
  k : ∀ y, A.k y ≠ 127#8 ∧ A.k y ≠ 255#8
  qs : ∀ y, ∃ r : ℝ, A.qs y = (r : EReal)
  ks : ∀ y, ∃ r : ℝ, A.ks y = (r : EReal)

/-- A code other than the two NaNs stands for a real number. -/
theorem val_real {c : BitVec 8} (h : c ≠ 127#8 ∧ c ≠ 255#8) : ∃ r : ℝ, val c = (r : EReal) := by
  have e : ¬((c.extractLsb' 3 4).toNat = 15 ∧ (c.extractLsb' 0 3).toNat = 7) := by
    revert h; revert c; decide
  show ∃ r : ℝ, Ideal.e4m3fn c = (r : EReal)
  unfold Ideal.e4m3fn
  simp only [if_neg e]
  split_ifs <;> exact ⟨_, rfl⟩

/-- Code `j` of key `kc` of batch `b`: eight rows of 256 codes, the last row first. -/
def Args.key (A : Args) (b : Fin 2) (kc j : Nat) : BitVec 8 :=
  A.k (ix4 b 0 ⟨(8 * kc + (7 - j / 256)) % 131072, Nat.mod_lt _ (by decide)⟩ ⟨j % 256, Nat.mod_lt _ (by decide)⟩)

/-- Code `j` of query `row` of head `h` of batch `b`: eight rows of 256 codes. -/
def Args.query (A : Args) (b : Fin 2) (h : Fin 4) (row j : Nat) : BitVec 8 :=
  A.q (ix4 b h ⟨(8 * row + j / 256) % 131072, Nat.mod_lt _ (by decide)⟩ ⟨j % 256, Nat.mod_lt _ (by decide)⟩)

/-- The score of key `kc` and query `row`, as an extended real. -/
noncomputable def Args.dot (A : Args) (b : Fin 2) (h : Fin 4) (kc row : Nat) : EReal :=
  (∑ j : Fin 2048, val (A.key b kc j.val) * val (A.query b h row j.val)) * ((A.qs (ix2 b h) * A.ks (ix2 b 0)) * Ideal.ofBits .f32 0x3C000000#32)

/-- The score as a real number. -/
noncomputable def Args.score (A : Args) (b : Fin 2) (h : Fin 4) (kc row : Nat) : ℝ := (A.dot b h kc row).toReal

/-- Its exponential, zero where the key is after the query. -/
noncomputable def Args.term (A : Args) (b : Fin 2) (h : Fin 4) (kc row : Nat) : ℝ := if kc ≤ row then Real.exp (A.score b h kc row) else 0

/-- The sum over the keys. -/
noncomputable def Args.total (A : Args) (b : Fin 2) (h : Fin 4) (row : Nat) : ℝ := ∑ kc ∈ Finset.range 16384, A.term b h kc row

/-- The second result: the logarithm of the mean over the keys up to the query. -/
noncomputable def Args.lse (A : Args) (y : (⟨3, ![2, 4, 16384]⟩ : Shape).Idx) : EReal :=
  ((Real.log (A.total (y 0) (y 1) (y 2).val) - Real.log (((y 2).val : ℝ) + 1) : ℝ) : EReal)

/-- The first result: the softmax's sum over a block of sixteen queries and sixteen keys. -/
noncomputable def Args.blk (A : Args) (y : (⟨4, ![2, 4, 1024, 1024]⟩ : Shape).Idx) : EReal :=
  ((∑ c ∈ Finset.range 16, (∑ d ∈ Finset.range 16, A.term (y 0) (y 1) (16 * (y 3).val + d) (16 * (y 2).val + c))
    / A.total (y 0) (y 1) (16 * (y 2).val + c) : ℝ) : EReal)

/-- The scale factor is a real number. -/
theorem scale_real : ∃ r : ℝ, Ideal.ofBits .f32 0x3C000000#32 = (r : EReal) := by
  show ∃ r : ℝ, Ideal.ieee 8 23 (0x3C000000#32) = (r : EReal)
  unfold Ideal.ieee
  exact ⟨_, (if_neg (by decide)).trans (if_neg (by decide))⟩

theorem Args.Good.dot {A : Args} (g : A.Good) (b : Fin 2) (h : Fin 4) (kc row : Nat) : A.dot b h kc row = (A.score b h kc row : EReal) := by
  have hs : ∀ j : Fin 2048, ∃ r : ℝ, val (A.key b kc j.val) * val (A.query b h row j.val) = (r : EReal) := fun j => by
    obtain ⟨x, hx⟩ := val_real (g.k (ix4 b 0 ⟨(8 * kc + (7 - j.val / 256)) % 131072, Nat.mod_lt _ (by decide)⟩ ⟨j.val % 256, Nat.mod_lt _ (by decide)⟩))
    obtain ⟨y, hy⟩ := val_real (g.q (ix4 b h ⟨(8 * row + j.val / 256) % 131072, Nat.mod_lt _ (by decide)⟩ ⟨j.val % 256, Nat.mod_lt _ (by decide)⟩))
    exact ⟨x * y, (congrArg₂ (· * ·) hx hy).trans (EReal.coe_mul x y).symm⟩
  choose f hf using hs
  obtain ⟨x, hx⟩ := g.qs (ix2 b h)
  obtain ⟨y, hy⟩ := g.ks (ix2 b 0)
  obtain ⟨z, hz⟩ := scale_real
  have e : A.dot b h kc row = (((∑ j, f j) * ((x * y) * z) : ℝ) : EReal) := by
    unfold Args.dot
    rw [hx, hy, hz, EReal.coe_mul, EReal.coe_mul, EReal.coe_mul, ← coe_sum]
    exact congrArg (· * _) (Finset.sum_congr rfl fun j _ => hf j)
  unfold Args.score
  rw [e, EReal.toReal_coe]

/-- The form in which a point's body has it. -/
theorem Args.Good.score_log2 {A : Args} (g : A.Good) (b : Fin 2) (i : Fin 128) (h : Fin 4) (kc r : Nat) :
    (∑ j : Fin 2048, val (A.key b kc j.val) * val (A.query b ⟨h.val % 4, Nat.mod_lt _ (by decide)⟩ (128 * i.val + r) j.val)) * muAt A.qs A.ks b h
      = (A.score b h kc (128 * i.val + r) : EReal) * l2e := by
  have e : (⟨h.val % 4, Nat.mod_lt _ (by decide)⟩ : Fin 4) = h := Fin.ext (Nat.mod_eq_of_lt h.isLt)
  rw [e, ← g.dot]
  unfold Args.dot muAt
  rw [← mul_assoc]

/-- A tile's sum over the keys is the sum over the keys of its query. -/
theorem Args.rowSum_eq (A : Args) (b : Fin 2) (h : Fin 4) (i r : Nat) :
    rowSum (fun kc r => A.score b h kc (128 * i + r)) i r = A.total b h (128 * i + r) := rfl

theorem Args.blkSum_eq (A : Args) (b : Fin 2) (h : Fin 4) (i kb r : Nat) :
    blkSum (fun kc r => A.score b h kc (128 * i + r)) i kb r = ∑ d ∈ Finset.range 16, A.term b h (16 * kb + d) (128 * i + r) := rfl

/-- The second result of a tile, at an index. -/
theorem Args.lse_tile (A : Args) (b : Fin 2) (h : Fin 4) (i : Nat) (j : Nat) (hij : 128 * i + j < 16384) :
    ((Real.log (rowSum (fun kc r => A.score b h kc (128 * i + r)) i j) - Real.log ((128 * i + j : Nat) + 1) : ℝ) : EReal)
      = A.lse (ix3 b h ⟨128 * i + j, hij⟩) := by
  rw [A.rowSum_eq]
  rfl

/-- The first result of a tile, at an index. -/
theorem Args.blk_tile (A : Args) (b : Fin 2) (h : Fin 4) (i : Nat) (t : Nat) (kb : Fin 1024) (hit : 8 * i + t < 1024) :
    ((∑ c ∈ Finset.range 16, blkSum (fun kc r => A.score b h kc (128 * i + r)) i kb.val (16 * t + c)
        / rowSum (fun kc r => A.score b h kc (128 * i + r)) i (16 * t + c) : ℝ) : EReal)
      = A.blk (ix4 b h ⟨8 * i + t, hit⟩ kb) := by
  refine congrArg Real.toEReal (Finset.sum_congr rfl fun c _ => ?_)
  rw [A.rowSum_eq, A.blkSum_eq, show 128 * i + (16 * t + c) = 16 * (8 * i + t) + c by omega]
  rfl

end K01
-- ==== Proof.KernelTiles.lean ====
/- What the windows of the kernel read at a grid point, and what one point computes from them: its tiles of the two
   results, and the packed keys for the points after it. -/
module

public import proofs.«01_k».proof.Proof.Spec
public import proofs.«01_k».proof.Proof.FrameKernelIdeal

@[expose] public section

set_option maxRecDepth 16384

noncomputable section

namespace K01.KernelIdeal

open Cert.KernelIdeal Cert.KernelIdeal.Gen
open Idealize.ShloMosaic Idealize.ShloMosaic.TcCoe Idealize.ShloMosaic.Pointwise

local notation "l2e" => (((Real.log 2)⁻¹ : ℝ) : EReal)

variable (m : (ℓ : Loc nD τ sig) → Buf (Elt Ideal) ℓ)

/-- The arguments as core `c` has them at launch. -/
def args (c : Dev nD) : Args where
  q := m ((c : Thread nD τ).loc main_arg0)
  qs := m ((c : Thread nD τ).loc main_arg1)
  k := m ((c : Thread nD τ).loc main_arg2)
  ks := m ((c : Thread nD τ).loc main_arg3)

/-- The batch of point `n`. -/
def batch (n : Nat) : Fin 2 := ⟨n / 128 % 2, Nat.mod_lt _ (by decide)⟩

/-- The tile of point `n`. -/
def tile (n : Nat) : Fin 128 := ⟨n % 128, Nat.mod_lt _ (by decide)⟩

theorem coords_0 (t : Fin cfg0.N) : (grid0.coords t 0 : Fin 2) = batch t.val :=
  Fin.ext (Pipeline.Grid.coords_val (G := grid0) t 0 (S := 128) (B := 2) (by decide) rfl)

theorem coords_1 (t : Fin cfg0.N) : (grid0.coords t 1 : Fin 128) = tile t.val :=
  Fin.ext ((Pipeline.Grid.coords_val (G := grid0) t 1 (S := 1) (B := 128) (by decide) rfl).trans (by rw [Nat.div_one]; rfl))

theorem index_0 (t : Fin cfg0.N) : (BitVec.ofNat 32 (grid0.coords t 0).val).toNat = (batch t.val).val := by
  have e : (grid0.coords t 0).val = (batch t.val).val := congrArg Fin.val (coords_0 t)
  have := (batch t.val).isLt
  rw [e, BitVec.toNat_ofNat]; omega

theorem index_1 (t : Fin cfg0.N) : (BitVec.ofNat 32 (grid0.coords t 1).val).toNat = (tile t.val).val := by
  have e : (grid0.coords t 1).val = (tile t.val).val := congrArg Fin.val (coords_1 t)
  have := (tile t.val).isLt
  rw [e, BitVec.toNat_ofNat]; omega

/-! ## The input tiles -/

theorem tile_q0 (c : Dev nD) (t : Fin cfg0.N) (h : Fin 4) (r : Fin 1024) (l : Fin 128) :
    (iblk m c 2 t : S1x4x1024x128.Idx → BitVec 8) (ix4 0 h r l)
      = (args m c).q (ix4 (batch t.val) h ⟨1024 * (tile t.val).val + r.val, by have := (tile t.val).isLt; omega⟩ ⟨l.val, by omega⟩) := by
  unfold iblk
  rw [View.read_apply]
  show V m c main_arg0 _ = m (c.tc.loc main_arg0) _
  unfold V
  congr 1
  funext a
  apply Fin.ext
  match a with
  | ⟨0, _⟩ => show (BitVec.ofNat 32 (grid0.coords t 0).val).toNat * 1 + 1 * 0 = (batch t.val).val; rw [index_0]; omega
  | ⟨1, _⟩ => show 0 * 4 + 1 * h.val = h.val; omega
  | ⟨2, _⟩ => show (BitVec.ofNat 32 (grid0.coords t 1).val).toNat * 1024 + 1 * r.val = 1024 * (tile t.val).val + r.val; rw [index_1]; omega
  | ⟨3, _⟩ => show 0 * 128 + 1 * l.val = l.val; omega

theorem tile_q1 (c : Dev nD) (t : Fin cfg0.N) (h : Fin 4) (r : Fin 1024) (l : Fin 128) :
    (iblk m c 3 t : S1x4x1024x128.Idx → BitVec 8) (ix4 0 h r l)
      = (args m c).q (ix4 (batch t.val) h ⟨1024 * (tile t.val).val + r.val, by have := (tile t.val).isLt; omega⟩ ⟨128 + l.val, by omega⟩) := by
  unfold iblk
  rw [View.read_apply]
  show V m c main_arg0 _ = m (c.tc.loc main_arg0) _
  unfold V
  congr 1
  funext a
  apply Fin.ext
  match a with
  | ⟨0, _⟩ => show (BitVec.ofNat 32 (grid0.coords t 0).val).toNat * 1 + 1 * 0 = (batch t.val).val; rw [index_0]; omega
  | ⟨1, _⟩ => show 0 * 4 + 1 * h.val = h.val; omega
  | ⟨2, _⟩ => show (BitVec.ofNat 32 (grid0.coords t 1).val).toNat * 1024 + 1 * r.val = 1024 * (tile t.val).val + r.val; rw [index_1]; omega
  | ⟨3, _⟩ => show 1 * 128 + 1 * l.val = 128 + l.val; omega

theorem tile_k0 (c : Dev nD) (t : Fin cfg0.N) (r : Fin 1024) (l : Fin 128) :
    (iblk m c 4 t : S1x1x1024x128.Idx → BitVec 8) (ix4 0 0 r l)
      = (args m c).k (ix4 (batch t.val) 0 ⟨1024 * (tile t.val).val + r.val, by have := (tile t.val).isLt; omega⟩ ⟨l.val, by omega⟩) := by
  unfold iblk
  rw [View.read_apply]
  show V m c main_arg2 _ = m (c.tc.loc main_arg2) _
  unfold V
  congr 1
  funext a
  apply Fin.ext
  match a with
  | ⟨0, _⟩ => show (BitVec.ofNat 32 (grid0.coords t 0).val).toNat * 1 + 1 * 0 = (batch t.val).val; rw [index_0]; omega
  | ⟨1, _⟩ => show 0 * 1 + 1 * 0 = 0; omega
  | ⟨2, _⟩ => show (BitVec.ofNat 32 (grid0.coords t 1).val).toNat * 1024 + 1 * r.val = 1024 * (tile t.val).val + r.val; rw [index_1]; omega
  | ⟨3, _⟩ => show 0 * 128 + 1 * l.val = l.val; omega

theorem tile_k1 (c : Dev nD) (t : Fin cfg0.N) (r : Fin 1024) (l : Fin 128) :
    (iblk m c 5 t : S1x1x1024x128.Idx → BitVec 8) (ix4 0 0 r l)
      = (args m c).k (ix4 (batch t.val) 0 ⟨1024 * (tile t.val).val + r.val, by have := (tile t.val).isLt; omega⟩ ⟨128 + l.val, by omega⟩) := by
  unfold iblk
  rw [View.read_apply]
  show V m c main_arg2 _ = m (c.tc.loc main_arg2) _
  unfold V
  congr 1
  funext a
  apply Fin.ext
  match a with
  | ⟨0, _⟩ => show (BitVec.ofNat 32 (grid0.coords t 0).val).toNat * 1 + 1 * 0 = (batch t.val).val; rw [index_0]; omega
  | ⟨1, _⟩ => show 0 * 1 + 1 * 0 = 0; omega
  | ⟨2, _⟩ => show (BitVec.ofNat 32 (grid0.coords t 1).val).toNat * 1024 + 1 * r.val = 1024 * (tile t.val).val + r.val; rw [index_1]; omega
  | ⟨3, _⟩ => show 1 * 128 + 1 * l.val = 128 + l.val; omega

theorem table_q (c : Dev nD) (t : Fin cfg0.N) : (iblk m c 0 t : S2x4.Idx → EReal) = (args m c).qs := by
  funext y
  unfold iblk
  rw [View.read_apply]
  show V m c main_arg1 _ = m (c.tc.loc main_arg1) _
  unfold V
  congr 1
  funext a
  apply Fin.ext
  match a with
  | ⟨0, _⟩ => show 0 * 2 + 1 * (y 0).val = (y 0).val; omega
  | ⟨1, _⟩ => show 0 * 4 + 1 * (y 1).val = (y 1).val; omega

theorem table_k (c : Dev nD) (t : Fin cfg0.N) : (iblk m c 1 t : S2x1.Idx → EReal) = (args m c).ks := by
  funext y
  unfold iblk
  rw [View.read_apply]
  show V m c main_arg3 _ = m (c.tc.loc main_arg3) _
  unfold V
  congr 1
  funext a
  apply Fin.ext
  match a with
  | ⟨0, _⟩ => show 0 * 2 + 1 * (y 0).val = (y 0).val; omega
  | ⟨1, _⟩ => show 0 * 1 + 1 * (y 1).val = (y 1).val; omega

/-! ## One point -/

theorem log2e_eq : log2e (F := Ideal) = l2e := IdealRules.named_const.ideal_named_scalar _ _ _ _ rfl

theorem ln2_eq : ln2 (F := Ideal) = ((Real.log 2 : ℝ) : EReal) := IdealRules.named_const.ideal_named_scalar _ _ _ _ rfl

/-- Point `t`'s block of the first result. -/
def blkOf (c : Dev nD) (t : Fin cfg0.N) (y : S1x4x8x1024.Idx) : EReal :=
  (args m c).blk (ix4 (batch t.val) (y 1) ⟨8 * (tile t.val).val + (y 2).val, by have := (tile t.val).isLt; have : (y 2).val < 8 := (y 2).isLt; omega⟩ (y 3))

/-- Point `t`'s block of the second result. -/
def lseOf (c : Dev nD) (t : Fin cfg0.N) (y : S1x4x128.Idx) : EReal :=
  (args m c).lse (ix3 (batch t.val) (y 1) ⟨128 * (tile t.val).val + (y 2).val, by have := (tile t.val).isLt; have : (y 2).val < 128 := (y 2).isLt; omega⟩)

/-- The packed keys hold every key of the tiles before point `n` of its batch. -/
def packed (c : Dev nD) (n : Nat) (kp : S16x4096x128.Idx → BitVec 32) : Prop :=
  ∀ y, kGood ((args m c).key (batch n)) (tile n).val y (kp y)

theorem packed_start (c : Dev nD) {n : Nat} (h : n % 128 = 0) (kp : S16x4096x128.Idx → BitVec 32) : packed m c n kp := fun y hy => by
  have e : (tile n).val = 0 := h
  rw [e] at hy
  omega

theorem blk_index (y : S1x4x8x1024.Idx) : y = ix4 0 (y 1) (y 2) (y 3) := funext fun a => by
  match a with
  | ⟨0, _⟩ => exact Subsingleton.elim (α := Fin 1) _ _
  | ⟨1, _⟩ => rfl
  | ⟨2, _⟩ => rfl
  | ⟨3, _⟩ => rfl

theorem lse_index (y : S1x4x128.Idx) : y = ix3 0 (y 1) (y 2) := funext fun a => by
  match a with
  | ⟨0, _⟩ => exact Subsingleton.elim (α := Fin 1) _ _
  | ⟨1, _⟩ => rfl
  | ⟨2, _⟩ => rfl

/-- What the body does at point `t`. -/
theorem point_value (hg : ∀ c, (args m c).Good) (c : Dev nD) (t : Fin cfg0.N) (blk : S1x4x8x1024.Idx → Elt Ideal .f32) (lse : S1x4x128.Idx → Elt Ideal .f32)
    (kp : S16x4096x128.Idx → Elt Ideal .i32) (qp : S16x128x128.Idx → Elt Ideal .i32) (p pm : S4x1024x128.Idx → Elt Ideal .f32)
    (hkp : packed m c t.val kp) :
    packed m c (t.val + 1) (afterRun m c t blk lse kp qp p pm .kp)
      ∧ afterRun m c t blk lse kp qp p pm .blk = blkOf m c t ∧ afterRun m c t blk lse kp qp p pm .lse = lseOf m c t := by
  have hi := (tile t.val).isLt
  have v := body_value (args m c).qs (args m c).ks (batch t.val) (tile t.val) ((args m c).key (batch t.val))
    (fun h r j => (args m c).query (batch t.val) ⟨h % 4, Nat.mod_lt _ (by decide)⟩ (128 * (tile t.val).val + r) j)
    (fun h kc r => (args m c).score (batch t.val) h kc (128 * (tile t.val).val + r))
    (fun h kc r => (hg c).score_log2 (batch t.val) (tile t.val) h kc r)
    (held m c t blk lse kp qp p pm) hkp
    (fun r hr l => by
      refine (tile_k0 m c t ⟨r, hr⟩ l).trans ?_
      unfold Args.key
      congr 1
      refine congrArg₂ (ix4 (batch t.val) 0) (Fin.ext ?_) (Fin.ext ?_)
      · show 1024 * (tile t.val).val + r = (8 * (128 * (tile t.val).val + r / 8) + (7 - (256 * (7 - r % 8) + l.val) / 256)) % 131072; omega
      · show l.val = (256 * (7 - r % 8) + l.val) % 256; omega)
    (fun r hr l => by
      refine (tile_k1 m c t ⟨r, hr⟩ l).trans ?_
      unfold Args.key
      congr 1
      refine congrArg₂ (ix4 (batch t.val) 0) (Fin.ext ?_) (Fin.ext ?_)
      · show 1024 * (tile t.val).val + r = (8 * (128 * (tile t.val).val + r / 8) + (7 - (256 * (7 - r % 8) + 128 + l.val) / 256)) % 131072; omega
      · show 128 + l.val = (256 * (7 - r % 8) + 128 + l.val) % 256; omega)
    (fun h r hr l => by
      refine (tile_q0 m c t h ⟨r, hr⟩ l).trans ?_
      have e : (⟨h.val % 4, Nat.mod_lt _ (by decide)⟩ : Fin 4) = h := Fin.ext (Nat.mod_eq_of_lt h.isLt)
      simp only [e]
      unfold Args.query
      congr 1
      refine congrArg₂ (ix4 (batch t.val) h) (Fin.ext ?_) (Fin.ext ?_)
      · show 1024 * (tile t.val).val + r = (8 * (128 * (tile t.val).val + r / 8) + (256 * (r % 8) + l.val) / 256) % 131072; omega
      · show l.val = (256 * (r % 8) + l.val) % 256; omega)
    (fun h r hr l => by
      refine (tile_q1 m c t h ⟨r, hr⟩ l).trans ?_
      have e : (⟨h.val % 4, Nat.mod_lt _ (by decide)⟩ : Fin 4) = h := Fin.ext (Nat.mod_eq_of_lt h.isLt)
      simp only [e]
      unfold Args.query
      congr 1
      refine congrArg₂ (ix4 (batch t.val) h) (Fin.ext ?_) (Fin.ext ?_)
      · show 1024 * (tile t.val).val + r = (8 * (128 * (tile t.val).val + r / 8) + (256 * (r % 8) + 128 + l.val) / 256) % 131072; omega
      · show 128 + l.val = (256 * (r % 8) + 128 + l.val) % 256; omega)
  have er : afterRun m c t blk lse kp qp p pm = (Cmd.run (args m c).qs (args m c).ks
      (body (F := Ideal) l2e ((Real.log 2 : ℝ) : EReal) (batch t.val) (tile t.val)) (held m c t blk lse kp qp p pm)).2 := by
    unfold afterRun runAt
    rw [table_q, table_k, log2e_eq, ln2_eq, coords_0, coords_1]
  rw [er]
  generalize (Cmd.run (args m c).qs (args m c).ks
    (body (F := Ideal) l2e ((Real.log 2 : ℝ) : EReal) (batch t.val) (tile t.val)) (held m c t blk lse kp qp p pm)).2 = s' at v ⊢
  clear er
  obtain ⟨v1, v2, v3⟩ := v
  refine ⟨fun y => ?_, funext fun (y : S1x4x8x1024.Idx) => ?_, funext fun (y : S1x4x128.Idx) => ?_⟩
  · by_cases h : t.val % 128 = 127
    · exact packed_start m c (n := t.val + 1) (by omega) _ y
    · have e1 : (tile (t.val + 1)).val = (tile t.val).val + 1 := by show (t.val + 1) % 128 = t.val % 128 + 1; omega
      have e2 : batch (t.val + 1) = batch t.val := Fin.ext (by show (t.val + 1) / 128 % 2 = t.val / 128 % 2; omega)
      rw [e1, e2]
      exact v1 y
  · refine (congrArg (fun z : S1x4x8x1024.Idx => (s' .blk z : EReal)) (blk_index y)).trans ((v3 (y 1) (y 2) (y 3)).trans ?_)
    exact (args m c).blk_tile (batch t.val) (y 1) (tile t.val).val (y 2).val (y 3) _
  · refine (congrArg (fun z : S1x4x128.Idx => (s' .lse z : EReal)) (lse_index y)).trans ((v2 (y 1) (y 2)).trans ?_)
    exact (args m c).lse_tile (batch t.val) (y 1) (tile t.val).val (y 2).val _

end K01.KernelIdeal

end
-- ==== Proof.KernelValue.lean ====
/- The kernel's run, with its two results: what each point computes is its block of the formulas, and the blocks
   cover the arrays. Between points the packed keys hold what the points before have packed. -/
module

public import proofs.«01_k».proof.Proof.KernelTiles
public import Idealize.ShloMosaic.Lib.Pipeline.Value

@[expose] public section

set_option maxRecDepth 16384

noncomputable section

namespace K01.IdealRun

open Cert.KernelIdeal Cert.KernelIdeal.Gen
open K01.KernelIdeal (args batch packed packed_start blkOf lseOf point_value afterRun body_point PhiA_eq defs₀_row index_0 index_1)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Pointwise

local notation "𝕄" => MT nD τ sig Unit (Elt Ideal) ℕ (UR sig nD τ) ℕ

variable (m : (ℓ : Loc nD τ sig) → Buf (Elt Ideal) ℓ) (ρ : Dev nD → PrngReg)

/-- The invariant before point `n`: the first scratch array holds the keys packed so far, the other three anything,
    the generator register anything. -/
def inv (c : Dev nD) (n : Nat) : sProp 𝕄 :=
  iprop(((∃ kp : S16x4096x128.Idx → BitVec 32, ⌜packed m c n kp⌝ ∗ owns (c : Thread nD τ) (Memref.whole cc0_scratch0) fullShare kp)
    ∗ (∃ f, owns (c : Thread nD τ) (Memref.whole cc0_scratch1) fullShare f)
    ∗ (∃ f, owns (c : Thread nD τ) (Memref.whole cc0_scratch2) fullShare f) ∗ (∃ f, owns (c : Thread nD τ) (Memref.whole cc0_scratch3) fullShare f))
    ∗ ∃ r, prngReg c r)

/-- The proof data: inputs left as they are, results at their blocks of the formulas. -/
def dats (_ : Fin 1) (c : Dev nD) : Dat τ (Elt Ideal) Unit ℕ (UR sig nD τ) ℕ cfg0 c where
  A w := V m c (Pipeline.arrRef spec0 w)
  after := fun w t => match w with
    | 0 => iblk m c 0 t | 1 => iblk m c 1 t | 2 => iblk m c 2 t | 3 => iblk m c 3 t | 4 => iblk m c 4 t | 5 => iblk m c 5 t
    | 6 => blkOf m c t | 7 => lseOf m c t
  Φ t := inv m c t.val
  q w := Pipeline.shareOf spec0 w
  owed _ := 0

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t)
    ∗ owns (c : Thread nD τ) (st0_4 t) fullShare ((dats m 0 c).after 4 t) ∗ owns (c : Thread nD τ) (st0_5 t) fullShare ((dats m 0 c).after 5 t)
    ∗ owns (c : Thread nD τ) (st0_6 t) fullShare ((dats m 0 c).after 6 t) ∗ owns (c : Thread nD τ) (st0_7 t) fullShare ((dats m 0 c).after 7 t))

theorem after_6 (c : Dev nD) (t : Fin cfg0.N) : (dats m 0 c).after 6 t = blkOf m c t := by dsimp only [dats]
theorem after_7 (c : Dev nD) (t : Fin cfg0.N) : (dats m 0 c).after 7 t = lseOf m c t := by dsimp only [dats]

theorem sound_body (hg : ∀ c, (args m c).Good) (c : Dev nD) (t : Fin cfg0.N) :
    bodyPre m c t ⊢ wp frame (wpE (defs₀ (F := Ideal)) Variants.none c none) Set.univ (bodyAt0 t) (fun _ => bodyPost m c t) := by
  unfold bodyPre bodyPost
  rw [show (dats m 0 c).owesAt () t.succ = (dats m 0 c).owesAt () t.castSucc from rfl,
    show (dats m 0 c).Φ t.succ = inv m c (t.val + 1) from rfl,
    show (dats m 0 c).Φ t.castSucc = inv m c t.val from rfl]
  unfold inv
  simp only [before0_0_of m (dats m 0 c) rfl (fun _ => rfl) t, before0_1_of m (dats m 0 c) rfl (fun _ => rfl) t,
    before0_2_of m (dats m 0 c) rfl (fun _ => rfl) t, before0_3_of m (dats m 0 c) rfl (fun _ => rfl) t,
    before0_4_of m (dats m 0 c) rfl (fun _ => rfl) t, before0_5_of m (dats m 0 c) rfl (fun _ => rfl) t]
  rw [show (dats m 0 c).after 0 t = iblk m c 0 t from rfl, show (dats m 0 c).after 1 t = iblk m c 1 t from rfl,
    show (dats m 0 c).after 2 t = iblk m c 2 t from rfl, show (dats m 0 c).after 3 t = iblk m c 3 t from rfl,
    show (dats m 0 c).after 4 t = iblk m c 4 t from rfl, show (dats m 0 c).after 5 t = iblk m c 5 t from rfl,
    after_6, after_7]
  iintro ⟨⟨⟨⟨%kp, %hkp, S0⟩, ⟨%qp, S1⟩, ⟨%p, S2⟩, ⟨%pm, S3⟩⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩⟩
  obtain ⟨v1, v2, v3⟩ := point_value m hg c t ((dats m 0 c).before 6 t d6) ((dats m 0 c).before 7 t d7) kp qp p pm hkp
  iapply (body_point m c t ((dats m 0 c).before 6 t d6) ((dats m 0 c).before 7 t d7) kp qp p pm _)
  isplitl [H0 H1 H2 H3 H4 H5 H6 H7 S0 S1 S2 S3]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    isplitl [S2]; · iexact S2
    iexact S3
  rw [v2, v3]
  iintro ⟨H0, H1, H2, H3, H4, H5, H6, H7, S0, S1, S2, S3⟩
  isplitl [S0 S1 S2 S3 Hg]
  · isplitr [Hg]; swap; · iexact Hg
    isplitl [S0]
    · iexists _
      isplitr
      · ipureintro; exact v1
      · iexact S0
    isplitl [S1]; · iexists _; iexact S1
    isplitl [S2]; · iexists _; iexact S2
    iexists _; iexact S3
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (hg : ∀ c, (args m c).Good) (c : Dev nD) :
    BodyObligation (dats m 0 c) (defs₀ (F := Ideal)) Variants.none () Set.univ := fun t => by
  rw [bigSep_W0, bigSep_W0, defs₀_row]
  exact triple_restated (sound_body m hg c t) rfl .rfl fun _ => .rfl

/-- The scratch arrays at anything are the invariant before a batch's first point. -/
theorem inv_in (c : Dev nD) : Pipeline.ΦA spec0 c ⊢ inv m c 0 := by
  rw [PhiA_eq]
  unfold inv
  iintro ⟨⟨⟨%kp, S0⟩, S1, S2, S3⟩, Hg⟩
  isplitr [Hg]; swap; · iexact Hg
  isplitl [S0]
  · iexists kp
    isplitr
    · ipureintro; exact packed_start m c rfl kp
    · iexact S0
  isplitl [S1]; · iexact S1
  isplitl [S2]; · iexact S2
  iexact S3

theorem inv_out (c : Dev nD) (n : Nat) : inv m c n ⊢ Pipeline.ΦA spec0 c := by
  rw [PhiA_eq]
  unfold inv
  iintro ⟨⟨⟨%kp, %hkp, S0⟩, S1, S2, S3⟩, Hg⟩
  isplitr [Hg]; swap; · iexact Hg
  isplitl [S0]; · iexists kp; iexact S0
  isplitl [S1]; · iexact S1
  isplitl [S2]; · iexact S2
  iexact S3

set_option backward.isDefEq.respectTransparency.types false in
theorem run_main (hg : ∀ c, (args m c).Good) :
    θ_run defs (onTc (τ := τ) (main (F := Ideal))) (s₀ m ρ) (Pipeline.FramePost cfgs (dats m) 0 (V m)) :=
  Pipeline.θ_run_frame_track_shared cfgs (dats m) (0 : Fin 1) launch₀0 defs₀ Variants.none m ρ main
    (hbody := fun c => (body_obligation m hg c).loose) (hq := fun _ _ _ => rfl)
    (howed := fun _ _ => rfl) (V := V m) (hmain := hmain m Variants.none) (hA := fun _ _ => rfl)
    (hin := inv_in m) (hout := fun c => inv_out m c _)

/-! ## The result arrays -/

theorem flushed_6 (c : Dev nD) (t : Fin cfg0.N) :
    (dats m 0 c).flushed 6 t = ((cfg0.win 6).blk t).view.read (Elt Idealize.ShloMosaic.Ideal) (args m c).blk := by
  show (cfg0.win 6).cut (grid0.coords t) ((dats m 0 c).after 6 t) = _
  rw [after_6]
  funext y
  rw [View.read_apply]
  show (args m c).blk _ = (args m c).blk _
  congr 1
  funext a
  apply Fin.ext
  match a with
  | ⟨0, _⟩ =>
    have h0 : (y 0).val < 1 := (y 0).isLt
    show (batch t.val).val = (BitVec.ofNat 32 (grid0.coords t 0).val).toNat * 1 + 1 * (y 0).val; rw [index_0]; omega
  | ⟨1, _⟩ => show (y 1).val = 0 * 4 + 1 * (y 1).val; omega
  | ⟨2, _⟩ => show 8 * (K01.KernelIdeal.tile t.val).val + (y 2).val = (BitVec.ofNat 32 (grid0.coords t 1).val).toNat * 8 + 1 * (y 2).val; rw [index_1]; omega
  | ⟨3, _⟩ => show (y 3).val = 0 * 1024 + 1 * (y 3).val; omega

theorem flushed_7 (c : Dev nD) (t : Fin cfg0.N) :
    (dats m 0 c).flushed 7 t = ((cfg0.win 7).blk t).view.read (Elt Idealize.ShloMosaic.Ideal) (args m c).lse := by
  show (cfg0.win 7).cut (grid0.coords t) ((dats m 0 c).after 7 t) = _
  rw [after_7]
  funext y
  rw [View.read_apply]
  show (args m c).lse _ = (args m c).lse _
  congr 1
  funext a
  apply Fin.ext
  match a with
  | ⟨0, _⟩ =>
    have h0 : (y 0).val < 1 := (y 0).isLt
    show (batch t.val).val = (BitVec.ofNat 32 (grid0.coords t 0).val).toNat * 1 + 1 * (y 0).val; rw [index_0]; omega
  | ⟨1, _⟩ => show (y 1).val = 0 * 4 + 1 * (y 1).val; omega
  | ⟨2, _⟩ => show 128 * (K01.KernelIdeal.tile t.val).val + (y 2).val = (BitVec.ofNat 32 (grid0.coords t 1).val).toNat * 128 + 1 * (y 2).val; rw [index_1]; omega

theorem cover_6 (i : S2x4x1024x1024.Idx) : ∃ t : Fin cfg0.N, (cfg0.win 6).flush t = true ∧ i ∈ ((cfg0.win 6).blk t).view.set := by
  have h0 : (i 0).val < 2 := (i 0).isLt
  have h1 : (i 1).val < 4 := (i 1).isLt
  have h2 : (i 2).val < 1024 := (i 2).isLt
  have h3 : (i 3).val < 1024 := (i 3).isLt
  have hN : cfg0.N = 256 := N_0
  have ht : 128 * (i 0).val + (i 2).val / 8 < cfg0.N := by omega
  refine ⟨⟨128 * (i 0).val + (i 2).val / 8, ht⟩, flush0_6 _, ?_⟩
  show i ∈ ((View.whole main_v0_0).slice (win0_6.rect ⟨128 * (i 0).val + (i 2).val / 8, ht⟩)).set
  rw [View.set_slice_whole, Rect.mem_set_unit]
  intro a
  match a with
  | ⟨0, _⟩ =>
    show (BitVec.ofNat 32 (grid0.coords ⟨128 * (i 0).val + (i 2).val / 8, ht⟩ 0).val).toNat * 1 ≤ (i 0).val ∧ (i 0).val < (BitVec.ofNat 32 (grid0.coords ⟨128 * (i 0).val + (i 2).val / 8, ht⟩ 0).val).toNat * 1 + 1
    rw [index_0]
    show (128 * (i 0).val + (i 2).val / 8) / 128 % 2 * 1 ≤ (i 0).val ∧ (i 0).val < (128 * (i 0).val + (i 2).val / 8) / 128 % 2 * 1 + 1
    omega
  | ⟨1, _⟩ => show 0 * 4 ≤ (i 1).val ∧ (i 1).val < 0 * 4 + 4; omega
  | ⟨2, _⟩ =>
    show (BitVec.ofNat 32 (grid0.coords ⟨128 * (i 0).val + (i 2).val / 8, ht⟩ 1).val).toNat * 8 ≤ (i 2).val ∧ (i 2).val < (BitVec.ofNat 32 (grid0.coords ⟨128 * (i 0).val + (i 2).val / 8, ht⟩ 1).val).toNat * 8 + 8
    rw [index_1]
    show (128 * (i 0).val + (i 2).val / 8) % 128 * 8 ≤ (i 2).val ∧ (i 2).val < (128 * (i 0).val + (i 2).val / 8) % 128 * 8 + 8
    omega
  | ⟨3, _⟩ => show 0 * 1024 ≤ (i 3).val ∧ (i 3).val < 0 * 1024 + 1024; omega

theorem cover_7 (i : S2x4x16384.Idx) : ∃ t : Fin cfg0.N, (cfg0.win 7).flush t = true ∧ i ∈ ((cfg0.win 7).blk t).view.set := by
  have h0 : (i 0).val < 2 := (i 0).isLt
  have h1 : (i 1).val < 4 := (i 1).isLt
  have h2 : (i 2).val < 16384 := (i 2).isLt
  have hN : cfg0.N = 256 := N_0
  have ht : 128 * (i 0).val + (i 2).val / 128 < cfg0.N := by omega
  refine ⟨⟨128 * (i 0).val + (i 2).val / 128, ht⟩, flush0_7 _, ?_⟩
  show i ∈ ((View.whole main_v0_1).slice (win0_7.rect ⟨128 * (i 0).val + (i 2).val / 128, ht⟩)).set
  rw [View.set_slice_whole, Rect.mem_set_unit]
  intro a
  match a with
  | ⟨0, _⟩ =>
    show (BitVec.ofNat 32 (grid0.coords ⟨128 * (i 0).val + (i 2).val / 128, ht⟩ 0).val).toNat * 1 ≤ (i 0).val ∧ (i 0).val < (BitVec.ofNat 32 (grid0.coords ⟨128 * (i 0).val + (i 2).val / 128, ht⟩ 0).val).toNat * 1 + 1
    rw [index_0]
    show (128 * (i 0).val + (i 2).val / 128) / 128 % 2 * 1 ≤ (i 0).val ∧ (i 0).val < (128 * (i 0).val + (i 2).val / 128) / 128 % 2 * 1 + 1
    omega
  | ⟨1, _⟩ => show 0 * 4 ≤ (i 1).val ∧ (i 1).val < 0 * 4 + 4; omega
  | ⟨2, _⟩ =>
    show (BitVec.ofNat 32 (grid0.coords ⟨128 * (i 0).val + (i 2).val / 128, ht⟩ 1).val).toNat * 128 ≤ (i 2).val ∧ (i 2).val < (BitVec.ofNat 32 (grid0.coords ⟨128 * (i 0).val + (i 2).val / 128, ht⟩ 1).val).toNat * 128 + 128
    rw [index_1]
    show (128 * (i 0).val + (i 2).val / 128) % 128 * 128 ≤ (i 2).val ∧ (i 2).val < (128 * (i 0).val + (i 2).val / 128) % 128 * 128 + 128
    omega

/-- The run, read: both results at the formulas, the arguments unchanged. -/
theorem run (hg : ∀ c, (args m c).Good) :
    θ_run defs (onTc (τ := τ) (main (F := Idealize.ShloMosaic.Ideal))) ⟨m, fun _ => 0, ρ⟩ fun r => ∀ c : Dev nD,
      r.2.mem ((c : Thread nD τ).loc main_v0_0) = (args m c).blk
      ∧ r.2.mem ((c : Thread nD τ).loc main_v0_1) = (args m c).lse
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 6).trans ((dats m 0 c).arrAt_eq_of_cover 6 (args m c).blk (fun t _ => flushed_6 m c t) cover_6),
      ((h c).1 7).trans ((dats m 0 c).arrAt_eq_of_cover 7 (args m c).lse (fun t _ => flushed_7 m c t) cover_7),
      ((h c).1 3).trans ((dats m 0 c).arrAt_in 3 rfl _), ((h c).1 0).trans ((dats m 0 c).arrAt_in 0 rfl _),
      ((h c).1 5).trans ((dats m 0 c).arrAt_in 5 rfl _), ((h c).1 1).trans ((dats m 0 c).arrAt_in 1 rfl _)⟩)
    (run_main m ρ hg)

end K01.IdealRun

end
-- ==== Proof.Reference.lean ====
/-
  The reference's host operations, named and read at an index.

  After its one kernel has decoded the fp8 codes, the reference computes all its results on the host. The operations
  are collected here into a few named stages: the query rows, the key rows (their eight subrows reversed), the scaled
  scores, the causal mask, each row's log of the sum of exponentials, and the two results. Each stage is then read at an
  index, over the extended reals.
-/
module

public import proofs.«01_k».proof.Proof.Spec
public import proofs.«01_k».proof.Proof.Gen.ReferenceIdeal.Frame
public import Idealize.ShloMosaic.Lib.Pipeline.Value
public import Idealize.ShloMosaic.Lib.StableHlo.Run
public import Idealize.ShloMosaic.Lib.Pointwise

@[expose] public section

set_option maxRecDepth 16384

noncomputable section

namespace K01.RefRun

open Cert.ReferenceIdeal Cert.ReferenceIdeal.Gen
open Idealize.ShloMosaic Idealize.ShloMosaic.TcCoe Idealize.ShloMosaic.Pointwise
open Idealize.SL.Sem

/-- The query rows: eight memory rows of 256 make a row of 2048. -/
def queryRows (q : FVec Ideal S2x4x131072x256 .f32) : FVec Ideal S2x1x4x16384x2048 .f32 :=
  shapeCast S2x1x4x16384x2048 q shapeCasts_S2x4x131072x256_S2x1x4x16384x2048

/-- The fifth axis read backwards. -/
def reversed (k : FVec Ideal S2x1x1024x16x8x256 .f32) : FVec Ideal S2x1x1024x16x8x256 .f32 := Host.reverse [4] k

/-- The key rows, by place in a cell and cell, with a row's eight memory rows in reversed order. -/
def keyRows (k : FVec Ideal S2x1x131072x256 .f32) : FVec Ideal S2x1x16x1024x2048 .f32 :=
  shapeCast S2x1x16x1024x2048
    (transpose S2x1x16x1024x8x256 [0, 1, 3, 2, 4, 5]
      (reversed (shapeCast S2x1x1024x16x8x256 k shapeCasts_S2x1x131072x256_S2x1x1024x16x8x256))
      transposes_S2x1x1024x16x8x256_S2x1x16x1024x8x256_0_1_3_2_4_5)
    shapeCasts_S2x1x16x1024x8x256_S2x1x16x1024x2048

/-- The factor of each batch and head. -/
def factors (qs : FVec Ideal S2x4 .f32) (ks : FVec Ideal S2x1 .f32) : FVec Ideal S2x1x4 .f32 :=
  mulf
    (mulf (shapeCast S2x1x4 qs shapeCasts_S2x4_S2x1x4)
      (broadcastInDim S2x1x4 ![0, 1, 2] bcast_S2x1x1_S2x1x4_0_1_2
        (broadcastInDim S2x1x1 ![0, 1] bcast_S2x1_S2x1x1_0_1 ks)))
    (broadcastInDim S2x1x4 ![] bcast_S_S2x1x4 (constant S_ FTy.f32 1006632960#32))

/-- The scaled scores. -/
def scores (q : FVec Ideal S2x4x131072x256 .f32) (k : FVec Ideal S2x1x131072x256 .f32) (qs : FVec Ideal S2x4 .f32)
    (ks : FVec Ideal S2x1 .f32) : FVec Ideal S2x1x4x16384x16x1024 .f32 :=
  mulf
    (Host.dotGeneral dot_S2x1x4x16384x2048_S2x1x16x1024x2048_S2x1x4x16384x16x1024_4_4_23_23_01_01 none (queryRows q)
      (keyRows k))
    (broadcastInDim S2x1x4x16384x16x1024 ![0, 1, 2, 3, 4, 5]
      bcast_S2x1x4x1x1x1_S2x1x4x16384x16x1024_0_1_2_3_4_5
      (broadcastInDim S2x1x4x1x1x1 ![0, 1, 2] bcast_S2x1x4_S2x1x4x1x1x1_0_1_2 (factors qs ks)))

/-- Which keys a row sees: those not after it. -/
def causal : IVec S16384x16x1024 1 :=
  cmpi CmpIPredicate.sle
    (broadcastInDim S16384x16x1024 ![0, 1, 2] bcast_S1x16x1024_S16384x16x1024_0_1_2
      (broadcastInDim S1x16x1024 ![1, 2] bcast_S16x1024_S1x16x1024_1_2
        (addi
          (broadcastInDim S16x1024 ![0, 1] bcast_S1x1024_S16x1024_0_1
            (muli (broadcastInDim S1x1024 ![1] bcast_S1024_S1x1024_1 (iotaInDim S1024 32 0))
              (broadcastInDim S1x1024 ![] bcast_S_S1x1024 (constantI S_ 32 16#32))))
          (broadcastInDim S16x1024 ![0, 1] bcast_S16x1_S16x1024_0_1
            (broadcastInDim S16x1 ![0] bcast_S16_S16x1_0 (iotaInDim S16 32 0))))))
    (broadcastInDim S16384x16x1024 ![0, 1, 2] bcast_S16384x1x1_S16384x16x1024_0_1_2
      (broadcastInDim S16384x1x1 ![0] bcast_S16384_S16384x1x1_0 (iotaInDim S16384 32 0)))

/-- The scores with minus infinity where the mask hides the key. -/
def masked (s : FVec Ideal S2x1x4x16384x16x1024 .f32) : FVec Ideal S2x1x4x16384x16x1024 .f32 :=
  select (broadcastInDim S2x1x4x16384x16x1024 ![3, 4, 5] bcast_S16384x16x1024_S2x1x4x16384x16x1024_3_4_5 causal) s
    (broadcastInDim S2x1x4x16384x16x1024 ![] bcast_S_S2x1x4x16384x16x1024 (id (constant S_ FTy.f32 4286578688#32)))

/-- Each row's log of the sum of exponentials. -/
def logTotals (x : FVec Ideal S2x1x4x16384x16x1024 .f32) : FVec Ideal S2x1x4x16384 .f32 :=
  Host.log (Host.reduceAdd (Host.exp x) (constant S_ FTy.f32 0#32)
    reducesTo_S2x1x4x16384x16x1024_S2x1x4x16384_d4_5 h_S_)

/-- The log of each row's number of visible keys. -/
def logCounts : FVec Ideal S16384 .f32 :=
  Host.log (sitofp FTy.f32 (addi (iotaInDim S16384 32 0) (broadcastInDim S16384 ![] bcast_S_S16384 (constantI S_ 32 1#32))))

/-- The second result from the masked scores. -/
def lseOf (x : FVec Ideal S2x1x4x16384x16x1024 .f32) : FVec Ideal S2x4x16384 .f32 :=
  shapeCast S2x4x16384
    (subf (logTotals x)
      (broadcastInDim S2x1x4x16384 ![0, 1, 2, 3] bcast_S1x1x1x16384_S2x1x4x16384_0_1_2_3
        (broadcastInDim S1x1x1x16384 ![3] bcast_S16384_S1x1x1x16384_3 logCounts)))
    shapeCasts_S2x1x4x16384_S2x4x16384

/-- The probabilities. -/
def probs (x : FVec Ideal S2x1x4x16384x16x1024 .f32) : FVec Ideal S2x1x4x16384x16x1024 .f32 :=
  Host.exp (subf x
    (broadcastInDim S2x1x4x16384x16x1024 ![0, 1, 2, 3, 4, 5]
      bcast_S2x1x4x16384x1x1_S2x1x4x16384x16x1024_0_1_2_3_4_5
      (broadcastInDim S2x1x4x16384x1x1 ![0, 1, 2, 3] bcast_S2x1x4x16384_S2x1x4x16384x1x1_0_1_2_3 (logTotals x))))

/-- The first result from the probabilities. -/
def blkOf (p : FVec Ideal S2x1x4x16384x16x1024 .f32) : FVec Ideal S2x4x1024x1024 .f32 :=
  shapeCast S2x4x1024x1024
    (Host.reduceAdd (shapeCast S2x1x4x1024x16x16x1024 p shapeCasts_S2x1x4x16384x16x1024_S2x1x4x1024x16x16x1024)
      (constant S_ FTy.f32 0#32) reducesTo_S2x1x4x1024x16x16x1024_S2x1x4x1024x1024_d4_5 h_S_)
    shapeCasts_S2x1x4x1024x1024_S2x4x1024x1024

/-- The masked scores from the arrays the host operations read. -/
abbrev maskedOf (W : Valuation τ sig (Elt Ideal)) : FVec Ideal S2x1x4x16384x16x1024 .f32 :=
  masked (scores (W (Proc.devRef .tc main_v0_0)) (W (Proc.devRef .tc main_v0_1)) (W (Proc.devRef .tc main_arg1))
    (W (Proc.devRef .tc main_arg3)))

theorem lse_eq (W : Valuation τ sig (Elt Ideal)) :
    StableHlo.after (List.flatten [hostOps1, hostOps1_1, hostOps1_2, hostOps1_3, hostOps1_4]) W
      (Proc.devRef .tc main_v49) = lseOf (maskedOf W) := by
  simp only [hostOps1, hostOps1_1, hostOps1_2, hostOps1_3, hostOps1_4, List.flatten_cons, List.flatten_nil,
    List.append_nil, List.cons_append, List.nil_append]
  after_results
  rfl

theorem blk_eq (W : Valuation τ sig (Elt Ideal)) :
    StableHlo.after (List.flatten [hostOps1, hostOps1_1, hostOps1_2, hostOps1_3, hostOps1_4]) W
      (Proc.devRef .tc main_v48) = blkOf (probs (maskedOf W)) := by
  simp only [hostOps1, hostOps1_1, hostOps1_2, hostOps1_3, hostOps1_4, List.flatten_cons, List.flatten_nil,
    List.append_nil, List.cons_append, List.nil_append]
  after_results
  rfl

end K01.RefRun

end
-- ==== Proof.ReferenceRead.lean ====
/-
  The reference's stages, read at an index over the extended reals.
-/
module

public import proofs.«01_k».proof.Proof.Reference

@[expose] public section

set_option maxRecDepth 16384

noncomputable section

namespace K01.RefRun

open Cert.ReferenceIdeal Cert.ReferenceIdeal.Gen
open Idealize.ShloMosaic Idealize.ShloMosaic.TcCoe Idealize.ShloMosaic.Pointwise
open Idealize.SL.Sem

/-- Summing out the last two axes of six. -/
theorem sum_axes6 (h : S2x1x4x16384x16x1024.ReducesTo [4, 5] S2x1x4x16384) (b : Fin 2) (z : Fin 1) (e : Fin 4)
    (row : Fin 16384) (x : S2x1x4x16384x16x1024.Idx → EReal) :
    Ideal.hostReduceAdd h x 0 (ix4 b z e row) = ∑ d : Fin 16, ∑ c : Fin 1024, x (ix6 b z e row d c) := by
  have hp : ∀ i : S2x1x4x16384x16x1024.Idx, h.drop i = ix4 b z e row
      ↔ ∃ k : Fin 16 × Fin 1024, (ix6 b z e row k.1 k.2 : S2x1x4x16384x16x1024.Idx) = i := by
    intro i
    constructor
    · intro eq
      refine ⟨(i 4, i 5), ?_⟩
      funext a
      apply Fin.ext
      match a with
      | ⟨0, _⟩ => exact (congrArg Fin.val (congrFun eq 0)).symm
      | ⟨1, _⟩ => exact (congrArg Fin.val (congrFun eq 1)).symm
      | ⟨2, _⟩ => exact (congrArg Fin.val (congrFun eq 2)).symm
      | ⟨3, _⟩ => exact (congrArg Fin.val (congrFun eq 3)).symm
      | ⟨4, _⟩ => rfl
      | ⟨5, _⟩ => rfl
    · rintro ⟨k, rfl⟩
      funext a
      apply Fin.ext
      match a with
      | ⟨0, _⟩ => rfl
      | ⟨1, _⟩ => rfl
      | ⟨2, _⟩ => rfl
      | ⟨3, _⟩ => rfl
  refine (zero_add _).trans ?_
  refine (Finset.sum_filter_eq_sum_of_fiber _ (fun k : Fin 16 × Fin 1024 => (ix6 b z e row k.1 k.2 : S2x1x4x16384x16x1024.Idx))
    (fun _ _ eq => Prod.ext (congrFun eq 4) (congrFun eq 5)) hp x).trans ?_
  exact Fintype.sum_prod_type _

/-- Summing out the fifth and sixth axes of seven. -/
theorem sum_axes7 (h : S2x1x4x1024x16x16x1024.ReducesTo [4, 5] S2x1x4x1024x1024) (b : Fin 2) (z : Fin 1) (e : Fin 4)
    (R : Fin 1024) (kb : Fin 1024) (x : S2x1x4x1024x16x16x1024.Idx → EReal) :
    Ideal.hostReduceAdd h x 0 (ix5 b z e R kb) = ∑ c : Fin 16, ∑ d : Fin 16, x (ix7 b z e R c d kb) := by
  have hp : ∀ i : S2x1x4x1024x16x16x1024.Idx, h.drop i = ix5 b z e R kb
      ↔ ∃ k : Fin 16 × Fin 16, (ix7 b z e R k.1 k.2 kb : S2x1x4x1024x16x16x1024.Idx) = i := by
    intro i
    constructor
    · intro eq
      refine ⟨(i 4, i 5), ?_⟩
      funext a
      apply Fin.ext
      match a with
      | ⟨0, _⟩ => exact (congrArg Fin.val (congrFun eq 0)).symm
      | ⟨1, _⟩ => exact (congrArg Fin.val (congrFun eq 1)).symm
      | ⟨2, _⟩ => exact (congrArg Fin.val (congrFun eq 2)).symm
      | ⟨3, _⟩ => exact (congrArg Fin.val (congrFun eq 3)).symm
      | ⟨4, _⟩ => rfl
      | ⟨5, _⟩ => rfl
      | ⟨6, _⟩ => exact (congrArg Fin.val (congrFun eq 4)).symm
    · rintro ⟨k, rfl⟩
      funext a
      apply Fin.ext
      match a with
      | ⟨0, _⟩ => rfl
      | ⟨1, _⟩ => rfl
      | ⟨2, _⟩ => rfl
      | ⟨3, _⟩ => rfl
      | ⟨4, _⟩ => rfl
  refine (zero_add _).trans ?_
  refine (Finset.sum_filter_eq_sum_of_fiber _
    (fun k : Fin 16 × Fin 16 => (ix7 b z e R k.1 k.2 kb : S2x1x4x1024x16x16x1024.Idx))
    (fun _ _ eq => Prod.ext (congrFun eq 4) (congrFun eq 5)) hp x).trans ?_
  exact Fintype.sum_prod_type _

theorem queryRows_apply (q : FVec Ideal S2x4x131072x256 .f32) (b : Fin 2) (z : Fin 1) (h : Fin 4) (row : Fin 16384)
    (j : Fin 2048) : queryRows q (ix5 b z h row j)
      = q (ix4 b h ⟨8 * row.val + j.val / 256, by omega⟩ ⟨j.val % 256, by omega⟩) := by
  pointwise [queryRows]
  congr 2
  apply Fin.ext
  show row.val * 8 + j.val / 256 = 8 * row.val + j.val / 256
  omega

theorem reversed_apply (x : FVec Ideal S2x1x1024x16x8x256 .f32) (b : Fin 2) (z : Fin 1) (c : Fin 1024) (d : Fin 16)
    (s : Fin 8) (l : Fin 256) : reversed x (ix6 b z c d s l) = x (ix6 b z c d s.rev l) := by
  refine congrArg x (funext fun a => ?_)
  match a with
  | ⟨0, _⟩ => rfl
  | ⟨1, _⟩ => rfl
  | ⟨2, _⟩ => rfl
  | ⟨3, _⟩ => rfl
  | ⟨4, _⟩ => rfl
  | ⟨5, _⟩ => rfl

theorem keyRows_apply (k : FVec Ideal S2x1x131072x256 .f32) (b : Fin 2) (z : Fin 1) (d : Fin 16) (c : Fin 1024)
    (j : Fin 2048) : keyRows k (ix5 b z d c j)
      = k (ix4 b 0 ⟨8 * (16 * c.val + d.val) + (7 - j.val / 256), by omega⟩ ⟨j.val % 256, by omega⟩) := by
  pointwise [keyRows]
  rw [reversed_apply]
  pointwise
  congr 2
  apply Fin.ext
  show c.val * 128 + d.val * 8 + (8 - (j.val / 256 + 1)) = 8 * (16 * c.val + d.val) + (7 - j.val / 256)
  omega

theorem factors_apply (qs : FVec Ideal S2x4 .f32) (ks : FVec Ideal S2x1 .f32) (b : Fin 2) (z : Fin 1) (h : Fin 4) :
    factors qs ks (ix3 b z h) = (qs (ix2 b h) * ks (ix2 b 0)) * Ideal.ofBits .f32 0x3C000000#32 := by
  pointwise [factors]

theorem scores_apply (q : FVec Ideal S2x4x131072x256 .f32) (k : FVec Ideal S2x1x131072x256 .f32) (qs : FVec Ideal S2x4 .f32)
    (ks : FVec Ideal S2x1 .f32) (b : Fin 2) (h : Fin 4) (row : Fin 16384) (d : Fin 16) (c : Fin 1024) :
    scores q k qs ks (ix6 b 0 h row d c)
      = (∑ j : Fin 2048, queryRows q (ix5 b 0 h row j) * keyRows k (ix5 b 0 d c j)) * factors qs ks (ix3 b 0 h) := by
  pointwise [scores]

theorem causal_apply (row : Fin 16384) (d : Fin 16) (c : Fin 1024) :
    causal (ix3 row d c) = BitVec.ofBool (decide (16 * c.val + d.val ≤ row.val)) := by
  pointwise [causal]
  have e : IntOp.addi (IntOp.muli (BitVec.ofNat 32 c.val) 16#32) (BitVec.ofNat 32 d.val)
      = BitVec.ofNat 32 (16 * c.val + d.val) := by
    show BitVec.ofNat 32 c.val * BitVec.ofNat 32 16 + BitVec.ofNat 32 d.val = _
    rw [← BitVec.ofNat_mul, ← BitVec.ofNat_add, Nat.mul_comm]
  rw [e]
  exact WordCmp.cmpi_sle_ofNat (by omega) (by omega)

theorem masked_apply (s : FVec Ideal S2x1x4x16384x16x1024 .f32) (b : Fin 2) (z : Fin 1) (h : Fin 4) (row : Fin 16384)
    (d : Fin 16) (c : Fin 1024) : masked s (ix6 b z h row d c)
      = if 16 * c.val + d.val ≤ row.val then s (ix6 b z h row d c) else ⊥ := by
  pointwise [masked]
  have hb : (id (constant (F := Ideal) S_ FTy.f32 4286578688#32) ix0 : Ideal .f32) = (⊥ : EReal) := by
    show Ideal.ofBits .f32 4286578688#32 = ⊥
    simp [Ideal.ofBits, Ideal.ieee]
  rw [causal_apply]
  refine (congrArg (fun v => Scalar.select _ (s (ix6 b z h row d c)) v) hb).trans ?_
  by_cases hc : 16 * c.val + d.val ≤ row.val
  · rw [if_pos hc, decide_eq_true hc]; rfl
  · rw [if_neg hc, decide_eq_false hc]; rfl

theorem logCounts_apply (row : Fin 16384) : logCounts (ix1 row) = ((Real.log ((row.val : ℝ) + 1) : ℝ) : EReal) := by
  pointwise [logCounts]
  have hr : FloatOps.sitofp (F := Ideal) .f32 (IntOp.addi (BitVec.ofNat 32 row.val) 1#32)
      = (((row.val : ℝ) + 1 : ℝ) : EReal) := by
    show (((BitVec.ofNat 32 row.val + BitVec.ofNat 32 1 : BitVec 32).toInt : ℝ) : EReal) = _
    rw [← BitVec.ofNat_add]
    have e2 : (BitVec.ofNat 32 (row.val + 1)).toInt = (row.val : Int) + 1 := by
      rw [BitVec.toInt_ofNat', Int.bmod_eq_of_le] <;> omega
    rw [e2]
    push_cast
    rfl
  rw [hr, Ideal.log_coe, if_neg (not_le.2 (by positivity))]

theorem logTotals_apply (x : FVec Ideal S2x1x4x16384x16x1024 .f32) (b : Fin 2) (z : Fin 1) (h : Fin 4) (row : Fin 16384) :
    logTotals x (ix4 b z h row) = Ideal.log (∑ d : Fin 16, ∑ c : Fin 1024, Ideal.exp (x (ix6 b z h row d c))) := by
  pointwise [logTotals]
  exact congrArg Ideal.log (sum_axes6 _ b z h row _)

theorem lseOf_apply (x : FVec Ideal S2x1x4x16384x16x1024 .f32) (b : Fin 2) (h : Fin 4) (row : Fin 16384) :
    lseOf x (ix3 b h row) = logTotals x (ix4 b 0 h row) - logCounts (ix1 row) := by
  pointwise [lseOf]

theorem probs_apply (x : FVec Ideal S2x1x4x16384x16x1024 .f32) (b : Fin 2) (h : Fin 4) (row : Fin 16384)
    (d : Fin 16) (c : Fin 1024) : probs x (ix6 b 0 h row d c)
      = Ideal.exp (x (ix6 b 0 h row d c) - logTotals x (ix4 b 0 h row)) := by
  pointwise [probs]

theorem blkOf_apply (p : FVec Ideal S2x1x4x16384x16x1024 .f32) (b : Fin 2) (h : Fin 4) (R : Fin 1024) (kb : Fin 1024) :
    blkOf p (ix4 b h R kb) = ∑ c : Fin 16, ∑ d : Fin 16, p (ix6 b 0 h ⟨16 * R.val + c.val, by omega⟩ d kb) := by
  pointwise [blkOf]
  refine (sum_axes7 _ b 0 h R kb _).trans ?_
  refine Finset.sum_congr rfl fun c _ => Finset.sum_congr rfl fun d _ => ?_
  pointwise
  congr 2
  apply Fin.ext
  show R.val * 16 + c.val = 16 * R.val + c.val
  omega

end K01.RefRun

end
-- ==== Proof.ReferenceSpec.lean ====
/-
  The reference's results on decoded arguments that are real numbers: the two functions of `Args`.
-/
module

public import proofs.«01_k».proof.Proof.ReferenceRead

@[expose] public section

set_option maxRecDepth 16384

noncomputable section

namespace K01.RefRun

open Cert.ReferenceIdeal Cert.ReferenceIdeal.Gen
open Idealize.ShloMosaic Idealize.ShloMosaic.TcCoe Idealize.ShloMosaic.Pointwise

/-- The masked scores of the decoded arguments. -/
def maskedArgs (A : Args) : FVec Ideal S2x1x4x16384x16x1024 .f32 :=
  masked (scores (fun y => val (A.q y)) (fun y => val (A.k y)) A.qs A.ks)

theorem scores_args (A : Args) (b : Fin 2) (h : Fin 4) (row : Fin 16384) (d : Fin 16) (c : Fin 1024) :
    scores (fun y => val (A.q y)) (fun y => val (A.k y)) A.qs A.ks (ix6 b 0 h row d c)
      = A.dot b h (16 * c.val + d.val) row.val := by
  rw [scores_apply, factors_apply]
  unfold Args.dot
  refine congrArg (fun s : EReal => s * ((A.qs (ix2 b h) * A.ks (ix2 b 0)) * Ideal.ofBits .f32 0x3C000000#32)) ?_
  refine Finset.sum_congr rfl fun j _ => ?_
  rw [queryRows_apply, keyRows_apply, mul_comm]
  refine congrArg₂ (fun s t : BitVec 8 => val s * val t) ?_ ?_
  · unfold Args.key
    congr 2
    exact Fin.ext (Nat.mod_eq_of_lt (by omega)).symm
  · unfold Args.query
    congr 2
    exact Fin.ext (Nat.mod_eq_of_lt (by omega)).symm

theorem masked_args {A : Args} (g : A.Good) (b : Fin 2) (h : Fin 4) (row : Fin 16384) (d : Fin 16) (c : Fin 1024) :
    (maskedArgs A (ix6 b 0 h row d c) : EReal)
      = if 16 * c.val + d.val ≤ row.val then ((A.score b h (16 * c.val + d.val) row.val : ℝ) : EReal) else ⊥ := by
  unfold maskedArgs
  rw [masked_apply, scores_args, g.dot]

/-- The total, in the order in which the reference sums. -/
theorem total_eq (A : Args) (b : Fin 2) (h : Fin 4) (row : Nat) :
    A.total b h row = ∑ d : Fin 16, ∑ c : Fin 1024, A.term b h (16 * c.val + d.val) row := by
  unfold Args.total
  rw [show (16384 : Nat) = 1024 * 16 from rfl, sum_range_rows, Finset.sum_comm, Finset.sum_range]
  exact Finset.sum_congr rfl fun d _ => Finset.sum_range _

theorem total_pos (A : Args) (b : Fin 2) (h : Fin 4) (row : Nat) : 0 < A.total b h row :=
  (Finset.sum_pos' (fun kc _ => by unfold Args.term; split_ifs <;> positivity) ⟨0, by simp, by
    unfold Args.term; rw [if_pos (Nat.zero_le _)]; exact Real.exp_pos _⟩)

theorem exp_masked {A : Args} (g : A.Good) (b : Fin 2) (h : Fin 4) (row : Fin 16384) (d : Fin 16) (c : Fin 1024) :
    Ideal.exp (maskedArgs A (ix6 b 0 h row d c)) = ((A.term b h (16 * c.val + d.val) row.val : ℝ) : EReal) := by
  rw [masked_args g]
  unfold Args.term
  by_cases hc : 16 * c.val + d.val ≤ row.val
  · rw [if_pos hc, if_pos hc, Ideal.exp_coe]
  · rw [if_neg hc, if_neg hc]
    exact Ideal.exp_bot

theorem logTotals_args {A : Args} (g : A.Good) (b : Fin 2) (h : Fin 4) (row : Fin 16384) :
    (logTotals (maskedArgs A) (ix4 b 0 h row) : EReal) = ((Real.log (A.total b h row.val) : ℝ) : EReal) := by
  have e : (∑ d : Fin 16, ∑ c : Fin 1024, Ideal.exp (maskedArgs A (ix6 b 0 h row d c)))
      = ((A.total b h row.val : ℝ) : EReal) := by
    rw [total_eq, ← coe_sum]
    refine Finset.sum_congr rfl fun d _ => ?_
    rw [← coe_sum]
    exact Finset.sum_congr rfl fun c _ => exp_masked g b h row d c
  rw [logTotals_apply, e, Ideal.log_coe, if_neg (not_le.2 (total_pos A b h row.val))]

theorem probs_args {A : Args} (g : A.Good) (b : Fin 2) (h : Fin 4) (row : Fin 16384) (d : Fin 16) (c : Fin 1024) :
    (probs (maskedArgs A) (ix6 b 0 h row d c) : EReal)
      = ((A.term b h (16 * c.val + d.val) row.val / A.total b h row.val : ℝ) : EReal) := by
  rw [probs_apply, logTotals_args g, masked_args g]
  unfold Args.term
  by_cases hc : 16 * c.val + d.val ≤ row.val
  · rw [if_pos hc, if_pos hc, ← EReal.coe_sub, Ideal.exp_coe, Real.exp_sub, Real.exp_log (total_pos A b h row.val)]
  · rw [if_neg hc, if_neg hc, zero_div, EReal.bot_sub]
    exact Ideal.exp_bot

theorem lseOf_args {A : Args} (g : A.Good) : lseOf (maskedArgs A) = A.lse := by
  have e : ∀ (b : Fin 2) (h : Fin 4) (row : Fin 16384), lseOf (maskedArgs A) (ix3 b h row) = A.lse (ix3 b h row) := by
    intro b h row
    rw [lseOf_apply, logTotals_args g, logCounts_apply, ← EReal.coe_sub]
    rfl
  funext y
  exact (congrArg (lseOf (maskedArgs A)) (eq_ix3 y)).trans ((e (y 0) (y 1) (y 2)).trans (congrArg A.lse (eq_ix3 y).symm))

theorem blkOf_args {A : Args} (g : A.Good) : blkOf (probs (maskedArgs A)) = A.blk := by
  have e : ∀ (b : Fin 2) (h : Fin 4) (R kb : Fin 1024),
      blkOf (probs (maskedArgs A)) (ix4 b h R kb) = A.blk (ix4 b h R kb) := by
    intro b h R kb
    rw [blkOf_apply]
    unfold Args.blk
    rw [Finset.sum_range, ← coe_sum]
    refine Finset.sum_congr rfl fun c _ => ?_
    rw [Finset.sum_range, Finset.sum_div, ← coe_sum]
    exact Finset.sum_congr rfl fun d _ => probs_args g b h ⟨16 * R.val + c.val, by omega⟩ d kb
  funext y
  exact (congrArg (blkOf (probs (maskedArgs A))) (eq_ix4 y)).trans
    ((e (y 0) (y 1) (y 2) (y 3)).trans (congrArg A.blk (eq_ix4 y).symm))

end K01.RefRun

end
-- ==== Proof.ReferenceValue.lean ====
/-
  The reference's run, read: its results are the two functions of `Args`.
-/
module

public import proofs.«01_k».proof.Proof.ReferenceSpec

@[expose] public section

set_option maxRecDepth 16384

noncomputable section

namespace K01.RefRun

open Cert.ReferenceIdeal Cert.ReferenceIdeal.Gen
open Idealize.ShloMosaic Idealize.ShloMosaic.TcCoe
open Idealize.SL.Sem
open Idealize.ShloMosaic.Pipeline (Dat)

variable (m : (ℓ : Loc nD τ sig) → Buf (Elt Ideal) ℓ) (ρ : Dev nD → PrngReg)

/-- The reference's arguments. -/
def args (c : Dev nD) : Args where
  q := m ((c : Thread nD τ).loc main_arg0)
  qs := m ((c : Thread nD τ).loc main_arg1)
  k := m ((c : Thread nD τ).loc main_arg2)
  ks := m ((c : Thread nD τ).loc main_arg3)

/-- The decoded queries. -/
abbrev decQ (c : Dev nD) : Buf (Elt Ideal) ((c : Thread nD τ).loc main_v0_0) :=
  fun (y : S2x4x131072x256.Idx) => val ((args m c).q y)

/-- The decoded keys. -/
abbrev decK (c : Dev nD) : Buf (Elt Ideal) ((c : Thread nD τ).loc main_v0_1) :=
  fun (y : S2x1x131072x256.Idx) => val ((args m c).k y)

theorem hz : (![0, 0, 0, 0] : Fin 4 → Nat) = fun _ => 0 := funext fun a => by fin_cases a <;> rfl

theorem flushed_q (c : Dev nD) (t : Fin cfg0.N) :
    (dats m 0 c).flushed 2 t = (win0_2.blk t).view.read (Elt Ideal) (decQ m c) := by
  show (cfg0.win 2).cut (grid0.coords t) ((dats m 0 c).after 2 t) = _
  rw [after0_2]
  unfold out0_2
  rw [View.canon_unit_zero hz, View.ld_unit_zero hz]
  rfl

theorem flushed_k (c : Dev nD) (t : Fin cfg0.N) :
    (dats m 0 c).flushed 3 t = (win0_3.blk t).view.read (Elt Ideal) (decK m c) := by
  show (cfg0.win 3).cut (grid0.coords t) ((dats m 0 c).after 3 t) = _
  rw [after0_3]
  unfold out0_3
  rw [View.canon_unit_zero hz, View.ld_unit_zero hz]
  rfl

theorem cover_q (i : S2x4x131072x256.Idx) :
    ∃ t : Fin cfg0.N, (cfg0.win 2).flush t = true ∧ i ∈ ((cfg0.win 2).blk t).view.set := by
  refine ⟨t0_0, flush0_2 _, ?_⟩
  show i ∈ ((View.whole main_v0_0).slice (win0_2.rect t0_0)).set
  rw [View.set_slice_whole, Rect.mem_set_unit]
  have e : ∀ a, win0_2.index t0_0 a * win0_2.size a = 0 ∧ win0_2.xsize (grid0.coords t0_0) a = S2x4x131072x256.size a := by
    decide +kernel
  intro a
  have h := (i a).isLt
  show win0_2.index t0_0 a * win0_2.size a ≤ (i a : Nat)
    ∧ (i a : Nat) < win0_2.index t0_0 a * win0_2.size a + win0_2.xsize (grid0.coords t0_0) a
  rw [(e a).1, (e a).2]
  exact ⟨Nat.zero_le _, by rw [Nat.zero_add]; exact h⟩

theorem cover_k (i : S2x1x131072x256.Idx) :
    ∃ t : Fin cfg0.N, (cfg0.win 3).flush t = true ∧ i ∈ ((cfg0.win 3).blk t).view.set := by
  refine ⟨t0_0, flush0_3 _, ?_⟩
  show i ∈ ((View.whole main_v0_1).slice (win0_3.rect t0_0)).set
  rw [View.set_slice_whole, Rect.mem_set_unit]
  have e : ∀ a, win0_3.index t0_0 a * win0_3.size a = 0 ∧ win0_3.xsize (grid0.coords t0_0) a = S2x1x131072x256.size a := by
    decide +kernel
  intro a
  have h := (i a).isLt
  show win0_3.index t0_0 a * win0_3.size a ≤ (i a : Nat)
    ∧ (i a : Nat) < win0_3.index t0_0 a * win0_3.size a + win0_3.xsize (grid0.coords t0_0) a
  rw [(e a).1, (e a).2]
  exact ⟨Nat.zero_le _, by rw [Nat.zero_add]; exact h⟩

/-- The decoding kernel's first result. -/
theorem final_q (c : Dev nD) : (dats m 0 c).arrAt 2 cfg0.N = decQ m c :=
  (dats m 0 c).arrAt_eq_of_cover 2 (decQ m c) (fun t _ => flushed_q m c t) cover_q

/-- The decoding kernel's second result. -/
theorem final_k (c : Dev nD) : (dats m 0 c).arrAt 3 cfg0.N = decK m c :=
  (dats m 0 c).arrAt_eq_of_cover 3 (decK m c) (fun t _ => flushed_k m c t) cover_k

/-- What the host operations after the kernel find. -/
abbrev found (c : Dev nD) : Valuation τ sig (Elt Ideal) :=
  Pipeline.withArrays (cfgs 0).spec c (V0 m c) fun w => (dats m 0 c).arrAt w (cfgs 0).N

theorem masked_found (c : Dev nD) : maskedOf (found m c) = maskedArgs (args m c) := by
  have h0 : found m c (Proc.devRef .tc main_v0_0) = decQ m c :=
    (Pipeline.withArrays_arr spec0 (by decide) c (V0 m c) _ 2).trans (final_q m c)
  have h1 : found m c (Proc.devRef .tc main_v0_1) = decK m c :=
    (Pipeline.withArrays_arr spec0 (by decide) c (V0 m c) _ 3).trans (final_k m c)
  have h2 : found m c (Proc.devRef .tc main_arg1) = (args m c).qs :=
    Pipeline.withArrays_of_ne _ c (V0 m c) _ main_arg1 (by exact (by decide : ∀ w, Pipeline.arrRef spec0 w ≠ main_arg1))
  have h3 : found m c (Proc.devRef .tc main_arg3) = (args m c).ks :=
    Pipeline.withArrays_of_ne _ c (V0 m c) _ main_arg3 (by exact (by decide : ∀ w, Pipeline.arrRef spec0 w ≠ main_arg3))
  unfold maskedOf
  rw [h0, h1, h2, h3]
  rfl

theorem tail_lse {c : Dev nD} (g : (args m c).Good) :
    Pipeline.afterTail₀ cfgs (dats m) 0 (V0 m) [hostOps1, hostOps1_1, hostOps1_2, hostOps1_3, hostOps1_4] c main_v49
      = (args m c).lse := by
  unfold Pipeline.afterTail₀
  exact (lse_eq (found m c)).trans ((congrArg lseOf (masked_found m c)).trans (lseOf_args g))

theorem tail_blk {c : Dev nD} (g : (args m c).Good) :
    Pipeline.afterTail₀ cfgs (dats m) 0 (V0 m) [hostOps1, hostOps1_1, hostOps1_2, hostOps1_3, hostOps1_4] c main_v48
      = (args m c).blk := by
  unfold Pipeline.afterTail₀
  exact (blk_eq (found m c)).trans ((congrArg (fun x => blkOf (probs x)) (masked_found m c)).trans (blkOf_args g))

/-- The run, read: both results, and the arguments unchanged. -/
theorem run (hg : ∀ c, (args m c).Good) :
    θ_run defs (onTc (τ := τ) (main (F := Ideal))) ⟨m, fun _ => 0, ρ⟩ fun r => ∀ c : Dev nD,
      r.2.mem ((c : Thread nD τ).loc main_v48) = (args m c).blk
      ∧ r.2.mem ((c : Thread nD τ).loc main_v49) = (args m c).lse
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h.1 c).2 main_v48 (Pipeline.mem_restRefs_of main_v48 (by decide) (by decide))).trans (tail_blk m (hg c)),
      ((h.1 c).2 main_v49 (Pipeline.mem_restRefs_of main_v49 (by decide) (by decide))).trans (tail_lse m (hg c)),
      h.2 c⟩)
    (θ_run_and (run_main m ρ) (unchanged m ρ))

end K01.RefRun

end
-- ==== Proof.Precondition.lean ====
/-
  What the precondition says of the arguments: no code is a NaN, and the scales are real numbers.
-/
module

public import proofs.«01_k».proof.Pre_finite
public import proofs.«01_k».proof.Proof.Spec
public import Idealize.ShloMosaic.Lib.ReduceAll
public import Idealize.ShloMosaic.Lib.Affine
public import Idealize.ShloMosaic.Lib.Pointwise

@[expose] public section

set_option maxRecDepth 16384

noncomputable section

namespace K01.PreFinite

open Cert.Pre_finite
open Idealize.ShloMosaic Idealize.ShloMosaic.Pointwise

theorem facts : Facts where
  bcast_S_S2x4x131072x256 := by decide
  reducesTo_S2x4x131072x256_S_d0_1_2_3 := by decide
  h_S_ := by decide
  bcast_S_S2x1x131072x256 := by decide
  reducesTo_S2x1x131072x256_S_d0_1_2_3 := by decide
  bcast_S_S2x4 := by decide
  reducesTo_S2x4_S_d0_1 := by decide
  bcast_S_S2x1 := by decide
  reducesTo_S2x1_S_d0_1 := by decide

theorem code_ok (c : BitVec 8) (h : IntOp.andi (IntOp.cmpi .ne c 127#8) (IntOp.cmpi .ne c 255#8) = 1#1) :
    c ≠ 127#8 ∧ c ≠ 255#8 := by
  revert h; revert c; decide

/-- An extended real of absolute value below infinity is a real number. -/
theorem scale_ok (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have e : (FloatOps.ofBits (F := Ideal) .f32 0x7F800000#32 : EReal) = ⊤ := by
    show Ideal.ofBits .f32 0x7F800000#32 = ⊤
    simp [Ideal.ofBits, Ideal.ieee]
  have h1 : BitVec.ofBool (decide (max x (-x) < (FloatOps.ofBits (F := Ideal) .f32 0x7F800000#32 : EReal))) = 1#1 := h
  rw [e] at h1
  have h2 : max x (-x) < ⊤ := by
    by_contra hn
    rw [decide_eq_false hn] at h1
    exact absurd h1 (by decide)
  induction x with
  | bot => exact absurd h2 (by simp)
  | top => exact absurd h2 (by simp)
  | coe r => exact ⟨r, rfl⟩

instance : Subsingleton S_.Idx := ⟨fun a b => funext fun i => i.elim0⟩

/-- The precondition gives what the values need. -/
theorem good [Facts] (A : Args) (h : fn (F := Ideal) A.q A.qs A.k A.ks = fun _ => 1#1) : A.Good := by
  have h0 := congrFun h ix0
  unfold fn fn_part1 at h0
  dsimp only at h0
  obtain ⟨h1, hks⟩ := IntOp.andi_eq_one.1 h0
  obtain ⟨h2, hqs⟩ := IntOp.andi_eq_one.1 h1
  obtain ⟨hq, hk⟩ := IntOp.andi_eq_one.1 h2
  exact {
    q := fun y => code_ok _ (Host.reduce_andi_all _ _ _ _ _ hq y)
    k := fun y => code_ok _ (Host.reduce_andi_all _ _ _ _ _ hk y)
    qs := fun y => scale_ok _ (Host.reduce_andi_all _ _ _ _ _ hqs y)
    ks := fun y => scale_ok _ (Host.reduce_andi_all _ _ _ _ _ hks y) }

end K01.PreFinite

end
-- ==== Proof.Algebraic.lean ====
/-
  The kernel and the reference end with the same results over the extended reals, on arguments that meet the
  precondition: both end with the two functions of `Args` (Proof/Spec.lean).
-/
module

public import proofs.«01_k».proof.Defs
public import proofs.«01_k».proof.Proof.KernelValue
public import proofs.«01_k».proof.Proof.ReferenceValue
public import proofs.«01_k».proof.Proof.Precondition

@[expose] public section

noncomputable section

namespace K01

open Idealize.ShloMosaic Idealize.SL.Sem

theorem algebraic :
    Cert.algebraic_KernelIdeal_ReferenceIdeal_pre_finite (hKernelIdeal := Cert.KernelIdeal.Gen.facts)
      (hReferenceIdeal := Cert.ReferenceIdeal.Gen.facts) (hPre_finite := PreFinite.facts) := by
  intro m g m' g' hpre hagree
  have hg : ∀ c, (KernelIdeal.args m c).Good := fun c => @PreFinite.good PreFinite.facts (KernelIdeal.args m c) (hpre c)
  have e : ∀ c, RefRun.args m' c = KernelIdeal.args m c := fun c => by
    obtain ⟨h0, h1, h2, h3⟩ := hagree c
    unfold RefRun.args KernelIdeal.args
    congr 1
  refine ⟨fun c => (KernelIdeal.args m c).blk, fun c => (KernelIdeal.args m c).lse, IdealRun.run m g hg, ?_⟩
  refine (θ_run _ _ _).mono (fun r h c => ?_) (RefRun.run m' g' fun c => by rw [e c]; exact hg c)
  obtain ⟨h0, h1, h2⟩ := h c
  rw [e c] at h0 h1
  exact ⟨h0, h1, h2⟩

end K01

end
-- ==== Proof.lean ====
module

public import proofs.«01_k».proof.Defs
public import proofs.«01_k».proof.Proof.FrameKernel
public import proofs.«01_k».proof.Proof.FrameKernelIdeal
public import proofs.«01_k».proof.Proof.Algebraic
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem

theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "ln2" .f32 0x3F317218#32 ((Real.log 2 : ℝ) : EReal) rfl⟩

theorem claim : Cert.Claim :=
  ⟨Cert.Kernel.Gen.facts, Cert.KernelIdeal.Gen.facts, Cert.ReferenceIdeal.Gen.facts, K01.PreFinite.facts,
    fun m ρ _ => K01.Kernel.frame m ρ, fun m ρ _ => K01.KernelIdeal.frame m ρ, fun m ρ _ => K01.KernelIdeal.frame m ρ,
    fun m ρ _ => Cert.ReferenceIdeal.Gen.frame m ρ, fun m ρ _ => Cert.ReferenceIdeal.Gen.frame m ρ,
    preserves, K01.algebraic⟩

end Cert.Proof

end
